-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4)
      ∧ r.2.mem ((c.tc : Thread Cert.Swiglu.nD Cert.Swiglu.τ).loc Cert.Swiglu.main_arg5) = m ((c.tc : Thread Cert.Swiglu.nD Cert.Swiglu.τ).loc Cert.Swiglu.main_arg5)
      ∧ r.2.mem ((c.tc : Thread Cert.Swiglu.nD Cert.Swiglu.τ).loc Cert.Swiglu.main_arg6) = m ((c.tc : Thread Cert.Swiglu.nD Cert.Swiglu.τ).loc Cert.Swiglu.main_arg6)
      ∧ r.2.mem ((c.tc : Thread Cert.Swiglu.nD Cert.Swiglu.τ).loc Cert.Swiglu.main_arg7) = m ((c.tc : Thread Cert.Swiglu.nD Cert.Swiglu.τ).loc Cert.Swiglu.main_arg7)
      ∧ r.2.mem ((c.tc : Thread Cert.Swiglu.nD Cert.Swiglu.τ).loc Cert.Swiglu.main_arg8) = m ((c.tc : Thread Cert.Swiglu.nD Cert.Swiglu.τ).loc Cert.Swiglu.main_arg8)
      ∧ r.2.mem ((c.tc : Thread Cert.Swiglu.nD Cert.Swiglu.τ).loc Cert.Swiglu.main_arg9) = m ((c.tc : Thread Cert.Swiglu.nD Cert.Swiglu.τ).loc Cert.Swiglu.main_arg9))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4)
      ∧ r.2.mem ((c.tc : Thread Cert.SwigluIdeal.nD Cert.SwigluIdeal.τ).loc Cert.SwigluIdeal.main_arg5) = m ((c.tc : Thread Cert.SwigluIdeal.nD Cert.SwigluIdeal.τ).loc Cert.SwigluIdeal.main_arg5)
      ∧ r.2.mem ((c.tc : Thread Cert.SwigluIdeal.nD Cert.SwigluIdeal.τ).loc Cert.SwigluIdeal.main_arg6) = m ((c.tc : Thread Cert.SwigluIdeal.nD Cert.SwigluIdeal.τ).loc Cert.SwigluIdeal.main_arg6)
      ∧ r.2.mem ((c.tc : Thread Cert.SwigluIdeal.nD Cert.SwigluIdeal.τ).loc Cert.SwigluIdeal.main_arg7) = m ((c.tc : Thread Cert.SwigluIdeal.nD Cert.SwigluIdeal.τ).loc Cert.SwigluIdeal.main_arg7)
      ∧ r.2.mem ((c.tc : Thread Cert.SwigluIdeal.nD Cert.SwigluIdeal.τ).loc Cert.SwigluIdeal.main_arg8) = m ((c.tc : Thread Cert.SwigluIdeal.nD Cert.SwigluIdeal.τ).loc Cert.SwigluIdeal.main_arg8)
      ∧ r.2.mem ((c.tc : Thread Cert.SwigluIdeal.nD Cert.SwigluIdeal.τ).loc Cert.SwigluIdeal.main_arg9) = m ((c.tc : Thread Cert.SwigluIdeal.nD Cert.SwigluIdeal.τ).loc Cert.SwigluIdeal.main_arg9))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4)
      ∧ r.2.mem ((c.tc : Thread Cert.SwigluRefIdeal.nD Cert.SwigluRefIdeal.τ).loc Cert.SwigluRefIdeal.main_arg5) = m ((c.tc : Thread Cert.SwigluRefIdeal.nD Cert.SwigluRefIdeal.τ).loc Cert.SwigluRefIdeal.main_arg5)
      ∧ r.2.mem ((c.tc : Thread Cert.SwigluRefIdeal.nD Cert.SwigluRefIdeal.τ).loc Cert.SwigluRefIdeal.main_arg6) = m ((c.tc : Thread Cert.SwigluRefIdeal.nD Cert.SwigluRefIdeal.τ).loc Cert.SwigluRefIdeal.main_arg6)
      ∧ r.2.mem ((c.tc : Thread Cert.SwigluRefIdeal.nD Cert.SwigluRefIdeal.τ).loc Cert.SwigluRefIdeal.main_arg7) = m ((c.tc : Thread Cert.SwigluRefIdeal.nD Cert.SwigluRefIdeal.τ).loc Cert.SwigluRefIdeal.main_arg7)
      ∧ r.2.mem ((c.tc : Thread Cert.SwigluRefIdeal.nD Cert.SwigluRefIdeal.τ).loc Cert.SwigluRefIdeal.main_arg8) = m ((c.tc : Thread Cert.SwigluRefIdeal.nD Cert.SwigluRefIdeal.τ).loc Cert.SwigluRefIdeal.main_arg8)
      ∧ r.2.mem ((c.tc : Thread Cert.SwigluRefIdeal.nD Cert.SwigluRefIdeal.τ).loc Cert.SwigluRefIdeal.main_arg9) = m ((c.tc : Thread Cert.SwigluRefIdeal.nD Cert.SwigluRefIdeal.τ).loc Cert.SwigluRefIdeal.main_arg9))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_v11) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)) →
    ∃ (v0 : (c : Dev Cert.DxIdeal.nD) → Buf (Elt Ideal) ((c.tc : Thread Cert.DxIdeal.nD Cert.DxIdeal.τ).loc Cert.DxIdeal.main_v3_0)) (v1 : (c : Dev Cert.DxIdeal.nD) → Buf (Elt Ideal) ((c.tc : Thread Cert.DxIdeal.nD Cert.DxIdeal.τ).loc Cert.DxIdeal.main_v3_1)) (v2 : (c : Dev Cert.DxIdeal.nD) → Buf (Elt Ideal) ((c.tc : Thread Cert.DxIdeal.nD Cert.DxIdeal.τ).loc Cert.DxIdeal.main_v3_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3_0) = v0 c
          ∧ r.2.mem ((c.tc : Thread Cert.DxIdeal.nD Cert.DxIdeal.τ).loc Cert.DxIdeal.main_v3_1) = v1 c
          ∧ r.2.mem ((c.tc : Thread Cert.DxIdeal.nD Cert.DxIdeal.τ).loc Cert.DxIdeal.main_v3_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v43) = v0 c
          ∧ r.2.mem ((c.tc : Thread Cert.DxRefIdeal.nD Cert.DxRefIdeal.τ).loc Cert.DxRefIdeal.main_v33) = v1 c
          ∧ r.2.mem ((c.tc : Thread Cert.DxRefIdeal.nD Cert.DxRefIdeal.τ).loc Cert.DxRefIdeal.main_v44) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)
      ∧ m' ((c.tc : Thread Cert.SwigluRefIdeal.nD Cert.SwigluRefIdeal.τ).loc Cert.SwigluRefIdeal.main_arg5) = m ((c.tc : Thread Cert.SwigluIdeal.nD Cert.SwigluIdeal.τ).loc Cert.SwigluIdeal.main_arg5)
      ∧ m' ((c.tc : Thread Cert.SwigluRefIdeal.nD Cert.SwigluRefIdeal.τ).loc Cert.SwigluRefIdeal.main_arg6) = m ((c.tc : Thread Cert.SwigluIdeal.nD Cert.SwigluIdeal.τ).loc Cert.SwigluIdeal.main_arg6)
      ∧ m' ((c.tc : Thread Cert.SwigluRefIdeal.nD Cert.SwigluRefIdeal.τ).loc Cert.SwigluRefIdeal.main_arg7) = m ((c.tc : Thread Cert.SwigluIdeal.nD Cert.SwigluIdeal.τ).loc Cert.SwigluIdeal.main_arg7)
      ∧ m' ((c.tc : Thread Cert.SwigluRefIdeal.nD Cert.SwigluRefIdeal.τ).loc Cert.SwigluRefIdeal.main_arg8) = m ((c.tc : Thread Cert.SwigluIdeal.nD Cert.SwigluIdeal.τ).loc Cert.SwigluIdeal.main_arg8)
      ∧ m' ((c.tc : Thread Cert.SwigluRefIdeal.nD Cert.SwigluRefIdeal.τ).loc Cert.SwigluRefIdeal.main_arg9) = m ((c.tc : Thread Cert.SwigluIdeal.nD Cert.SwigluIdeal.τ).loc Cert.SwigluIdeal.main_arg9)) →
    ∃ (v0 : (c : Dev Cert.SwigluIdeal.nD) → Buf (Elt Ideal) ((c.tc : Thread Cert.SwigluIdeal.nD Cert.SwigluIdeal.τ).loc Cert.SwigluIdeal.main_v19_0)) (v1 : (c : Dev Cert.SwigluIdeal.nD) → Buf (Elt Ideal) ((c.tc : Thread Cert.SwigluIdeal.nD Cert.SwigluIdeal.τ).loc Cert.SwigluIdeal.main_v19_1)) (v2 : (c : Dev Cert.SwigluIdeal.nD) → Buf (Elt Ideal) ((c.tc : Thread Cert.SwigluIdeal.nD Cert.SwigluIdeal.τ).loc Cert.SwigluIdeal.main_v19_2)) (v3 : (c : Dev Cert.SwigluIdeal.nD) → Buf (Elt Ideal) ((c.tc : Thread Cert.SwigluIdeal.nD Cert.SwigluIdeal.τ).loc Cert.SwigluIdeal.main_v19_3)) (v4 : (c : Dev Cert.SwigluIdeal.nD) → Buf (Elt Ideal) ((c.tc : Thread Cert.SwigluIdeal.nD Cert.SwigluIdeal.τ).loc Cert.SwigluIdeal.main_v19_4)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v19_0) = v0 c
          ∧ r.2.mem ((c.tc : Thread Cert.SwigluIdeal.nD Cert.SwigluIdeal.τ).loc Cert.SwigluIdeal.main_v19_1) = v1 c
          ∧ r.2.mem ((c.tc : Thread Cert.SwigluIdeal.nD Cert.SwigluIdeal.τ).loc Cert.SwigluIdeal.main_v19_2) = v2 c
          ∧ r.2.mem ((c.tc : Thread Cert.SwigluIdeal.nD Cert.SwigluIdeal.τ).loc Cert.SwigluIdeal.main_v19_3) = v3 c
          ∧ r.2.mem ((c.tc : Thread Cert.SwigluIdeal.nD Cert.SwigluIdeal.τ).loc Cert.SwigluIdeal.main_v19_4) = v4 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4)
          ∧ r.2.mem ((c.tc : Thread Cert.SwigluIdeal.nD Cert.SwigluIdeal.τ).loc Cert.SwigluIdeal.main_arg5) = m ((c.tc : Thread Cert.SwigluIdeal.nD Cert.SwigluIdeal.τ).loc Cert.SwigluIdeal.main_arg5)
          ∧ r.2.mem ((c.tc : Thread Cert.SwigluIdeal.nD Cert.SwigluIdeal.τ).loc Cert.SwigluIdeal.main_arg6) = m ((c.tc : Thread Cert.SwigluIdeal.nD Cert.SwigluIdeal.τ).loc Cert.SwigluIdeal.main_arg6)
          ∧ r.2.mem ((c.tc : Thread Cert.SwigluIdeal.nD Cert.SwigluIdeal.τ).loc Cert.SwigluIdeal.main_arg7) = m ((c.tc : Thread Cert.SwigluIdeal.nD Cert.SwigluIdeal.τ).loc Cert.SwigluIdeal.main_arg7)
          ∧ r.2.mem ((c.tc : Thread Cert.SwigluIdeal.nD Cert.SwigluIdeal.τ).loc Cert.SwigluIdeal.main_arg8) = m ((c.tc : Thread Cert.SwigluIdeal.nD Cert.SwigluIdeal.τ).loc Cert.SwigluIdeal.main_arg8)
          ∧ r.2.mem ((c.tc : Thread Cert.SwigluIdeal.nD Cert.SwigluIdeal.τ).loc Cert.SwigluIdeal.main_arg9) = m ((c.tc : Thread Cert.SwigluIdeal.nD Cert.SwigluIdeal.τ).loc Cert.SwigluIdeal.main_arg9))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v24) = v0 c
          ∧ r.2.mem ((c.tc : Thread Cert.SwigluRefIdeal.nD Cert.SwigluRefIdeal.τ).loc Cert.SwigluRefIdeal.main_v33) = v1 c
          ∧ r.2.mem ((c.tc : Thread Cert.SwigluRefIdeal.nD Cert.SwigluRefIdeal.τ).loc Cert.SwigluRefIdeal.main_v36) = v2 c
          ∧ r.2.mem ((c.tc : Thread Cert.SwigluRefIdeal.nD Cert.SwigluRefIdeal.τ).loc Cert.SwigluRefIdeal.main_v48) = v3 c
          ∧ r.2.mem ((c.tc : Thread Cert.SwigluRefIdeal.nD Cert.SwigluRefIdeal.τ).loc Cert.SwigluRefIdeal.main_v59) = v4 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4)
          ∧ r.2.mem ((c.tc : Thread Cert.SwigluRefIdeal.nD Cert.SwigluRefIdeal.τ).loc Cert.SwigluRefIdeal.main_arg5) = m' ((c.tc : Thread Cert.SwigluRefIdeal.nD Cert.SwigluRefIdeal.τ).loc Cert.SwigluRefIdeal.main_arg5)
          ∧ r.2.mem ((c.tc : Thread Cert.SwigluRefIdeal.nD Cert.SwigluRefIdeal.τ).loc Cert.SwigluRefIdeal.main_arg6) = m' ((c.tc : Thread Cert.SwigluRefIdeal.nD Cert.SwigluRefIdeal.τ).loc Cert.SwigluRefIdeal.main_arg6)
          ∧ r.2.mem ((c.tc : Thread Cert.SwigluRefIdeal.nD Cert.SwigluRefIdeal.τ).loc Cert.SwigluRefIdeal.main_arg7) = m' ((c.tc : Thread Cert.SwigluRefIdeal.nD Cert.SwigluRefIdeal.τ).loc Cert.SwigluRefIdeal.main_arg7)
          ∧ r.2.mem ((c.tc : Thread Cert.SwigluRefIdeal.nD Cert.SwigluRefIdeal.τ).loc Cert.SwigluRefIdeal.main_arg8) = m' ((c.tc : Thread Cert.SwigluRefIdeal.nD Cert.SwigluRefIdeal.τ).loc Cert.SwigluRefIdeal.main_arg8)
          ∧ r.2.mem ((c.tc : Thread Cert.SwigluRefIdeal.nD Cert.SwigluRefIdeal.τ).loc Cert.SwigluRefIdeal.main_arg9) = m' ((c.tc : Thread Cert.SwigluRefIdeal.nD Cert.SwigluRefIdeal.τ).loc Cert.SwigluRefIdeal.main_arg9))

def Claim : Prop :=
  ∃ (hDown : Cert.Down.Facts) (hDownIdeal : Cert.DownIdeal.Facts) (hDownRefIdeal : Cert.DownRefIdeal.Facts) (hDx : Cert.Dx.Facts) (hDxIdeal : Cert.DxIdeal.Facts) (hDxRefIdeal : Cert.DxRefIdeal.Facts) (hSwiglu : Cert.Swiglu.Facts) (hSwigluIdeal : Cert.SwigluIdeal.Facts) (hSwigluRefIdeal : Cert.SwigluRefIdeal.Facts),
    quiescent_Down (hDown := hDown)
    ∧ quiescent_DownIdeal (hDownIdeal := hDownIdeal)
    ∧ quiescent_DownRefIdeal (hDownRefIdeal := hDownRefIdeal)
    ∧ quiescent_Dx (hDx := hDx)
    ∧ quiescent_DxIdeal (hDxIdeal := hDxIdeal)
    ∧ quiescent_DxRefIdeal (hDxRefIdeal := hDxRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ preserves_Down_DownIdeal
    ∧ algebraic_DownIdeal_DownRefIdeal (hDownIdeal := hDownIdeal) (hDownRefIdeal := hDownRefIdeal)
    ∧ preserves_Dx_DxIdeal
    ∧ algebraic_DxIdeal_DxRefIdeal (hDxIdeal := hDxIdeal) (hDxRefIdeal := hDxRefIdeal)
    ∧ preserves_Swiglu_SwigluIdeal
    ∧ algebraic_SwigluIdeal_SwigluRefIdeal (hSwigluIdeal := hSwigluIdeal) (hSwigluRefIdeal := hSwigluRefIdeal)
-- ==== Down.lean ====
abbrev S12288x18944 : Shape := ⟨2, ![12288, 18944]⟩
abbrev S18944x3584 : Shape := ⟨2, ![18944, 3584]⟩
abbrev S12288x128 : Shape := ⟨2, ![12288, 128]⟩
abbrev S3584x32 : Shape := ⟨2, ![3584, 32]⟩
abbrev S12288x3584 : Shape := ⟨2, ![12288, 3584]⟩
abbrev S_ : Shape := ⟨0, ![]⟩
abbrev S32x3584 : Shape := ⟨2, ![32, 3584]⟩
abbrev S128x3584 : Shape := ⟨2, ![128, 3584]⟩
abbrev S512x512 : Shape := ⟨2, ![512, 512]⟩
abbrev S512x3584 : Shape := ⟨2, ![512, 3584]⟩
abbrev S512x128 : Shape := ⟨2, ![512, 128]⟩
abbrev S128x128 : Shape := ⟨2, ![128, 128]⟩
abbrev S128x512 : Shape := ⟨2, ![128, 512]⟩
abbrev S32x512 : Shape := ⟨2, ![32, 512]⟩

abbrev nBuf : Space → Nat
  | .hbm => 15
  | .vmem => 15
  | .smem => 0
  | _ => 0

abbrev bufTy : (tb : Table) → Fin (tcTables nBuf tb) → BufTy
  | .hbm, ⟨0, _⟩ => ⟨S12288x18944, .bf16⟩
  | .hbm, ⟨1, _⟩ => ⟨S18944x3584, .bf16⟩
  | .hbm, ⟨2, _⟩ => ⟨S12288x128, .bf16⟩
  | .hbm, ⟨3, _⟩ => ⟨S3584x32, .bf16⟩
  | .hbm, ⟨4, _⟩ => ⟨S12288x3584, .bf16⟩
  | .hbm, ⟨5, _⟩ => ⟨S12288x3584, .bf16⟩
  | .hbm, ⟨6, _⟩ => ⟨S_, .bf16⟩
  | .hbm, ⟨7, _⟩ => ⟨S3584x32, .bf16⟩
  | .hbm, ⟨8, _⟩ => ⟨S3584x32, .bf16⟩
  | .hbm, ⟨9, _⟩ => ⟨S32x3584, .bf16⟩
  | .hbm, ⟨10, _⟩ => ⟨S_, .i32⟩
  | .hbm, ⟨11, _⟩ => ⟨S_, .bf16⟩
  | .hbm, ⟨12, _⟩ => ⟨S128x3584, .bf16⟩
  | .hbm, ⟨13, _⟩ => ⟨S12288x3584, .bf16⟩
  | .hbm, ⟨14, _⟩ => ⟨S32x3584, .f32⟩
  | .local _ .vmem, ⟨0, _⟩ => ⟨S512x512, .bf16⟩
  | .local _ .vmem, ⟨1, _⟩ => ⟨S512x512, .bf16⟩
  | .local _ .vmem, ⟨2, _⟩ => ⟨S512x3584, .bf16⟩
  | .local _ .vmem, ⟨3, _⟩ => ⟨S512x3584, .bf16⟩
  | .local _ .vmem, ⟨4, _⟩ => ⟨S512x128, .bf16⟩
  | .local _ .vmem, ⟨5, _⟩ => ⟨S512x128, .bf16⟩
  | .local _ .vmem, ⟨6, _⟩ => ⟨S128x3584, .bf16⟩
  | .local _ .vmem, ⟨7, _⟩ => ⟨S512x3584, .bf16⟩
  | .local _ .vmem, ⟨8, _⟩ => ⟨S512x3584, .bf16⟩
  | .local _ .vmem, ⟨9, _⟩ => ⟨S512x3584, .bf16⟩
  | .local _ .vmem, ⟨10, _⟩ => ⟨S512x3584, .bf16⟩
  | .local _ .vmem, ⟨11, _⟩ => ⟨S512x3584, .bf16⟩
  | .local _ .vmem, ⟨12, _⟩ => ⟨S512x3584, .bf16⟩
  | .local _ .vmem, ⟨13, _⟩ => ⟨S32x3584, .f32⟩
  | .local _ .vmem, ⟨14, _⟩ => ⟨S512x3584, .f32⟩
  | _, _ => ⟨S12288x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![24, 37], ![false, false]⟩

def k0_cond2 (i : grid0.Coords) : BitVec 1 :=
  let arg1 : BitVec 32 := BitVec.ofNat 32 (i 1).val
  let c36_i32 : BitVec 32 := 36#32
  let v11 : BitVec 1 := Scalar.cmpi .eq arg1 c36_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_11 : BitVec 32 := 0#32
  let c4_i32 : BitVec 32 := 4#32
  let v17 : BitVec 32 := Scalar.addi c0_i32_11 c4_i32
  let c1_i32 : BitVec 32 := 1#32
  ⟨c0_i32_11, v17, c1_i32⟩
def k0_mult1 (k0_t1 : Fin k0_t1_loop.trips) : BitVec 32 :=
  let c0_i32_24 : BitVec 32 := 0#32
  let c0_i32_11 : BitVec 32 := 0#32
  let c1_i32 : BitVec 32 := 1#32
  let arg11 : BitVec 32 := Scf.iv c0_i32_11 c1_i32 k0_t1
  let c1_i32_23 : BitVec 32 := 1#32
  let v31 : BitVec 32 := Scalar.muli arg11 c1_i32_23
  let v32 : BitVec 32 := Scalar.addi c0_i32_24 v31
  let c128_i32 : BitVec 32 := 128#32
  let v33 : BitVec 32 := Scalar.muli v32 c128_i32
  v33
def k0_off1 (k0_t1 : Fin k0_t1_loop.trips) : Fin 2 → Nat :=
  let c0_i32_24 : BitVec 32 := 0#32
  let c0_i32_11 : BitVec 32 := 0#32
  let c1_i32 : BitVec 32 := 1#32
  let arg11 : BitVec 32 := Scf.iv c0_i32_11 c1_i32 k0_t1
  let c1_i32_23 : BitVec 32 := 1#32
  let v31 : BitVec 32 := Scalar.muli arg11 c1_i32_23
  let v32 : BitVec 32 := Scalar.addi c0_i32_24 v31
  let c128_i32 : BitVec 32 := 128#32
  let v33 : BitVec 32 := Scalar.muli v32 c128_i32
  let v34 : BitVec 32 := v33
  let v35 : Index := Scalar.indexCast v34
  let c0_25 : Index := 0#32
  ![v35.toNat, 0]
def k0_off2 (k0_t1 : Fin k0_t1_loop.trips) : Fin 2 → Nat :=
  let c0_i32_24 : BitVec 32 := 0#32
  let c0_i32_11 : BitVec 32 := 0#32
  let c1_i32 : BitVec 32 := 1#32
  let arg11 : BitVec 32 := Scf.iv c0_i32_11 c1_i32 k0_t1
  let c1_i32_23 : BitVec 32 := 1#32
  let v31 : BitVec 32 := Scalar.muli arg11 c1_i32_23
  let v32 : BitVec 32 := Scalar.addi c0_i32_24 v31
  let c128_i32 : BitVec 32 := 128#32
  let v33 : BitVec 32 := Scalar.muli v32 c128_i32
  let v34 : BitVec 32 := v33
  let v37 : Index := Scalar.indexCast v34
  let c0_26 : Index := 0#32
  ![v37.toNat, 0]
def k0_cond3 (i : grid0.Coords) : BitVec 1 :=
  let arg0 : BitVec 32 := BitVec.ofNat 32 (i 0).val
  let c0_i32_9 : BitVec 32 := 0#32
  let v14 : BitVec 1 := Scalar.cmpi .eq arg0 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S32x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DownRefIdeal.lean ====
abbrev S12288x18944 : Shape := ⟨2, ![12288, 18944]⟩
abbrev S18944x3584 : Shape := ⟨2, ![18944, 3584]⟩
abbrev S12288x128 : Shape := ⟨2, ![12288, 128]⟩
abbrev S3584x32 : Shape := ⟨2, ![3584, 32]⟩
abbrev S12288x3584 : Shape := ⟨2, ![12288, 3584]⟩
abbrev S12288x32 : Shape := ⟨2, ![12288, 32]⟩
abbrev S_ : Shape := ⟨0, ![]⟩
abbrev S32x3584 : Shape := ⟨2, ![32, 3584]⟩

abbrev nBuf : Space → Nat
  | .hbm => 20
  | .vmem => 0
  | .smem => 0
  | _ => 0

abbrev bufTy : (tb : Table) → Fin (tcTables nBuf tb) → BufTy
  | .hbm, ⟨0, _⟩ => ⟨S12288x18944, .bf16⟩
  | .hbm, ⟨1, _⟩ => ⟨S18944x3584, .bf16⟩
  | .hbm, ⟨2, _⟩ => ⟨S12288x128, .bf16⟩
  | .hbm, ⟨3, _⟩ => ⟨S3584x32, .bf16⟩
  | .hbm, ⟨4, _⟩ => ⟨S12288x3584, .bf16⟩
  | .hbm, ⟨5, _⟩ => ⟨S12288x3584, .bf16⟩
  | .hbm, ⟨6, _⟩ => ⟨S12288x32, .bf16⟩
  | .hbm, ⟨7, _⟩ => ⟨S12288x3584, .f32⟩
  | .hbm, ⟨8, _⟩ => ⟨S12288x3584, .f32⟩
  | .hbm, ⟨9, _⟩ => ⟨S_, .f32⟩
  | .hbm, ⟨10, _⟩ => ⟨S12288x3584, .f32⟩
  | .hbm, ⟨11, _⟩ => ⟨S12288x3584, .f32⟩
  | .hbm, ⟨12, _⟩ => ⟨S12288x3584, .f32⟩
  | .hbm, ⟨13, _⟩ => ⟨S12288x3584, .f32⟩
  | .hbm, ⟨14, _⟩ => ⟨S12288x3584, .f32⟩
  | .hbm, ⟨15, _⟩ => ⟨S12288x3584, .bf16⟩
  | .hbm, ⟨16, _⟩ => ⟨S32x3584, .f32⟩
  | .hbm, ⟨17, _⟩ => ⟨S_, .f32⟩
  | .hbm, ⟨18, _⟩ => ⟨S32x3584, .f32⟩
  | .hbm, ⟨19, _⟩ => ⟨S32x3584, .f32⟩
  | _, _ => ⟨S12288x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Dx.lean ====
abbrev S12288x18944 : Shape := ⟨2, ![12288, 18944]⟩
abbrev S3584x18944 : Shape := ⟨2, ![3584, 18944]⟩
abbrev S12288x128 : Shape := ⟨2, ![12288, 128]⟩
abbrev S32x3584 : Shape := ⟨2, ![32, 3584]⟩
abbrev S12288x3584 : Shape := ⟨2, ![12288, 3584]⟩
abbrev S3584 : Shape := ⟨1, ![3584]⟩
abbrev S64x3584 : Shape := ⟨2, ![64, 3584]⟩
abbrev S_ : Shape := ⟨0, ![]⟩
abbrev S128x3584 : Shape := ⟨2, ![128, 3584]⟩
abbrev S1x3584 : Shape := ⟨2, ![1, 3584]⟩
abbrev S12288x1 : Shape := ⟨2, ![12288, 1]⟩
abbrev S512x512 : Shape := ⟨2, ![512, 512]⟩
abbrev S3584x512 : Shape := ⟨2, ![3584, 512]⟩
abbrev S512x128 : Shape := ⟨2, ![512, 128]⟩
abbrev S512x3584 : Shape := ⟨2, ![512, 3584]⟩
abbrev S512x1 : Shape := ⟨2, ![512, 1]⟩
abbrev S128x128 : Shape := ⟨2, ![128, 128]⟩
abbrev S128 : Shape := ⟨1, ![128]⟩
abbrev S128x1 : Shape := ⟨2, ![128, 1]⟩
abbrev S64x128 : Shape := ⟨2, ![64, 128]⟩

abbrev nBuf : Space → Nat
  | .hbm => 18
  | .vmem => 22
  | .smem => 0
  | _ => 0

abbrev bufTy : (tb : Table) → Fin (tcTables nBuf tb) → BufTy
  | .hbm, ⟨0, _⟩ => ⟨S12288x18944, .bf16⟩
  | .hbm, ⟨1, _⟩ => ⟨S12288x18944, .bf16⟩
  | .hbm, ⟨2, _⟩ => ⟨S3584x18944, .bf16⟩
  | .hbm, ⟨3, _⟩ => ⟨S3584x18944, .bf16⟩
  | .hbm, ⟨4, _⟩ => ⟨S12288x128, .bf16⟩
  | .hbm, ⟨5, _⟩ => ⟨S32x3584, .bf16⟩
  | .hbm, ⟨6, _⟩ => ⟨S32x3584, .bf16⟩
  | .hbm, ⟨7, _⟩ => ⟨S12288x3584, .bf16⟩
  | .hbm, ⟨8, _⟩ => ⟨S12288x3584, .bf16⟩
  | .hbm, ⟨9, _⟩ => ⟨S3584, .f32⟩
  | .hbm, ⟨10, _⟩ => ⟨S64x3584, .bf16⟩
  | .hbm, ⟨11, _⟩ => ⟨S_, .i32⟩
  | .hbm, ⟨12, _⟩ => ⟨S_, .bf16⟩
  | .hbm, ⟨13, _⟩ => ⟨S128x3584, .bf16⟩
  | .hbm, ⟨14, _⟩ => ⟨S1x3584, .f32⟩
  | .hbm, ⟨15, _⟩ => ⟨S12288x3584, .bf16⟩
  | .hbm, ⟨16, _⟩ => ⟨S12288x1, .f32⟩
  | .hbm, ⟨17, _⟩ => ⟨S64x3584, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S3584x512, .bf16⟩
  | .local _ .vmem, ⟨5, _⟩ => ⟨S3584x512, .bf16⟩
  | .local _ .vmem, ⟨6, _⟩ => ⟨S3584x512, .bf16⟩
  | .local _ .vmem, ⟨7, _⟩ => ⟨S3584x512, .bf16⟩
  | .local _ .vmem, ⟨8, _⟩ => ⟨S512x128, .bf16⟩
  | .local _ .vmem, ⟨9, _⟩ => ⟨S512x128, .bf16⟩
  | .local _ .vmem, ⟨10, _⟩ => ⟨S128x3584, .bf16⟩
  | .local _ .vmem, ⟨11, _⟩ => ⟨S512x3584, .bf16⟩
  | .local _ .vmem, ⟨12, _⟩ => ⟨S512x3584, .bf16⟩
  | .local _ .vmem, ⟨13, _⟩ => ⟨S512x3584, .bf16⟩
  | .local _ .vmem, ⟨14, _⟩ => ⟨S512x3584, .bf16⟩
  | .local _ .vmem, ⟨15, _⟩ => ⟨S1x3584, .f32⟩
  | .local _ .vmem, ⟨16, _⟩ => ⟨S512x3584, .bf16⟩
  | .local _ .vmem, ⟨17, _⟩ => ⟨S512x3584, .bf16⟩
  | .local _ .vmem, ⟨18, _⟩ => ⟨S512x1, .f32⟩
  | .local _ .vmem, ⟨19, _⟩ => ⟨S512x1, .f32⟩
  | .local _ .vmem, ⟨20, _⟩ => ⟨S64x3584, .f32⟩
  | .local _ .vmem, ⟨21, _⟩ => ⟨S512x3584, .f32⟩
  | _, _ => ⟨S12288x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![24, 37], ![false, false]⟩

def k0_cond2 (i : grid0.Coords) : BitVec 1 :=
  let arg1 : BitVec 32 := BitVec.ofNat 32 (i 1).val
  let c36_i32 : BitVec 32 := 36#32
  let v15 : BitVec 1 := Scalar.cmpi .eq arg1 c36_i32
  let v16 : BitVec 32 := Scalar.extui v15
  let c0_i32_13 : BitVec 32 := 0#32
  let v17 : BitVec 1 := Scalar.cmpi .ne v16 c0_i32_13
  v17

@[reducible] def k0_t1_loop : Scf.Loop 32 :=
  let c0_i32_16 : BitVec 32 := 0#32
  let c4_i32 : BitVec 32 := 4#32
  let v21 : BitVec 32 := Scalar.addi c0_i32_16 c4_i32
  let c1_i32 : BitVec 32 := 1#32
  ⟨c0_i32_16, v21, c1_i32⟩
def k0_mult1 (k0_t1 : Fin k0_t1_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t1
  let c1_i32_18 : BitVec 32 := 1#32
  let v22 : BitVec 32 := Scalar.muli arg15 c1_i32_18
  let v23 : BitVec 32 := Scalar.addi c0_i32_19 v22
  let c128_i32 : BitVec 32 := 128#32
  let v24 : BitVec 32 := Scalar.muli v23 c128_i32
  v24
def k0_off1 (k0_t1 : Fin k0_t1_loop.trips) : Fin 2 → Nat :=
  let c0_i32_19 : BitVec 32 := 0#32
  let c0_i32_16 : BitVec 32 := 0#32
  let c1_i32 : BitVec 32 := 1#32
  let arg15 : BitVec 32 := Scf.iv c0_i32_16 c1_i32 k0_t1
  let c1_i32_18 : BitVec 32 := 1#32
  let v22 : BitVec 32 := Scalar.muli arg15 c1_i32_18
  let v23 : BitVec 32 := Scalar.addi c0_i32_19 v22
  let c128_i32 : BitVec 32 := 128#32
  let v24 : BitVec 32 := Scalar.muli v23 c128_i32
  let v25 : BitVec 32 := v24
  let v26 : Index := Scalar.indexCast v25
  let c0_20 : Index := 0#32
  ![v26.toNat, 0]
def k0_off2 (k0_t1 : Fin k0_t1_loop.trips) : Fin 2 → Nat :=
  let c0_i32_19 : BitVec 32 := 0#32
  let c0_i32_16 : BitVec 32 := 0#32
  let c1_i32 : BitVec 32 := 1#32
  let arg15 : BitVec 32 := Scf.iv c0_i32_16 c1_i32 k0_t1
  let c1_i32_18 : BitVec 32 := 1#32
  let v22 : BitVec 32 := Scalar.muli arg15 c1_i32_18
  let v23 : BitVec 32 := Scalar.addi c0_i32_19 v22
  let c128_i32 : BitVec 32 := 128#32
  let v24 : BitVec 32 := Scalar.muli v23 c128_i32
  let v25 : BitVec 32 := v24
  let v28 : Index := Scalar.indexCast v25
  let c0_21 : Index := 0#32
  ![v28.toNat, 0]
def k0_off3 (k0_t1 : Fin k0_t1_loop.trips) : Fin 2 → Nat :=
  let c0_i32_19 : BitVec 32 := 0#32
  let c0_i32_16 : BitVec 32 := 0#32
  let c1_i32 : BitVec 32 := 1#32
  let arg15 : BitVec 32 := Scf.iv c0_i32_16 c1_i32 k0_t1
  let c1_i32_18 : BitVec 32 := 1#32
  let v22 : BitVec 32 := Scalar.muli arg15 c1_i32_18
  let v23 : BitVec 32 := Scalar.addi c0_i32_19 v22
  let c128_i32 : BitVec 32 := 128#32
  let v24 : BitVec 32 := Scalar.muli v23 c128_i32
  let v25 : BitVec 32 := v24
  let v75 : Index := Scalar.indexCast v25
  let c0_38 : Index := 0#32
  ![v75.toNat, 0]
def k0_cond3 (i : grid0.Coords) : BitVec 1 :=
  let arg0 : BitVec 32 := BitVec.ofNat 32 (i 0).val
  let c0_i32_14 : BitVec 32 := 0#32
  let v18 : BitVec 1 := Scalar.cmpi .eq arg0 c0_i32_14
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3584x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S64x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== DxRefIdeal.lean ====
abbrev S12288x18944 : Shape := ⟨2, ![12288, 18944]⟩
abbrev S3584x18944 : Shape := ⟨2, ![3584, 18944]⟩
abbrev S12288x128 : Shape := ⟨2, ![12288, 128]⟩
abbrev S32x3584 : Shape := ⟨2, ![32, 3584]⟩
abbrev S12288x3584 : Shape := ⟨2, ![12288, 3584]⟩
abbrev S3584 : Shape := ⟨1, ![3584]⟩
abbrev S_ : Shape := ⟨0, ![]⟩
abbrev S12288 : Shape := ⟨1, ![12288]⟩
abbrev S12288x1 : Shape := ⟨2, ![12288, 1]⟩
abbrev S1x3584 : Shape := ⟨2, ![1, 3584]⟩
abbrev S12288x32 : Shape := ⟨2, ![12288, 32]⟩
abbrev S64x3584 : Shape := ⟨2, ![64, 3584]⟩

abbrev nBuf : Space → Nat
  | .hbm => 61
  | .vmem => 0
  | .smem => 0
  | _ => 0

abbrev bufTy : (tb : Table) → Fin (tcTables nBuf tb) → BufTy
  | .hbm, ⟨0, _⟩ => ⟨S12288x18944, .bf16⟩
  | .hbm, ⟨1, _⟩ => ⟨S12288x18944, .bf16⟩
  | .hbm, ⟨2, _⟩ => ⟨S3584x18944, .bf16⟩
  | .hbm, ⟨3, _⟩ => ⟨S3584x18944, .bf16⟩
  | .hbm, ⟨4, _⟩ => ⟨S12288x128, .bf16⟩
  | .hbm, ⟨5, _⟩ => ⟨S32x3584, .bf16⟩
  | .hbm, ⟨6, _⟩ => ⟨S32x3584, .bf16⟩
  | .hbm, ⟨7, _⟩ => ⟨S12288x3584, .bf16⟩
  | .hbm, ⟨8, _⟩ => ⟨S12288x3584, .bf16⟩
  | .hbm, ⟨9, _⟩ => ⟨S3584, .f32⟩
  | .hbm, ⟨10, _⟩ => ⟨S12288x3584, .f32⟩
  | .hbm, ⟨11, _⟩ => ⟨S12288x3584, .f32⟩
  | .hbm, ⟨12, _⟩ => ⟨S_, .f32⟩
  | .hbm, ⟨13, _⟩ => ⟨S12288, .f32⟩
  | .hbm, ⟨14, _⟩ => ⟨S12288x1, .f32⟩
  | .hbm, ⟨15, _⟩ => ⟨S_, .f32⟩
  | .hbm, ⟨16, _⟩ => ⟨S12288x1, .f32⟩
  | .hbm, ⟨17, _⟩ => ⟨S12288x1, .f32⟩
  | .hbm, ⟨18, _⟩ => ⟨S_, .f32⟩
  | .hbm, ⟨19, _⟩ => ⟨S12288x1, .f32⟩
  | .hbm, ⟨20, _⟩ => ⟨S12288x1, .f32⟩
  | .hbm, ⟨21, _⟩ => ⟨S12288x1, .f32⟩
  | .hbm, ⟨22, _⟩ => ⟨S_, .f32⟩
  | .hbm, ⟨23, _⟩ => ⟨S12288x1, .f32⟩
  | .hbm, ⟨24, _⟩ => ⟨S12288x1, .f32⟩
  | .hbm, ⟨25, _⟩ => ⟨S12288x3584, .f32⟩
  | .hbm, ⟨26, _⟩ => ⟨S12288x3584, .f32⟩
  | .hbm, ⟨27, _⟩ => ⟨S1x3584, .f32⟩
  | .hbm, ⟨28, _⟩ => ⟨S12288x3584, .f32⟩
  | .hbm, ⟨29, _⟩ => ⟨S12288x3584, .f32⟩
  | .hbm, ⟨30, _⟩ => ⟨S12288x3584, .bf16⟩
  | .hbm, ⟨31, _⟩ => ⟨S12288x32, .bf16⟩
  | .hbm, ⟨32, _⟩ => ⟨S12288x32, .bf16⟩
  | .hbm, ⟨33, _⟩ => ⟨S12288x3584, .f32⟩
  | .hbm, ⟨34, _⟩ => ⟨S12288x3584, .f32⟩
  | .hbm, ⟨35, _⟩ => ⟨S12288x3584, .f32⟩
  | .hbm, ⟨36, _⟩ => ⟨S12288x3584, .f32⟩
  | .hbm, ⟨37, _⟩ => ⟨S12288x3584, .f32⟩
  | .hbm, ⟨38, _⟩ => ⟨S12288x3584, .f32⟩
  | .hbm, ⟨39, _⟩ => ⟨S12288x3584, .f32⟩
  | .hbm, ⟨40, _⟩ => ⟨S1x3584, .f32⟩
  | .hbm, ⟨41, _⟩ => ⟨S12288x3584, .f32⟩
  | .hbm, ⟨42, _⟩ => ⟨S12288x3584, .f32⟩
  | .hbm, ⟨43, _⟩ => ⟨S12288x3584, .f32⟩
  | .hbm, ⟨44, _⟩ => ⟨S_, .f32⟩
  | .hbm, ⟨45, _⟩ => ⟨S12288, .f32⟩
  | .hbm, ⟨46, _⟩ => ⟨S12288x1, .f32⟩
  | .hbm, ⟨47, _⟩ => ⟨S_, .f32⟩
  | .hbm, ⟨48, _⟩ => ⟨S12288x1, .f32⟩
  | .hbm, ⟨49, _⟩ => ⟨S12288x1, .f32⟩
  | .hbm, ⟨50, _⟩ => ⟨S12288x3584, .f32⟩
  | .hbm, ⟨51, _⟩ => ⟨S12288x3584, .f32⟩
  | .hbm, ⟨52, _⟩ => ⟨S12288x3584, .f32⟩
  | .hbm, ⟨53, _⟩ => ⟨S12288x3584, .f32⟩
  | .hbm, ⟨54, _⟩ => ⟨S12288x3584, .f32⟩
  | .hbm, ⟨55, _⟩ => ⟨S32x3584, .f32⟩
  | .hbm, ⟨56, _⟩ => ⟨S32x3584, .f32⟩
  | .hbm, ⟨57, _⟩ => ⟨S12288x3584, .f32⟩
  | .hbm, ⟨58, _⟩ => ⟨S12288x3584, .f32⟩
  | .hbm, ⟨59, _⟩ => ⟨S12288x3584, .bf16⟩
  | .hbm, ⟨60, _⟩ => ⟨S64x3584, .f32⟩
  | _, _ => ⟨S12288x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Swiglu.lean ====
abbrev S12288x3584 : Shape := ⟨2, ![12288, 3584]⟩
abbrev S12288x128 : Shape := ⟨2, ![12288, 128]⟩
abbrev S128x12288 : Shape := ⟨2, ![128, 12288]⟩
abbrev S3584x18944 : Shape := ⟨2, ![3584, 18944]⟩
abbrev S18944x3584 : Shape := ⟨2, ![18944, 3584]⟩
abbrev S18944x32 : Shape := ⟨2, ![18944, 32]⟩
abbrev S32x18944 : Shape := ⟨2, ![32, 18944]⟩
abbrev S_ : Shape := ⟨0, ![]⟩
abbrev S18944x128 : Shape := ⟨2, ![18944, 128]⟩
abbrev S1x18944x128 : Shape := ⟨3, ![1, 18944, 128]⟩
abbrev S3x18944x128 : Shape := ⟨3, ![3, 18944, 128]⟩
abbrev S128x18944 : Shape := ⟨2, ![128, 18944]⟩
abbrev S12288x18944 : Shape := ⟨2, ![12288, 18944]⟩
abbrev S96x18944 : Shape := ⟨2, ![96, 18944]⟩
abbrev S1024x3584 : Shape := ⟨2, ![1024, 3584]⟩
abbrev S1024x128 : Shape := ⟨2, ![1024, 128]⟩
abbrev S128x1024 : Shape := ⟨2, ![128, 1024]⟩
abbrev S3584x256 : Shape := ⟨2, ![3584, 256]⟩
abbrev S256x3584 : Shape := ⟨2, ![256, 3584]⟩
abbrev S256x128 : Shape := ⟨2, ![256, 128]⟩
abbrev S128x256 : Shape := ⟨2, ![128, 256]⟩
abbrev S3x256x128 : Shape := ⟨3, ![3, 256, 128]⟩
abbrev S1024x256 : Shape := ⟨2, ![1024, 256]⟩
abbrev S1x256x128 : Shape := ⟨3, ![1, 256, 128]⟩
abbrev S96x256 : Shape := ⟨2, ![96, 256]⟩
abbrev S32x256 : Shape := ⟨2, ![32, 256]⟩
abbrev S32x1024 : Shape := ⟨2, ![32, 1024]⟩

abbrev nBuf : Space → Nat
  | .hbm => 50
  | .vmem => 32
  | .smem => 0
  | _ => 0

abbrev bufTy : (tb : Table) → Fin (tcTables nBuf tb) → BufTy
  | .hbm, ⟨0, _⟩ => ⟨S12288x3584, .bf16⟩
  | .hbm, ⟨1, _⟩ => ⟨S12288x3584, .bf16⟩
  | .hbm, ⟨2, _⟩ => ⟨S12288x128, .bf16⟩
  | .hbm, ⟨3, _⟩ => ⟨S128x12288, .bf16⟩
  | .hbm, ⟨4, _⟩ => ⟨S3584x18944, .bf16⟩
  | .hbm, ⟨5, _⟩ => ⟨S3584x18944, .bf16⟩
  | .hbm, ⟨6, _⟩ => ⟨S18944x3584, .bf16⟩
  | .hbm, ⟨7, _⟩ => ⟨S18944x32, .bf16⟩
  | .hbm, ⟨8, _⟩ => ⟨S18944x32, .bf16⟩
  | .hbm, ⟨9, _⟩ => ⟨S32x18944, .bf16⟩
  | .hbm, ⟨10, _⟩ => ⟨S18944x32, .bf16⟩
  | .hbm, ⟨11, _⟩ => ⟨S_, .i32⟩
  | .hbm, ⟨12, _⟩ => ⟨S_, .bf16⟩
  | .hbm, ⟨13, _⟩ => ⟨S18944x128, .bf16⟩
  | .hbm, ⟨14, _⟩ => ⟨S_, .bf16⟩
  | .hbm, ⟨15, _⟩ => ⟨S18944x32, .bf16⟩
  | .hbm, ⟨16, _⟩ => ⟨S18944x32, .bf16⟩
  | .hbm, ⟨17, _⟩ => ⟨S_, .i32⟩
  | .hbm, ⟨18, _⟩ => ⟨S_, .bf16⟩
  | .hbm, ⟨19, _⟩ => ⟨S18944x128, .bf16⟩
  | .hbm, ⟨20, _⟩ => ⟨S_, .bf16⟩
  | .hbm, ⟨21, _⟩ => ⟨S18944x32, .bf16⟩
  | .hbm, ⟨22, _⟩ => ⟨S18944x32, .bf16⟩
  | .hbm, ⟨23, _⟩ => ⟨S_, .i32⟩
  | .hbm, ⟨24, _⟩ => ⟨S_, .bf16⟩
  | .hbm, ⟨25, _⟩ => ⟨S18944x128, .bf16⟩
  | .hbm, ⟨26, _⟩ => ⟨S1x18944x128, .bf16⟩
  | .hbm, ⟨27, _⟩ => ⟨S1x18944x128, .bf16⟩
  | .hbm, ⟨28, _⟩ => ⟨S1x18944x128, .bf16⟩
  | .hbm, ⟨29, _⟩ => ⟨S3x18944x128, .bf16⟩
  | .hbm, ⟨30, _⟩ => ⟨S_, .bf16⟩
  | .hbm, ⟨31, _⟩ => ⟨S18944x32, .bf16⟩
  | .hbm, ⟨32, _⟩ => ⟨S18944x32, .bf16⟩
  | .hbm, ⟨33, _⟩ => ⟨S_, .i32⟩
  | .hbm, ⟨34, _⟩ => ⟨S_, .bf16⟩
  | .hbm, ⟨35, _⟩ => ⟨S18944x128, .bf16⟩
  | .hbm, ⟨36, _⟩ => ⟨S_, .bf16⟩
  | .hbm, ⟨37, _⟩ => ⟨S18944x32, .bf16⟩
  | .hbm, ⟨38, _⟩ => ⟨S18944x32, .bf16⟩
  | .hbm, ⟨39, _⟩ => ⟨S_, .i32⟩
  | .hbm, ⟨40, _⟩ => ⟨S_, .bf16⟩
  | .hbm, ⟨41, _⟩ => ⟨S18944x128, .bf16⟩
  | .hbm, ⟨42, _⟩ => ⟨S_, .i32⟩
  | .hbm, ⟨43, _⟩ => ⟨S_, .bf16⟩
  | .hbm, ⟨44, _⟩ => ⟨S128x18944, .bf16⟩
  | .hbm, ⟨45, _⟩ => ⟨S12288x18944, .bf16⟩
  | .hbm, ⟨46, _⟩ => ⟨S12288x18944, .bf16⟩
  | .hbm, ⟨47, _⟩ => ⟨S12288x18944, .bf16⟩
  | .hbm, ⟨48, _⟩ => ⟨S12288x128, .bf16⟩
  | .hbm, ⟨49, _⟩ => ⟨S96x18944, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S3584x256, .bf16⟩
  | .local _ .vmem, ⟨9, _⟩ => ⟨S3584x256, .bf16⟩
  | .local _ .vmem, ⟨10, _⟩ => ⟨S3584x256, .bf16⟩
  | .local _ .vmem, ⟨11, _⟩ => ⟨S3584x256, .bf16⟩
  | .local _ .vmem, ⟨12, _⟩ => ⟨S256x3584, .bf16⟩
  | .local _ .vmem, ⟨13, _⟩ => ⟨S256x3584, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S128x256, .bf16⟩
  | .local _ .vmem, ⟨19, _⟩ => ⟨S128x256, .bf16⟩
  | .local _ .vmem, ⟨20, _⟩ => ⟨S3x256x128, .bf16⟩
  | .local _ .vmem, ⟨21, _⟩ => ⟨S3x256x128, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x128, .bf16⟩
  | .local _ .vmem, ⟨29, _⟩ => ⟨S1024x128, .bf16⟩
  | .local _ .vmem, ⟨30, _⟩ => ⟨S96x18944, .f32⟩
  | .local _ .vmem, ⟨31, _⟩ => ⟨S1024x128, .f32⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_call3_v0 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_c_6 : Ref sig .tc := ⟨.hbm, 39, rfl⟩
abbrev main_call4_v0 : Ref sig .tc := ⟨.hbm, 40, rfl⟩
abbrev main_v17 : Ref sig .tc := ⟨.hbm, 41, rfl⟩
abbrev main_c_7 : Ref sig .tc := ⟨.hbm, 42, rfl⟩
abbrev main_call5_v0 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev main_v19_2 : Ref sig .tc := ⟨.hbm, 47, rfl⟩
abbrev main_v19_3 : Ref sig .tc := ⟨.hbm, 48, rfl⟩
abbrev main_v19_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨2, ![12, 74], ![false, false]⟩

def k0_mult1 (i : grid0.Coords) : BitVec 32 :=
  let arg1 : BitVec 32 := BitVec.ofNat 32 (i 1).val
  let c256_i32 : BitVec 32 := 256#32
  let v63 : BitVec 32 := Scalar.muli arg1 c256_i32
  v63
def k0_cond3 (i : grid0.Coords) : BitVec 1 :=
  let arg0 : BitVec 32 := BitVec.ofNat 32 (i 0).val
  let c0_i32_48 : BitVec 32 := 0#32
  let v65 : BitVec 1 := Scalar.cmpi .eq arg0 c0_i32_48
  let v66 : BitVec 32 := Scalar.extui v65
  let c0_i32_49 : BitVec 32 := 0#32
  let v67 : BitVec 1 := Scalar.cmpi .ne v66 c0_i32_49
  v67

def k0_off1 (i : grid0.Coords) : Fin 2 → Nat :=
  let c0_66 : Index := 0#32
  let arg1 : BitVec 32 := BitVec.ofNat 32 (i 1).val
  let c256_i32 : BitVec 32 := 256#32
  let v63 : BitVec 32 := Scalar.muli arg1 c256_i32
  let v64 : BitVec 32 := v63
  let v97 : Index := Scalar.indexCast v64
  ![0, v97.toNat]
def k0_off2 (i : grid0.Coords) : Fin 2 → Nat :=
  let c0_50 : Index := 0#32
  let arg1 : BitVec 32 := BitVec.ofNat 32 (i 1).val
  let c256_i32 : BitVec 32 := 256#32
  let v63 : BitVec 32 := Scalar.muli arg1 c256_i32
  let v64 : BitVec 32 := v63
  let v68 : Index := Scalar.indexCast v64
  ![0, v68.toNat]
def k0_off3 (i : grid0.Coords) : Fin 2 → Nat :=
  let c32 : Index := 32#32
  let arg1 : BitVec 32 := BitVec.ofNat 32 (i 1).val
  let c256_i32 : BitVec 32 := 256#32
  let v63 : BitVec 32 := Scalar.muli arg1 c256_i32
  let v64 : BitVec 32 := v63
  let v78 : Index := Scalar.indexCast v64
  ![32, v78.toNat]
def k0_off4 (i : grid0.Coords) : Fin 2 → Nat :=
  let c64 : Index := 64#32
  let arg1 : BitVec 32 := BitVec.ofNat 32 (i 1).val
  let c256_i32 : BitVec 32 := 256#32
  let v63 : BitVec 32 := Scalar.muli arg1 c256_i32
  let v64 : BitVec 32 := v63
  let v88 : Index := Scalar.indexCast v64
  ![64, v88.toNat]
def k0_cond2 (i : grid0.Coords) : BitVec 1 :=
  let arg1 : BitVec 32 := BitVec.ofNat 32 (i 1).val
  let c73_i32 : BitVec 32 := 73#32
  let v60 : BitVec 1 := Scalar.cmpi .eq arg1 c73_i32
  let v61 : BitVec 32 := Scalar.extui v60
  let c0_i32_47 : BitVec 32 := 0#32
  let v62 : BitVec 1 := Scalar.cmpi .ne v61 c0_i32_47
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3584x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3584x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S96x18944 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== SwigluRefIdeal.lean ====
abbrev S12288x3584 : Shape := ⟨2, ![12288, 3584]⟩
abbrev S12288x128 : Shape := ⟨2, ![12288, 128]⟩
abbrev S128x12288 : Shape := ⟨2, ![128, 12288]⟩
abbrev S3584x18944 : Shape := ⟨2, ![3584, 18944]⟩
abbrev S18944x3584 : Shape := ⟨2, ![18944, 3584]⟩
abbrev S18944x32 : Shape := ⟨2, ![18944, 32]⟩
abbrev S32x18944 : Shape := ⟨2, ![32, 18944]⟩
abbrev S12288x32 : Shape := ⟨2, ![12288, 32]⟩
abbrev S12288x18944 : Shape := ⟨2, ![12288, 18944]⟩
abbrev S_ : Shape := ⟨0, ![]⟩
abbrev S12288x96 : Shape := ⟨2, ![12288, 96]⟩
abbrev S32x12288 : Shape := ⟨2, ![32, 12288]⟩
abbrev S96x18944 : Shape := ⟨2, ![96, 18944]⟩

abbrev nBuf : Space → Nat
  | .hbm => 82
  | .vmem => 0
  | .smem => 0
  | _ => 0

abbrev bufTy : (tb : Table) → Fin (tcTables nBuf tb) → BufTy
  | .hbm, ⟨0, _⟩ => ⟨S12288x3584, .bf16⟩
  | .hbm, ⟨1, _⟩ => ⟨S12288x3584, .bf16⟩
  | .hbm, ⟨2, _⟩ => ⟨S12288x128, .bf16⟩
  | .hbm, ⟨3, _⟩ => ⟨S128x12288, .bf16⟩
  | .hbm, ⟨4, _⟩ => ⟨S3584x18944, .bf16⟩
  | .hbm, ⟨5, _⟩ => ⟨S3584x18944, .bf16⟩
  | .hbm, ⟨6, _⟩ => ⟨S18944x3584, .bf16⟩
  | .hbm, ⟨7, _⟩ => ⟨S18944x32, .bf16⟩
  | .hbm, ⟨8, _⟩ => ⟨S18944x32, .bf16⟩
  | .hbm, ⟨9, _⟩ => ⟨S32x18944, .bf16⟩
  | .hbm, ⟨10, _⟩ => ⟨S12288x32, .bf16⟩
  | .hbm, ⟨11, _⟩ => ⟨S12288x32, .bf16⟩
  | .hbm, ⟨12, _⟩ => ⟨S12288x32, .bf16⟩
  | .hbm, ⟨13, _⟩ => ⟨S12288x18944, .f32⟩
  | .hbm, ⟨14, _⟩ => ⟨S12288x18944, .f32⟩
  | .hbm, ⟨15, _⟩ => ⟨S_, .f32⟩
  | .hbm, ⟨16, _⟩ => ⟨S12288x18944, .f32⟩
  | .hbm, ⟨17, _⟩ => ⟨S12288x18944, .f32⟩
  | .hbm, ⟨18, _⟩ => ⟨S12288x18944, .f32⟩
  | .hbm, ⟨19, _⟩ => ⟨S12288x18944, .f32⟩
  | .hbm, ⟨20, _⟩ => ⟨S12288x18944, .f32⟩
  | .hbm, ⟨21, _⟩ => ⟨S_, .f32⟩
  | .hbm, ⟨22, _⟩ => ⟨S12288x18944, .f32⟩
  | .hbm, ⟨23, _⟩ => ⟨S12288x18944, .f32⟩
  | .hbm, ⟨24, _⟩ => ⟨S12288x18944, .f32⟩
  | .hbm, ⟨25, _⟩ => ⟨S12288x18944, .f32⟩
  | .hbm, ⟨26, _⟩ => ⟨S12288x18944, .f32⟩
  | .hbm, ⟨27, _⟩ => ⟨S12288x18944, .f32⟩
  | .hbm, ⟨28, _⟩ => ⟨S12288x18944, .f32⟩
  | .hbm, ⟨29, _⟩ => ⟨S12288x18944, .f32⟩
  | .hbm, ⟨30, _⟩ => ⟨S_, .f32⟩
  | .hbm, ⟨31, _⟩ => ⟨S12288x18944, .f32⟩
  | .hbm, ⟨32, _⟩ => ⟨S12288x18944, .f32⟩
  | .hbm, ⟨33, _⟩ => ⟨S_, .f32⟩
  | .hbm, ⟨34, _⟩ => ⟨S12288x18944, .f32⟩
  | .hbm, ⟨35, _⟩ => ⟨S12288x18944, .f32⟩
  | .hbm, ⟨36, _⟩ => ⟨S12288x18944, .f32⟩
  | .hbm, ⟨37, _⟩ => ⟨S12288x18944, .f32⟩
  | .hbm, ⟨38, _⟩ => ⟨S12288x18944, .bf16⟩
  | .hbm, ⟨39, _⟩ => ⟨S12288x18944, .f32⟩
  | .hbm, ⟨40, _⟩ => ⟨S12288x18944, .f32⟩
  | .hbm, ⟨41, _⟩ => ⟨S_, .f32⟩
  | .hbm, ⟨42, _⟩ => ⟨S12288x18944, .f32⟩
  | .hbm, ⟨43, _⟩ => ⟨S12288x18944, .f32⟩
  | .hbm, ⟨44, _⟩ => ⟨S12288x18944, .f32⟩
  | .hbm, ⟨45, _⟩ => ⟨S_, .f32⟩
  | .hbm, ⟨46, _⟩ => ⟨S12288x18944, .f32⟩
  | .hbm, ⟨47, _⟩ => ⟨S12288x18944, .f32⟩
  | .hbm, ⟨48, _⟩ => ⟨S12288x18944, .f32⟩
  | .hbm, ⟨49, _⟩ => ⟨S12288x18944, .bf16⟩
  | .hbm, ⟨50, _⟩ => ⟨S12288x18944, .f32⟩
  | .hbm, ⟨51, _⟩ => ⟨S12288x18944, .f32⟩
  | .hbm, ⟨52, _⟩ => ⟨S12288x18944, .bf16⟩
  | .hbm, ⟨53, _⟩ => ⟨S12288x32, .f32⟩
  | .hbm, ⟨54, _⟩ => ⟨S12288x32, .bf16⟩
  | .hbm, ⟨55, _⟩ => ⟨S12288x32, .f32⟩
  | .hbm, ⟨56, _⟩ => ⟨S_, .f32⟩
  | .hbm, ⟨57, _⟩ => ⟨S12288x32, .f32⟩
  | .hbm, ⟨58, _⟩ => ⟨S12288x32, .f32⟩
  | .hbm, ⟨59, _⟩ => ⟨S12288x32, .bf16⟩
  | .hbm, ⟨60, _⟩ => ⟨S12288x32, .f32⟩
  | .hbm, ⟨61, _⟩ => ⟨S_, .f32⟩
  | .hbm, ⟨62, _⟩ => ⟨S12288x32, .f32⟩
  | .hbm, ⟨63, _⟩ => ⟨S12288x32, .f32⟩
  | .hbm, ⟨64, _⟩ => ⟨S12288x32, .bf16⟩
  | .hbm, ⟨65, _⟩ => ⟨S12288x96, .bf16⟩
  | .hbm, ⟨66, _⟩ => ⟨S_, .i32⟩
  | .hbm, ⟨67, _⟩ => ⟨S_, .bf16⟩
  | .hbm, ⟨68, _⟩ => ⟨S12288x128, .bf16⟩
  | .hbm, ⟨69, _⟩ => ⟨S32x12288, .bf16⟩
  | .hbm, ⟨70, _⟩ => ⟨S32x18944, .f32⟩
  | .hbm, ⟨71, _⟩ => ⟨S_, .f32⟩
  | .hbm, ⟨72, _⟩ => ⟨S32x18944, .f32⟩
  | .hbm, ⟨73, _⟩ => ⟨S32x18944, .f32⟩
  | .hbm, ⟨74, _⟩ => ⟨S32x12288, .bf16⟩
  | .hbm, ⟨75, _⟩ => ⟨S32x18944, .f32⟩
  | .hbm, ⟨76, _⟩ => ⟨S_, .f32⟩
  | .hbm, ⟨77, _⟩ => ⟨S32x18944, .f32⟩
  | .hbm, ⟨78, _⟩ => ⟨S32x18944, .f32⟩
  | .hbm, ⟨79, _⟩ => ⟨S32x12288, .bf16⟩
  | .hbm, ⟨80, _⟩ => ⟨S32x18944, .f32⟩
  | .hbm, ⟨81, _⟩ => ⟨S96x18944, .f32⟩
  | _, _ => ⟨S12288x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Proof.DownPay.lean ====
module

public import proofs.«01_k».proof.Proof.Gen.DownIdeal.Skeleton
public import Idealize.ShloMosaic.Lib.MatmulPlain
public import Idealize.ShloMosaic.Lib.ValueIdx
public import Idealize.ShloMosaic.Lib.Pointwise
public import Idealize.ShloMosaic.Lib.Pipeline.ValueKit

@[expose] public section

set_option maxRecDepth 16384

noncomputable section

namespace Cert.DownIdeal.Hand

open Idealize.ShloMosaic Cert.DownIdeal Cert.DownIdeal.Gen
open scoped BigOperators

/-- The f32 word of the constant two reads as the real number two. -/
theorem two32 : Ideal.ofBits .f32 0x40000000#32 = ((2 : ℝ) : EReal) := by
  simp [Ideal.ofBits, Ideal.ieee, -EReal.coe_mul]; norm_num

/-- So does its bf16 word. -/
theorem two16 : Ideal.ofBits .bf16 0x4000#16 = ((2 : ℝ) : EReal) := by
  simp [Ideal.ofBits, Ideal.ieee, -EReal.coe_mul]; norm_num

/-- The accumulator after one K tile: what it held plus the tile's product. -/
theorem pay2_apply (acc : Vec Ideal S512x3584 .f32) (x : Vec Ideal S512x512 .bf16) (y : Vec Ideal S512x3584 .bf16)
    (i : S512x3584.Idx) :
    k0_pay2 acc x y i = acc i + ∑ k : Fin 512, x (ix2 (i 0) k) * y (ix2 k (i 1)) := by
  unfold k0_pay2
  pointwise

/-- The reset accumulator is zero. -/
theorem pay1_apply (i : S512x3584.Idx) : k0_pay1 (F := Ideal) i = 0 := by
  unfold k0_pay1; pointwise

/-- The reset gradient block is zero. -/
theorem pay3_apply (i : S32x3584.Idx) : k0_pay3 (F := Ideal) i = 0 := by
  unfold k0_pay3; pointwise

/-- One row chunk of the result: the residual plus the accumulator plus the low-rank product. -/
theorem pay4_apply (a : Vec Ideal S128x3584 .f32) (z : Vec Ideal S128x128 .bf16) (b x : Vec Ideal S128x3584 .bf16)
    (i : S128x3584.Idx) :
    k0_pay4 a z b x i = x i + (a i + ∑ k : Fin 128, z (ix2 (i 0) k) * b (ix2 k (i 1))) := by
  unfold k0_pay4
  pointwise

/-- One row tile's part of the adapter's gradient: twice the product of the codes' transpose and the upstream rows. -/
theorem pay5_apply (z : Vec Ideal S512x128 .bf16) (acc : Vec Ideal S32x3584 .f32) (y : Vec Ideal S512x3584 .bf16)
    (i : S32x3584.Idx) :
    k0_pay5 z acc y i
      = acc i + ((2 : ℝ) : EReal) * ∑ k : Fin 512, z (ix2 k ⟨(i 0).val, Nat.lt_of_lt_of_le (i 0).isLt (by decide)⟩) * y (ix2 k (i 1)) := by
  unfold k0_pay5
  pointwise
  rw [two32]

end Cert.DownIdeal.Hand
-- ==== Proof.DownFold.lean ====
module

public import proofs.«01_k».proof.Proof.Gen.DownIdeal.Frame
public import proofs.«01_k».proof.Proof.DownPay

@[expose] public section

set_option maxRecDepth 16384

noncomputable section

namespace Cert.DownIdeal.Hand

open Idealize.ShloMosaic Idealize.ShloMosaic.TcCoe Cert.DownIdeal Cert.DownIdeal.Gen
open scoped BigOperators

variable (m : (ℓ : Loc nD τ sig) → Buf (Elt Ideal) ℓ)

/-- Reading the whole scratch back. -/
theorem scM0_0_read (h : (scM0_0).IsWhole) (X : Vec Ideal S512x3584 .f32) :
    View.read (Elt Ideal) (View.whole cc0_scratch0) (h.unread X) = X := h.read_unread X

theorem acc_A (c : Dev nD) (t : Fin cfg0.N) (h0 : t.val % 37 = 0) (h1 : ¬t.val % 37 = 36) :
    (outsAt0 m c t.val t.isLt).2.2 = k0_pay2 (k0_pay1 (F := Ideal)) (iblk m c 0 t) (iblk m c 1 t) := by
  rw [outsAt0_A m c t h0 h1]; frame_out

theorem acc_B (c : Dev nD) (t : Fin cfg0.N) (h0 : ¬t.val % 37 = 0) (h1 : ¬t.val % 37 = 36) :
    (outsAt0 m c t.val t.isLt).2.2
      = k0_pay2 (outsAt0 m c (t.val - 1) (Nat.lt_of_le_of_lt (Nat.sub_le _ _) t.isLt)).2.2 (iblk m c 0 t) (iblk m c 1 t) := by
  rw [outsAt0_B m c t h0 h1]; frame_out; rw [scM0_0_read]

theorem acc_C (c : Dev nD) (t : Fin cfg0.N) (h0 : ¬t.val % 37 = 0) (h1 : t.val % 37 = 36) (h2 : t.val < 37) :
    (outsAt0 m c t.val t.isLt).2.2
      = k0_pay2 (outsAt0 m c (t.val - 1) (Nat.lt_of_le_of_lt (Nat.sub_le _ _) t.isLt)).2.2 (iblk m c 0 t) (iblk m c 1 t) := by
  rw [outsAt0_C m c t h0 h1 h2]; frame_out; rw [scM0_0_read]

theorem acc_D (c : Dev nD) (t : Fin cfg0.N) (h0 : ¬t.val % 37 = 0) (h1 : t.val % 37 = 36) (h2 : ¬t.val < 37) :
    (outsAt0 m c t.val t.isLt).2.2
      = k0_pay2 (outsAt0 m c (t.val - 1) (Nat.lt_of_le_of_lt (Nat.sub_le _ _) t.isLt)).2.2 (iblk m c 0 t) (iblk m c 1 t) := by
  rw [outsAt0_D m c t h0 h1 h2]; frame_out; rw [scM0_0_read]

theorem db_C (c : Dev nD) (t : Fin cfg0.N) (h0 : ¬t.val % 37 = 0) (h1 : t.val % 37 = 36) (h2 : t.val < 37) :
    (outsAt0 m c t.val t.isLt).2.1 = k0_pay5 (iblk m c 2 t) (k0_pay3 (F := Ideal)) (iblk m c 5 t) := by
  rw [outsAt0_C m c t h0 h1 h2]; frame_out

theorem db_D (c : Dev nD) (t : Fin cfg0.N) (h0 : ¬t.val % 37 = 0) (h1 : t.val % 37 = 36) (h2 : ¬t.val < 37) :
    (outsAt0 m c t.val t.isLt).2.1
      = k0_pay5 (iblk m c 2 t) (outsAt0 m c (t.val - 1) (Nat.lt_of_le_of_lt (Nat.sub_le _ _) t.isLt)).2.1 (iblk m c 5 t) := by
  rw [outsAt0_D m c t h0 h1 h2]; frame_out

theorem db_B (c : Dev nD) (t : Fin cfg0.N) (h0 : ¬t.val % 37 = 0) (h1 : ¬t.val % 37 = 36) :
    (outsAt0 m c t.val t.isLt).2.1
      = (outsAt0 m c (t.val - 1) (Nat.lt_of_le_of_lt (Nat.sub_le _ _) t.isLt)).2.1 := by
  rw [outsAt0_B m c t h0 h1]; rfl

theorem db_A (c : Dev nD) (t : Fin cfg0.N) (h0 : t.val % 37 = 0) (h1 : ¬t.val % 37 = 36) :
    (outsAt0 m c t.val t.isLt).2.1
      = (outsAt0 m c (t.val - 1) (Nat.lt_of_le_of_lt (Nat.sub_le _ _) t.isLt)).2.1 := by
  rw [outsAt0_A m c t h0 h1]; rfl

/-- What the epilogue's row loop leaves: the residual, plus the accumulator plus the low-rank product. -/
def rowsum (s : Vec Ideal S512x3584 .f32) (z : Vec Ideal S512x128 .bf16) (b : Vec Ideal S128x3584 .bf16)
    (x : Vec Ideal S512x3584 .bf16) : Vec Ideal S512x3584 .bf16 :=
  fun i => x i + (s i + ∑ k : Fin 128, z (ix2 (i 0) k) * b (ix2 k (i 1)))

theorem off1_eq : ∀ k : Fin k0_t1_loop.trips, k0_off1 k = ![128 * k.val, 0] := by decide +kernel

theorem trips_eq : k0_t1_loop.trips = 4 := by decide +kernel

/-- One trip of the row loop: one store of the chunk's payload, its operands the chunk's rows. -/
theorem tripL_eq (c : Dev nD) (i : grid0.Coords) (arg2 : Memref sig .tc .vmem S512x512 .bf16) (harg2 : arg2.IsWhole) (arg3 : Memref sig .tc .vmem S512x3584 .bf16) (harg3 : arg3.IsWhole) (arg4 : Memref sig .tc .vmem S512x128 .bf16) (harg4 : arg4.IsWhole) (arg5 : Memref sig .tc .vmem S128x3584 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S512x3584 .bf16) (harg8 : arg8.IsWhole) (arg9 : Memref sig .tc .vmem S32x3584 .f32) (harg9 : arg9.IsWhole) (arg10 : Memref sig .tc .vmem S512x3584 .f32) (harg10 : arg10.IsWhole) (h2 : k0_cond2 i = 1#1)
    (z : Vec Ideal S512x128 .bf16) (b : Vec Ideal S128x3584 .bf16) (x : Vec Ideal S512x3584 .bf16)
    (X : BufTy.Contents (Elt Ideal) arg10.view.ty) (k : Fin k0_t1_loop.trips) :
    tripL_k0_t1 (F := Ideal) Variants.none c none i arg2 harg2 arg3 harg3 arg4 harg4 arg5 harg5 arg6 harg6 arg7 harg7 arg8 harg8 arg9 harg9 arg10 harg10 h2 (harg4.unread z) (harg5.unread b) (harg6.unread x) X k
      = [⟨Rect.unit (s := S512x3584) (k0_off1 k) S128x3584.size (k0_off1_inb i k h2),
          k0_pay4 (arg10.view.readAt (Elt Ideal) (Rect.unit (s := S512x3584) (k0_off1 k) S128x3584.size (k0_off1_inb i k h2)).toLoadRect X)
            (arg4.view.readAt (Elt Ideal) (Rect.unit (s := S512x128) (k0_off2 k) S128x128.size (k0_off2_inb i k h2)).toLoadRect (harg4.unread z))
            (arg5.view.readAt (Elt Ideal) (Rect.unit (s := S128x3584) ![0, 0] S128x3584.size inb_S128x3584_S128x3584_0_0).toLoadRect (harg5.unread b))
            (arg6.view.readAt (Elt Ideal) (Rect.unit (s := S512x3584) (k0_off1 k) S128x3584.size (k0_off1_inb i k h2)).toLoadRect (harg6.unread x))⟩] := by
  unfold tripL_k0_t1 trip_k0_t1
  dsimp only

/-- A trip's pieces agree with the closed form, and cover the trip's 128 rows. -/
theorem trip_pieces (c : Dev nD) (i : grid0.Coords) (arg2 : Memref sig .tc .vmem S512x512 .bf16) (harg2 : arg2.IsWhole) (arg3 : Memref sig .tc .vmem S512x3584 .bf16) (harg3 : arg3.IsWhole) (arg4 : Memref sig .tc .vmem S512x128 .bf16) (harg4 : arg4.IsWhole) (arg5 : Memref sig .tc .vmem S128x3584 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S512x3584 .bf16) (harg8 : arg8.IsWhole) (arg9 : Memref sig .tc .vmem S32x3584 .f32) (harg9 : arg9.IsWhole) (arg10 : Memref sig .tc .vmem S512x3584 .f32) (harg10 : arg10.IsWhole) (h2 : k0_cond2 i = 1#1)
    (z : Vec Ideal S512x128 .bf16) (b : Vec Ideal S128x3584 .bf16) (x : Vec Ideal S512x3584 .bf16)
    (X : BufTy.Contents (Elt Ideal) arg10.view.ty) (k : Fin k0_t1_loop.trips) :
    (∀ p ∈ tripL_k0_t1 (F := Ideal) Variants.none c none i arg2 harg2 arg3 harg3 arg4 harg4 arg5 harg5 arg6 harg6 arg7 harg7 arg8 harg8 arg9 harg9 arg10 harg10 h2 (harg4.unread z) (harg5.unread b) (harg6.unread x) X k,
      ∀ y : p.1.shape.Idx, p.2 y = rowsum (arg10.view.read (Elt Ideal) X) z b x (p.1.emb y))
    ∧ ∀ y : S512x3584.Idx, (y 0).val / 128 = k.val → ∃ p ∈ tripL_k0_t1 (F := Ideal) Variants.none c none i arg2 harg2 arg3 harg3 arg4 harg4 arg5 harg5 arg6 harg6 arg7 harg7 arg8 harg8 arg9 harg9 arg10 harg10 h2 (harg4.unread z) (harg5.unread b) (harg6.unread x) X k, y ∈ p.1.set := by
  rw [tripL_eq]
  constructor
  · rintro p hp
    obtain rfl := List.mem_singleton.mp hp
    intro y
    refine (pay4_apply _ _ _ _ _).trans ?_
    unfold rowsum
    simp only [View.readAt_apply, harg4.read_unread, harg5.read_unread, harg6.read_unread]
    refine congrArg₂ (· + ·) rfl (congrArg₂ (· + ·) rfl (Finset.sum_congr rfl fun q _ => congrArg₂ (· * ·) (congrArg z ?_) (congrArg b ?_)))
    · funext a; apply Fin.ext
      match a with
      | ⟨0, _⟩ => rfl
      | ⟨1, _⟩ => show 0 + 1 * q.val = q.val; omega
    · funext a; apply Fin.ext
      match a with
      | ⟨0, _⟩ => show 0 + 1 * q.val = q.val; omega
      | ⟨1, _⟩ => show 0 + 1 * (y 1).val = k0_off1 k 1 + 1 * (y 1).val; rw [congrFun (off1_eq k) 1]; rfl
  · intro y hy
    refine ⟨_, List.mem_singleton_self _, ?_⟩
    rw [Rect.mem_set_unit]
    have hk := off1_eq k
    have h0 := congrFun hk 0
    have h1 := congrFun hk 1
    intro a
    match a with
    | ⟨0, _⟩ =>
      show k0_off1 k 0 ≤ (y 0).val ∧ (y 0).val < k0_off1 k 0 + 128
      rw [h0]; show 128 * k.val ≤ _ ∧ _ < 128 * k.val + 128; omega
    | ⟨1, _⟩ =>
      show k0_off1 k 1 ≤ (y 1).val ∧ (y 1).val < k0_off1 k 1 + 3584
      rw [h1]; have : (y 1).val < 3584 := (y 1).isLt; show 0 ≤ _ ∧ _ < 0 + 3584; omega

/-- The pieces of the trips before `n`: they agree with the closed form, and cover the first `128 n` rows. -/
theorem pb_pieces (c : Dev nD) (i : grid0.Coords) (arg2 : Memref sig .tc .vmem S512x512 .bf16) (harg2 : arg2.IsWhole) (arg3 : Memref sig .tc .vmem S512x3584 .bf16) (harg3 : arg3.IsWhole) (arg4 : Memref sig .tc .vmem S512x128 .bf16) (harg4 : arg4.IsWhole) (arg5 : Memref sig .tc .vmem S128x3584 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S512x3584 .bf16) (harg8 : arg8.IsWhole) (arg9 : Memref sig .tc .vmem S32x3584 .f32) (harg9 : arg9.IsWhole) (arg10 : Memref sig .tc .vmem S512x3584 .f32) (harg10 : arg10.IsWhole) (h2 : k0_cond2 i = 1#1)
    (z : Vec Ideal S512x128 .bf16) (b : Vec Ideal S128x3584 .bf16) (x : Vec Ideal S512x3584 .bf16)
    (X : BufTy.Contents (Elt Ideal) arg10.view.ty) : ∀ n : ℕ, n ≤ k0_t1_loop.trips →
    (∀ p ∈ pb_k0_t1 (F := Ideal) Variants.none c none i arg2 harg2 arg3 harg3 arg4 harg4 arg5 harg5 arg6 harg6 arg7 harg7 arg8 harg8 arg9 harg9 arg10 harg10 h2 (harg4.unread z) (harg5.unread b) (harg6.unread x) X n,
      ∀ y : p.1.shape.Idx, p.2 y = rowsum (arg10.view.read (Elt Ideal) X) z b x (p.1.emb y))
    ∧ ∀ y : S512x3584.Idx, (y 0).val / 128 < n → ∃ p ∈ pb_k0_t1 (F := Ideal) Variants.none c none i arg2 harg2 arg3 harg3 arg4 harg4 arg5 harg5 arg6 harg6 arg7 harg7 arg8 harg8 arg9 harg9 arg10 harg10 h2 (harg4.unread z) (harg5.unread b) (harg6.unread x) X n, y ∈ p.1.set
  | 0, _ => ⟨fun p hp => absurd hp (by unfold pb_k0_t1; simp), fun y hy => absurd hy (Nat.not_lt_zero _)⟩
  | n + 1, hn => by
    have ih := pb_pieces c i arg2 harg2 arg3 harg3 arg4 harg4 arg5 harg5 arg6 harg6 arg7 harg7 arg8 harg8 arg9 harg9 arg10 harg10 h2 z b x X n (by omega)
    have ht := trip_pieces c i arg2 harg2 arg3 harg3 arg4 harg4 arg5 harg5 arg6 harg6 arg7 harg7 arg8 harg8 arg9 harg9 arg10 harg10 h2 z b x X ⟨n, hn⟩
    rw [show n + 1 = (⟨n, hn⟩ : Fin k0_t1_loop.trips).val + 1 from rfl, pb_k0_t1_succ]
    constructor
    · intro p hp
      rcases List.mem_append.mp hp with h | h
      · exact ht.1 p h
      · exact ih.1 p h
    · intro y hy
      have hy' : (y 0).val / 128 < n + 1 := hy
      by_cases h : (y 0).val / 128 = n
      · obtain ⟨p, hp, hy⟩ := ht.2 y h
        exact ⟨p, List.mem_append_left _ hp, hy⟩
      · obtain ⟨p, hp, hy⟩ := ih.2 y (by omega)
        exact ⟨p, List.mem_append_right _ hp, hy⟩

/-- What the whole row loop leaves in the result's block. -/
theorem loop_value (c : Dev nD) (i : grid0.Coords) (arg2 : Memref sig .tc .vmem S512x512 .bf16) (harg2 : arg2.IsWhole) (arg3 : Memref sig .tc .vmem S512x3584 .bf16) (harg3 : arg3.IsWhole) (arg4 : Memref sig .tc .vmem S512x128 .bf16) (harg4 : arg4.IsWhole) (arg5 : Memref sig .tc .vmem S128x3584 .bf16) (harg5 : arg5.IsWhole) (arg6 : Memref sig .tc .vmem S512x3584 .bf16) (harg6 : arg6.IsWhole) (arg7 : Memref sig .tc .vmem S512x3584 .bf16) (harg7 : arg7.IsWhole) (arg8 : Memref sig .tc .vmem S512x3584 .bf16) (harg8 : arg8.IsWhole) (arg9 : Memref sig .tc .vmem S32x3584 .f32) (harg9 : arg9.IsWhole) (arg10 : Memref sig .tc .vmem S512x3584 .f32) (harg10 : arg10.IsWhole) (h2 : k0_cond2 i = 1#1)
    (z : Vec Ideal S512x128 .bf16) (b : Vec Ideal S128x3584 .bf16) (x : Vec Ideal S512x3584 .bf16)
    (X : BufTy.Contents (Elt Ideal) arg10.view.ty) :
    View.canon (pb_k0_t1 (F := Ideal) Variants.none c none i arg2 harg2 arg3 harg3 arg4 harg4 arg5 harg5 arg6 harg6 arg7 harg7 arg8 harg8 arg9 harg9 arg10 harg10 h2 (harg4.unread z) (harg5.unread b) (harg6.unread x) X (Scf.trips (0#32) (Scalar.addi 0#32 4#32) 1#32))
      = rowsum (arg10.view.read (Elt Ideal) X) z b x := by
  have h := pb_pieces c i arg2 harg2 arg3 harg3 arg4 harg4 arg5 harg5 arg6 harg6 arg7 harg7 arg8 harg8 arg9 harg9 arg10 harg10 h2 z b x X 4 (by rw [trips_eq])
  rw [show Scf.trips (0#32) (Scalar.addi 0#32 4#32) 1#32 = 4 from trips_eq]
  funext y
  exact View.canon_apply_of_pieces _ _ h.1 y (h.2 y (by have := (y 0).isLt; simp at this; omega))

theorem y_C (c : Dev nD) (t : Fin cfg0.N) (h0 : ¬t.val % 37 = 0) (h1 : t.val % 37 = 36) (h2 : t.val < 37) :
    (outsAt0 m c t.val t.isLt).1 = rowsum (outsAt0 m c t.val t.isLt).2.2 (iblk m c 2 t) (iblk m c 3 t) (iblk m c 4 t) := by
  rw [acc_C m c t h0 h1 h2, outsAt0_C m c t h0 h1 h2]
  dsimp only
  frame_out
  refine (loop_value ..).trans ?_
  rw [View.read_writes_junk_eq_canon, scM0_0_read]
  exact congrArg (fun s => rowsum s _ _ _) (View.canon_unit_zero (by funext a; fin_cases a <;> rfl) _ _)

theorem y_D (c : Dev nD) (t : Fin cfg0.N) (h0 : ¬t.val % 37 = 0) (h1 : t.val % 37 = 36) (h2 : ¬t.val < 37) :
    (outsAt0 m c t.val t.isLt).1 = rowsum (outsAt0 m c t.val t.isLt).2.2 (iblk m c 2 t) (iblk m c 3 t) (iblk m c 4 t) := by
  rw [acc_D m c t h0 h1 h2, outsAt0_D m c t h0 h1 h2]
  dsimp only
  frame_out
  refine (loop_value ..).trans ?_
  rw [View.read_writes_junk_eq_canon, scM0_0_read]
  exact congrArg (fun s => rowsum s _ _ _) (View.canon_unit_zero (by funext a; fin_cases a <;> rfl) _ _)

end Cert.DownIdeal.Hand
-- ==== Proof.DownBlocks.lean ====
module

public import proofs.«01_k».proof.Proof.Gen.DownIdeal.Frame
public import proofs.«01_k».proof.Proof.DownPay

@[expose] public section

set_option maxRecDepth 16384

noncomputable section

namespace Cert.DownIdeal.Hand

open Idealize.ShloMosaic Idealize.ShloMosaic.TcCoe Cert.DownIdeal Cert.DownIdeal.Gen
open scoped BigOperators

variable (m : (ℓ : Loc nD τ sig) → Buf (Elt Ideal) ℓ)

/-- Which block each input window shows at a grid point: the row tile `t / 37`, the contraction tile `t % 37`. -/
theorem idx : ∀ t : Fin cfg0.N,
    win0_0.index t 0 = t.val / 37 ∧ win0_0.index t 1 = t.val % 37 ∧ win0_1.index t 0 = t.val % 37 ∧ win0_1.index t 1 = 0
    ∧ win0_2.index t 0 = t.val / 37 ∧ win0_2.index t 1 = 0 ∧ win0_3.index t 0 = 0 ∧ win0_3.index t 1 = 0
    ∧ win0_4.index t 0 = t.val / 37 ∧ win0_4.index t 1 = 0 ∧ win0_5.index t 0 = t.val / 37 ∧ win0_5.index t 1 = 0 := by
  decide +kernel

theorem row_lt (t : Fin cfg0.N) (r : Fin 512) : t.val / 37 * 512 + r.val < 12288 := by
  have := t.isLt; have hN : cfg0.N = 888 := N_0; omega

theorem col_lt (t : Fin cfg0.N) (r : Fin 512) : t.val % 37 * 512 + r.val < 18944 := by omega

/-- The block of `a` shown at a point: its row tile by its contraction tile. -/
theorem blk0 (c : Dev nD) (t : Fin cfg0.N) (r k : Fin 512) :
    iblk m c 0 t (ix2 r k) = m ((c : Thread nD τ).loc main_arg0) (ix2 ⟨t.val / 37 * 512 + r.val, row_lt t r⟩ ⟨t.val % 37 * 512 + k.val, col_lt t k⟩) := by
  refine Eq.trans ?_ (congrFun (V_main_arg0 m c) _)
  show V m c main_arg0 (((cfg0.win 0).blk t).view.emb (ix2 r k)) = V m c main_arg0 _
  blk_ext [idx t]

/-- The block of the down projection. -/
theorem blk1 (c : Dev nD) (t : Fin cfg0.N) (r : Fin 512) (k : Fin 3584) :
    iblk m c 1 t (ix2 r k) = m ((c : Thread nD τ).loc main_arg1) (ix2 ⟨t.val % 37 * 512 + r.val, col_lt t r⟩ k) := by
  refine Eq.trans ?_ (congrFun (V_main_arg1 m c) _)
  show V m c main_arg1 (((cfg0.win 1).blk t).view.emb (ix2 r k)) = V m c main_arg1 _
  blk_ext [idx t]

/-- The block of the low-rank codes. -/
theorem blk2 (c : Dev nD) (t : Fin cfg0.N) (r : Fin 512) (k : Fin 128) :
    iblk m c 2 t (ix2 r k) = m ((c : Thread nD τ).loc main_arg2) (ix2 ⟨t.val / 37 * 512 + r.val, row_lt t r⟩ k) := by
  refine Eq.trans ?_ (congrFun (V_main_arg2 m c) _)
  show V m c main_arg2 (((cfg0.win 2).blk t).view.emb (ix2 r k)) = V m c main_arg2 _
  blk_ext [idx t]

/-- The padded adapter is shown whole. -/
theorem blk3 (c : Dev nD) (t : Fin cfg0.N) (r : Fin 128) (k : Fin 3584) :
    iblk m c 3 t (ix2 r k) = V m c main_v3 (ix2 r k) := by
  show V m c main_v3 (((cfg0.win 3).blk t).view.emb (ix2 r k)) = V m c main_v3 _
  blk_ext [idx t]

/-- The residual's row tile. -/
theorem blk4 (c : Dev nD) (t : Fin cfg0.N) (r : Fin 512) (k : Fin 3584) :
    iblk m c 4 t (ix2 r k) = m ((c : Thread nD τ).loc main_arg4) (ix2 ⟨t.val / 37 * 512 + r.val, row_lt t r⟩ k) := by
  refine Eq.trans ?_ (congrFun (V_main_arg4 m c) _)
  show V m c main_arg4 (((cfg0.win 4).blk t).view.emb (ix2 r k)) = V m c main_arg4 _
  blk_ext [idx t]

/-- The upstream gradient's row tile. -/
theorem blk5 (c : Dev nD) (t : Fin cfg0.N) (r : Fin 512) (k : Fin 3584) :
    iblk m c 5 t (ix2 r k) = m ((c : Thread nD τ).loc main_arg5) (ix2 ⟨t.val / 37 * 512 + r.val, row_lt t r⟩ k) := by
  refine Eq.trans ?_ (congrFun (V_main_arg5 m c) _)
  show V m c main_arg5 (((cfg0.win 5).blk t).view.emb (ix2 r k)) = V m c main_arg5 _
  blk_ext [idx t]

/-- The adapter's factor as the host prepares it: twice its transpose in the first 32 rows, zero below. -/
theorem bd_apply (c : Dev nD) (r : Fin 128) (k : Fin 3584) :
    V m c main_v3 (ix2 r k)
      = if h : r.val < 32 then ((2 : ℝ) : EReal) * m ((c : Thread nD τ).loc main_arg3) (ix2 k ⟨r.val, h⟩) else 0 := by
  have e : V m c main_v3 = pad S128x3584 ![0, 0] ![96, 0] ![0, 0] (transpose S32x3584 [1, 0] (mulf (broadcastInDim S3584x32 ![] bcast_S_S3584x32 (constant (F := Ideal) S_ .bf16 0x4000#16)) (m ((c : Thread nD τ).loc main_arg3))) transposes_S3584x32_S32x3584_1_0) (sitofp .bf16 (constantI S_ 32 0#32)) pads_S32x3584_S128x3584_0960_000 h_S_ := by
    simp only [V, hostOps0, hostOps0_1, List.flatten_cons, List.flatten_nil, List.append_nil, List.cons_append, List.nil_append, StableHlo.TRef.unary, StableHlo.TRef.binary]
    after_results
    rfl
  rw [e]
  pointwise
  by_cases h : r.val < 32
  · rw [dif_pos h, dif_pos h, two16]
  · rw [dif_neg h, dif_neg h]
    show (((0#32 : BitVec 32).toInt : ℝ) : EReal) = 0
    simp

end Cert.DownIdeal.Hand
-- ==== Proof.Sums.lean ====
/-
  Finite sums of extended reals, as the certificates of this directory meet them: a product whose contraction is padded with
  zero lanes, a product with two factors placed among zero rows, and the constant two taken out of a sum. No claim is stated here.
-/
module

public import Idealize.ShloMosaic.PureOps.Ideal.Laws
public import Mathlib.Algebra.BigOperators.Fin
public import Mathlib.Data.EReal.Operations
public import Idealize.ShloMosaic.Lib.Pipeline.ValueKit.Acc

@[expose] public section

namespace Cert.Sums

open scoped BigOperators

/-- The real number two distributes over a sum of two extended reals. -/
theorem two_mul_add (a b : EReal) : ((2 : ℝ) : EReal) * (a + b) = ((2 : ℝ) : EReal) * a + ((2 : ℝ) : EReal) * b :=
  EReal.left_distrib_of_nonneg_of_ne_top (EReal.coe_nonneg.mpr (by norm_num)) (EReal.coe_ne_top 2) a b

/-- It distributes over every finite sum. -/
theorem two_mul_sum {ι : Type*} (s : Finset ι) (f : ι → EReal) :
    ((2 : ℝ) : EReal) * ∑ i ∈ s, f i = ∑ i ∈ s, ((2 : ℝ) : EReal) * f i := by
  classical
  induction s using Finset.induction_on with
  | empty => simp
  | insert a s ha ih => rw [Finset.sum_insert ha, Finset.sum_insert ha, two_mul_add, ih]

/-- A contraction over lanes that are zero from lane `n` on is the contraction over the first `n` lanes. -/
theorem sum_padded {n k N : ℕ} (hN : N = n + k) (z : Fin N → EReal) (b : Fin n → EReal) :
    ∑ q : Fin N, z q * (if h : q.val < n then b ⟨q.val, h⟩ else 0)
      = ∑ q : Fin n, z ⟨q.val, by omega⟩ * b q := by
  subst hN
  rw [Fin.sum_univ_add]
  have h2 : ∑ i : Fin k, z (Fin.natAdd n i) * (if h : (Fin.natAdd n i).val < n then b ⟨(Fin.natAdd n i).val, h⟩ else 0) = 0 :=
    Finset.sum_eq_zero fun i _ => by
      rw [dif_neg (by simp), mul_zero]
  rw [h2, add_zero]
  refine Finset.sum_congr rfl fun i _ => ?_
  rw [dif_pos (by simp)]
  rfl

/-- The same with the factor two stored in the second operand, taken out of the sum. -/
theorem sum_padded_two {n k N : ℕ} (hN : N = n + k) (z : Fin N → EReal) (b : Fin n → EReal) :
    ∑ q : Fin N, z q * (if h : q.val < n then ((2 : ℝ) : EReal) * b ⟨q.val, h⟩ else 0)
      = ((2 : ℝ) : EReal) * ∑ q : Fin n, z ⟨q.val, by omega⟩ * b q := by
  rw [sum_padded hN z (fun q => ((2 : ℝ) : EReal) * b q), two_mul_sum]
  exact Finset.sum_congr rfl fun q _ => mul_left_comm _ _ _

/-- A contraction over 128 lanes whose second operand holds one factor in lanes 32 to 63, another in lanes 64 to 95 and zero
    elsewhere is the sum of the two factors' contractions. -/
theorem sum_placed (z : Fin 128 → EReal) (a b : Fin 32 → EReal) :
    ∑ q : Fin 128, z q * (if h : 32 ≤ q.val ∧ q.val < 64 then a ⟨q.val - 32, by omega⟩
        else if h' : 64 ≤ q.val ∧ q.val < 96 then b ⟨q.val - 64, by omega⟩ else 0)
      = ∑ q : Fin 32, z ⟨32 + q.val, by omega⟩ * a q + ∑ q : Fin 32, z ⟨64 + q.val, by omega⟩ * b q := by
  rw [← Fin.sum_mul_add_fin 4 32 (fun q : Fin 128 => z q * (if h : 32 ≤ q.val ∧ q.val < 64 then a ⟨q.val - 32, by omega⟩
        else if h' : 64 ≤ q.val ∧ q.val < 96 then b ⟨q.val - 64, by omega⟩ else 0)), Fin.sum_univ_four]
  have t0 : ∀ (s : Fin 4) (h : s.val = 0 ∨ s.val = 3), ∑ k : Fin 32, z ⟨s.val * 32 + k.val, by omega⟩
      * (if h : 32 ≤ s.val * 32 + k.val ∧ s.val * 32 + k.val < 64 then a ⟨s.val * 32 + k.val - 32, by omega⟩
        else if h' : 64 ≤ s.val * 32 + k.val ∧ s.val * 32 + k.val < 96 then b ⟨s.val * 32 + k.val - 64, by omega⟩ else 0) = 0 :=
    fun s h => Finset.sum_eq_zero fun k _ => by rw [dif_neg (by omega), dif_neg (by omega), mul_zero]
  refine (congrArg₂ (· + ·) (congrArg₂ (· + ·) (congrArg₂ (· + ·) (t0 0 (Or.inl rfl)) ?_) ?_) (t0 3 (Or.inr rfl))).trans
    (by rw [zero_add, add_zero])
  · refine Finset.sum_congr rfl fun k _ => ?_
    have hk := k.isLt
    rw [dif_pos (by show 32 ≤ 1 * 32 + k.val ∧ 1 * 32 + k.val < 64; omega)]
    exact congrArg₂ (fun u v => z u * a v) (Fin.ext (by show 1 * 32 + k.val = 32 + k.val; omega)) (Fin.ext (by show 1 * 32 + k.val - 32 = k.val; omega))
  · refine Finset.sum_congr rfl fun k _ => ?_
    have hk := k.isLt
    rw [dif_neg (by show ¬(32 ≤ 2 * 32 + k.val ∧ 2 * 32 + k.val < 64); omega), dif_pos (by show 64 ≤ 2 * 32 + k.val ∧ 2 * 32 + k.val < 96; omega)]
    exact congrArg₂ (fun u v => z u * b v) (Fin.ext (by show 2 * 32 + k.val = 64 + k.val; omega)) (Fin.ext (by show 2 * 32 + k.val - 64 = k.val; omega))

end Cert.Sums
-- ==== Proof.DownVal.lean ====
/-
  The down-projection call's two results in closed form over the reals: the residual plus the full contraction plus twice the
  low-rank product, and twice the low-rank gradient summed over every row.
-/
module

public import proofs.«01_k».proof.Proof.Gen.DownIdeal.Value
public import proofs.«01_k».proof.Proof.DownFold
public import proofs.«01_k».proof.Proof.DownBlocks
public import proofs.«01_k».proof.Proof.Sums

@[expose] public section

set_option maxRecDepth 16384

noncomputable section

namespace Cert.DownIdeal.Hand

open Idealize.ShloMosaic Idealize.ShloMosaic.TcCoe Cert.DownIdeal Cert.DownIdeal.Gen Cert.Sums
open scoped BigOperators

variable (m : (ℓ : Loc nD τ sig) → Buf (Elt Ideal) ℓ)

/-- The call's arrays, at their shapes. -/
abbrev in0 (c : Dev nD) : Vec Ideal S12288x18944 .bf16 := m ((c : Thread nD τ).loc main_arg0)
abbrev in1 (c : Dev nD) : Vec Ideal S18944x3584 .bf16 := m ((c : Thread nD τ).loc main_arg1)
abbrev in2 (c : Dev nD) : Vec Ideal S12288x128 .bf16 := m ((c : Thread nD τ).loc main_arg2)
abbrev in3 (c : Dev nD) : Vec Ideal S3584x32 .bf16 := m ((c : Thread nD τ).loc main_arg3)
abbrev in4 (c : Dev nD) : Vec Ideal S12288x3584 .bf16 := m ((c : Thread nD τ).loc main_arg4)
abbrev in5 (c : Dev nD) : Vec Ideal S12288x3584 .bf16 := m ((c : Thread nD τ).loc main_arg5)
/-- The results, at theirs. -/
abbrev out6 (c : Dev nD) : Vec Ideal S12288x3584 .bf16 := Value.G6 m c
abbrev out7 (c : Dev nD) : Vec Ideal S32x3584 .f32 := Value.G7 m c

/-- The product of a tile of the first operand with a tile of the down projection. -/
def aTerm (x : Vec Ideal S512x512 .bf16) (y : Vec Ideal S512x3584 .bf16) (i : S512x3584.Idx) : EReal :=
  ∑ k : Fin 512, x (ix2 (i 0) k) * y (ix2 k (i 1))

theorem pay2_eq (acc : Vec Ideal S512x3584 .f32) (x : Vec Ideal S512x512 .bf16) (y : Vec Ideal S512x3584 .bf16)
    (i : S512x3584.Idx) : k0_pay2 acc x y i = acc i + aTerm x y i := pay2_apply acc x y i

/-- The part of the contraction one grid point adds to the accumulator. -/
def accTerm (c : Dev nD) (t : Fin cfg0.N) (i : S512x3584.Idx) : EReal := aTerm (iblk m c 0 t) (iblk m c 1 t) i

/-- The accumulator at the last contraction tile of a row tile: the terms of the row tile's 37 points. -/
theorem acc_flush (c : Dev nD) (t : Fin cfg0.N) (hr : t.val % 37 = 36) (i : S512x3584.Idx) :
    (outsAt0 m c t.val t.isLt).2.2 i = 0 + ∑ s : Fin 37, accTerm m c ⟨37 * (t.val / 37) + s.val, Pipeline.run_point_lt_of_flush t hr s⟩ i := by
  refine Pipeline.eq_sum_fin_of_reset_step_apply_of_flush (fun n h => ((outsAt0 m c n h).2.2 : S512x3584.Idx → EReal)) 37 (fun _ => 0) (accTerm m c) ?_ ?_ t hr i
  · intro t h i
    show (outsAt0 m c t.val t.isLt).2.2 i = _
    rw [acc_A m c t h (by omega), pay2_eq, pay1_apply]; rfl
  · intro t h i
    show (outsAt0 m c t.val t.isLt).2.2 i = (outsAt0 m c (t.val - 1) _).2.2 i + _
    by_cases h1 : t.val % 37 = 36
    · by_cases h2 : t.val < 37
      · rw [acc_C m c t h h1 h2, pay2_eq]; rfl
      · rw [acc_D m c t h h1 h2, pay2_eq]; rfl
    · rw [acc_B m c t h h1, pay2_eq]; rfl

/-- … which is the whole contraction of the row with the down projection's column. -/
theorem acc_sum (c : Dev nD) (t : Fin cfg0.N) (hr : t.val % 37 = 36) (r : Fin 512) (k : Fin 3584) :
    (outsAt0 m c t.val t.isLt).2.2 (ix2 r k)
      = ∑ l : Fin 18944, in0 m c (ix2 ⟨t.val / 37 * 512 + r.val, row_lt t r⟩ l) * in1 m c (ix2 l k) := by
  rw [acc_flush m c t hr, zero_add]
  refine Fin.sum_mul_add_congr fun s q hl => ?_
  have e0 := blk0 m c ⟨37 * (t.val / 37) + s.val, Pipeline.run_point_lt_of_flush t hr s⟩ r q
  have e1 := blk1 m c ⟨37 * (t.val / 37) + s.val, Pipeline.run_point_lt_of_flush t hr s⟩ q k
  have hs := s.isLt
  refine (congrArg₂ (fun a b : EReal => a * b) e0 e1).trans ?_
  have h1 : (37 * (t.val / 37) + s.val) / 37 = t.val / 37 := by omega
  have h2 : (37 * (t.val / 37) + s.val) % 37 = s.val := by omega
  simp only [h1, h2]

/-- What the first result holds at a row tile's last point. -/
theorem y_flush (c : Dev nD) (t : Fin cfg0.N) (hr : t.val % 37 = 36) (r : Fin 512) (k : Fin 3584) :
    (outsAt0 m c t.val t.isLt).1 (ix2 r k)
      = in4 m c (ix2 ⟨t.val / 37 * 512 + r.val, row_lt t r⟩ k)
        + (∑ l : Fin 18944, in0 m c (ix2 ⟨t.val / 37 * 512 + r.val, row_lt t r⟩ l) * in1 m c (ix2 l k)
          + ((2 : ℝ) : EReal) * ∑ q : Fin 32, in2 m c (ix2 ⟨t.val / 37 * 512 + r.val, row_lt t r⟩ ⟨q.val, by omega⟩) * in3 m c (ix2 k q)) := by
  have e : (outsAt0 m c t.val t.isLt).1 = rowsum (outsAt0 m c t.val t.isLt).2.2 (iblk m c 2 t) (iblk m c 3 t) (iblk m c 4 t) := by
    by_cases h2 : t.val < 37
    · exact y_C m c t (by omega) hr h2
    · exact y_D m c t (by omega) hr h2
  rw [e]
  refine congrArg₂ (· + ·) (blk4 m c t r k) (congrArg₂ (· + ·) (acc_sum m c t hr r k) ?_)
  refine Eq.trans (Finset.sum_congr rfl fun q _ => congrArg₂ (· * ·) (blk2 m c t r q) ((blk3 m c t q k).trans (bd_apply m c q k))) ?_
  exact sum_padded_two (n := 32) (k := 96) rfl (fun q => in2 m c (ix2 ⟨t.val / 37 * 512 + r.val, row_lt t r⟩ q))
    (fun q => in3 m c (ix2 k q))

/-- The first result: the residual, plus the contraction, plus twice the low-rank product. -/
theorem G6_apply (c : Dev nD) (i : S12288x3584.Idx) :
    out6 m c i
      = in4 m c i
        + (∑ l : Fin 18944, in0 m c (ix2 (i 0) l) * in1 m c (ix2 l (i 1))
          + ((2 : ℝ) : EReal) * ∑ q : Fin 32, in2 m c (ix2 (i 0) ⟨q.val, by omega⟩) * in3 m c (ix2 (i 1) q)) := by
  have h0 : (i 0).val < 12288 := (i 0).isLt
  have h1 : (i 1).val < 3584 := (i 1).isLt
  have hp : Value.pt6Of i = 37 * ((i 0).val / 512) + 36 := by
    show 37 * (1 * ((i 0).val / 512 - 0) + 1 * ((i 1).val / 3584 - 0)) + 36 = _
    omega
  have hN : cfg0.N = 888 := N_0
  have ht : Value.pt6Of i < cfg0.N := by omega
  show Value.G6 m c i = _
  unfold Value.G6
  rw [dif_pos ht, ← Value.outsAt0_sweep]
  have hl : Value.loc6Of i = ix2 ⟨(i 0).val % 512, by omega⟩ (i 1) := by
    funext a; apply Fin.ext
    match a with
    | ⟨0, _⟩ => rfl
    | ⟨1, _⟩ => show (i 1).val % 3584 = (i 1).val; omega
  rw [hl]
  refine (y_flush m c ⟨Value.pt6Of i, ht⟩ (by show Value.pt6Of i % 37 = 36; omega) ⟨(i 0).val % 512, by omega⟩ (i 1)).trans ?_
  have hrow : ∀ h, (⟨Value.pt6Of i / 37 * 512 + (i 0).val % 512, h⟩ : Fin 12288) = i 0 := fun h => Fin.ext (by
    show Value.pt6Of i / 37 * 512 + (i 0).val % 512 = (i 0).val; omega)
  have hi : (ix2 (i 0) (i 1) : S12288x3584.Idx) = i := by
    funext a; match a with
    | ⟨0, _⟩ => rfl
    | ⟨1, _⟩ => rfl
  simp only [hrow, hi]

/-- One row tile's part of the low-rank gradient. -/
def dbPart (c : Dev nD) (i : S32x3584.Idx) (n : ℕ) : EReal :=
  if h : n < 24 then
    ((2 : ℝ) : EReal) * ∑ k : Fin 512, in2 m c (ix2 ⟨n * 512 + k.val, by omega⟩ ⟨(i 0).val, Nat.lt_of_lt_of_le (i 0).isLt (by decide)⟩)
      * in5 m c (ix2 ⟨n * 512 + k.val, by omega⟩ (i 1))
  else 0

/-- Twice the product of a tile of the low-rank activations, transposed, with a tile of the gradient. -/
def gTerm (z : Vec Ideal S512x128 .bf16) (y : Vec Ideal S512x3584 .bf16) (i : S32x3584.Idx) : EReal :=
  ((2 : ℝ) : EReal) * ∑ k : Fin 512, z (ix2 k ⟨(i 0).val, Nat.lt_of_lt_of_le (i 0).isLt (by decide)⟩) * y (ix2 k (i 1))

theorem pay5_eq (z : Vec Ideal S512x128 .bf16) (acc : Vec Ideal S32x3584 .f32) (y : Vec Ideal S512x3584 .bf16)
    (i : S32x3584.Idx) : k0_pay5 z acc y i = acc i + gTerm z y i := pay5_apply z acc y i

theorem db_step (c : Dev nD) (t : Fin cfg0.N) (i : S32x3584.Idx) :
    gTerm (iblk m c 2 t) (iblk m c 5 t) i = dbPart m c i (t.val / 37) := by
  have hN : cfg0.N = 888 := N_0
  have := t.isLt
  unfold dbPart gTerm
  rw [dif_pos (by omega)]
  refine congrArg _ (Finset.sum_congr rfl fun k _ => ?_)
  exact congrArg₂ (· * ·) (blk2 m c t k _) (blk5 m c t k (i 1))

/-- The low-rank gradient's window after a point: the parts of the row tiles finished so far. -/
theorem db_sum (c : Dev nD) (i : S32x3584.Idx) : ∀ (n : ℕ) (hn : n < cfg0.N), 36 ≤ n →
    (outsAt0 m c n hn).2.1 i = ∑ s ∈ Finset.range ((n + 1) / 37), dbPart m c i s := by
  intro n
  induction n with
  | zero => intro _ h; omega
  | succ n ih =>
    intro hn h
    by_cases h1 : (n + 1) % 37 = 36
    · have hd : (n + 1 + 1) / 37 = (n + 1) / 37 + 1 := by omega
      rw [hd, Finset.sum_range_succ]
      by_cases h2 : n + 1 < 37
      · have e := congrFun (db_C m c ⟨n + 1, hn⟩ (by show ¬(n + 1) % 37 = 0; omega) h1 h2) i
        refine e.trans ?_
        rw [pay5_eq, pay3_apply, db_step]
        have : (n + 1) / 37 = 0 := by omega
        rw [this, Finset.sum_range_zero]
      · have e := congrFun (db_D m c ⟨n + 1, hn⟩ (by show ¬(n + 1) % 37 = 0; omega) h1 h2) i
        refine e.trans ?_
        rw [pay5_eq, db_step]
        exact congrArg₂ (· + ·) (ih (by omega) (by omega)) rfl
    · have hd : (n + 1 + 1) / 37 = (n + 1) / 37 := by omega
      rw [hd]
      by_cases h0 : (n + 1) % 37 = 0
      · have e := congrFun (db_A m c ⟨n + 1, hn⟩ h0 h1) i
        refine e.trans ?_
        exact ih (by omega) (by omega)
      · have e := congrFun (db_B m c ⟨n + 1, hn⟩ h0 h1) i
        refine e.trans ?_
        exact ih (by omega) (by omega)

/-- The second result: twice the product of the low-rank activations, transposed, with the incoming gradient. -/
theorem G7_apply (c : Dev nD) (i : S32x3584.Idx) :
    out7 m c i
      = ((2 : ℝ) : EReal) * ∑ l : Fin 12288, in2 m c (ix2 l ⟨(i 0).val, Nat.lt_of_lt_of_le (i 0).isLt (by decide)⟩)
          * in5 m c (ix2 l (i 1)) := by
  have h887 : 887 < cfg0.N := lt_of_lt_of_eq (by decide) N_0.symm
  have e := Value.G7_last m c
  rw [← Value.outsAt0_sweep] at e
  refine (congrFun e i).trans ?_
  refine (db_sum m c i 887 h887 (by decide)).trans ?_
  show ∑ s ∈ Finset.range 24, _ = _
  rw [← Fin.sum_univ_eq_sum_range, ← Fin.sum_mul_add_fin 24 512 (fun l : Fin 12288 => in2 m c (ix2 l ⟨(i 0).val, Nat.lt_of_lt_of_le (i 0).isLt (by decide)⟩)
          * in5 m c (ix2 l (i 1))), two_mul_sum]
  refine Finset.sum_congr rfl fun s _ => ?_
  unfold dbPart
  rw [dif_pos s.isLt]

end Cert.DownIdeal.Hand
-- ==== Proof.DownAlg.lean ====
/-
  The down-projection call computes what its reference computes, over the reals: both results, at every index.
-/
module

public import proofs.«01_k».proof.Defs
public import proofs.«01_k».proof.Proof.DownVal
public import proofs.«01_k».proof.Proof.Gen.DownRefIdeal.Run
public import proofs.«01_k».proof.Proof.Gen.DownRefIdeal.Read

@[expose] public section

set_option maxRecDepth 16384

noncomputable section

namespace Cert.DownIdeal.Hand

open Idealize.ShloMosaic Idealize.ShloMosaic.TcCoe Cert.DownIdeal Cert.DownIdeal.Gen
open scoped BigOperators

/-- The reference's first result at an index. -/
theorem ref8_apply (x0 : Vec Ideal S12288x18944 .bf16) (x1 : Vec Ideal S18944x3584 .bf16) (x2 : Vec Ideal S12288x128 .bf16)
    (x3 : Vec Ideal S3584x32 .bf16) (x4 : Vec Ideal S12288x3584 .bf16) (i : S12288x3584.Idx) :
    Cert.DownRefIdeal.Read.val_main_v8 (F := Ideal) x0 x1 x2 x3 x4 i
      = x4 i + (∑ l : Fin 18944, x0 (ix2 (i 0) l) * x1 (ix2 l (i 1))
        + ((2 : ℝ) : EReal) * ∑ q : Fin 32, x2 (ix2 (i 0) ⟨q.val, by omega⟩) * x3 (ix2 (i 1) q)) := by
  rw [Cert.DownRefIdeal.Read.val_main_v8_apply, Cert.DownRefIdeal.Read.val_main_v7_apply, Cert.DownRefIdeal.Read.val_main_v6_apply,
    Cert.DownRefIdeal.Read.val_main_v5_apply, Cert.DownRefIdeal.Read.val_main_v4_apply, Cert.DownRefIdeal.Read.val_main_v3_apply,
    Cert.DownRefIdeal.Read.val_main_cst_apply, Cert.DownRefIdeal.Read.val_main_v1_apply, Cert.DownRefIdeal.Read.val_main_v2_apply]
  refine congrArg₂ (fun a b : EReal => a + b) rfl (congrArg₂ (fun a b : EReal => a + b) (Finset.sum_congr rfl fun l _ => ?_) (congrArg₂ (fun a b : EReal => a * b) two32 (Finset.sum_congr rfl fun q _ => ?_)))
  · refine congrArg₂ (fun a b : EReal => a * b) (congrArg x0 ?_) (congrArg x1 ?_)
    · funext a; match a with
      | ⟨0, _⟩ => rfl
      | ⟨1, _⟩ => rfl
    · funext a; match a with
      | ⟨0, _⟩ => rfl
      | ⟨1, _⟩ => rfl
  · rw [Cert.DownRefIdeal.Read.val_main_v0_apply]
    refine congrArg₂ (fun a b : EReal => a * b) (congrArg x2 ?_) (congrArg x3 ?_)
    · funext a; match a with
      | ⟨0, _⟩ => rfl
      | ⟨1, _⟩ => rfl
    · funext a; match a with
      | ⟨0, _⟩ => rfl
      | ⟨1, _⟩ => rfl

/-- The reference's second result at an index. -/
theorem ref11_apply (x2 : Vec Ideal S12288x128 .bf16) (x5 : Vec Ideal S12288x3584 .bf16) (i : S32x3584.Idx) :
    Cert.DownRefIdeal.Read.val_main_v11 (F := Ideal) x2 x5 i
      = ((2 : ℝ) : EReal) * ∑ l : Fin 12288, x2 (ix2 l ⟨(i 0).val, Nat.lt_of_lt_of_le (i 0).isLt (by decide)⟩) * x5 (ix2 l (i 1)) := by
  rw [Cert.DownRefIdeal.Read.val_main_v11_apply, Cert.DownRefIdeal.Read.val_main_v10_apply,
    Cert.DownRefIdeal.Read.val_main_cst_0_apply, Cert.DownRefIdeal.Read.val_main_v9_apply]
  refine congrArg₂ (fun a b : EReal => a * b) two32 (Finset.sum_congr rfl fun l _ => ?_)
  rw [Cert.DownRefIdeal.Read.val_main_v0_apply]
  refine congrArg₂ (fun a b : EReal => a * b) (congrArg x2 ?_) (congrArg x5 ?_)
  · funext a; match a with
    | ⟨0, _⟩ => rfl
    | ⟨1, _⟩ => rfl
  · funext a; match a with
    | ⟨0, _⟩ => rfl
    | ⟨1, _⟩ => rfl

/-- From agreeing arguments, the call and its reference leave equal results. -/
theorem algebraic : Cert.algebraic_DownIdeal_DownRefIdeal (hDownIdeal := Cert.DownIdeal.Gen.facts) (hDownRefIdeal := Cert.DownRefIdeal.Gen.facts) := by
  intro m g m' g' _ hagree
  refine ⟨fun c => Value.G6 m c, fun c => Value.G7 m c, Value.run m g, (θ_run Cert.DownRefIdeal.defs _ _).mono (fun r h c => ?_) (Cert.DownRefIdeal.Value.run m' g')⟩
  obtain ⟨a0, a1, a2, a3, a4, a5⟩ := hagree c
  obtain ⟨h8, h11, hrest⟩ := h c
  refine ⟨h8.trans ?_, h11.trans ?_, hrest⟩
  · refine (Cert.DownRefIdeal.Read.val_main_v8_eq _ _ _ _ _).trans ?_
    rw [a0, a1, a2, a3, a4]
    funext i
    exact (ref8_apply (in0 m c) (in1 m c) (in2 m c) (in3 m c) (in4 m c) i).trans (G6_apply m c i).symm
  · refine (Cert.DownRefIdeal.Read.val_main_v11_eq _ _).trans ?_
    rw [a2, a5]
    funext i
    exact (ref11_apply (in2 m c) (in5 m c) i).trans (G7_apply m c i).symm

end Cert.DownIdeal.Hand
-- ==== Proof.DxIdealLoop.lean ====
/-
  The row loop of the input-gradient kernel: what a trip stores does not depend on what the two row-wise results held
  before it (the trip overwrites their rows without reading them), so neither do the pieces of all trips together.
-/
module

public import proofs.«01_k».proof.Proof.Gen.DxIdeal.Loops

@[expose] public section

set_option maxRecDepth 16384

noncomputable section

namespace Cert.DxIdeal.Hand

open Idealize.ShloMosaic Idealize.ShloMosaic.TcCoe Cert.DxIdeal Cert.DxIdeal.Gen

variable {F : FTy → Type} [FloatOps F]

variable (c : Dev nD) (i : grid0.Coords)
  (arg2 : Memref sig .tc .vmem S512x512 .bf16) (harg2 : arg2.IsWhole) (arg3 : Memref sig .tc .vmem S512x512 .bf16) (harg3 : arg3.IsWhole)
  (arg4 : Memref sig .tc .vmem S3584x512 .bf16) (harg4 : arg4.IsWhole) (arg5 : Memref sig .tc .vmem S3584x512 .bf16) (harg5 : arg5.IsWhole)
  (arg6 : Memref sig .tc .vmem S512x128 .bf16) (harg6 : arg6.IsWhole) (arg7 : Memref sig .tc .vmem S128x3584 .bf16) (harg7 : arg7.IsWhole)
  (arg8 : Memref sig .tc .vmem S512x3584 .bf16) (harg8 : arg8.IsWhole) (arg9 : Memref sig .tc .vmem S512x3584 .bf16) (harg9 : arg9.IsWhole)
  (arg10 : Memref sig .tc .vmem S1x3584 .f32) (harg10 : arg10.IsWhole) (arg11 : Memref sig .tc .vmem S512x3584 .bf16) (harg11 : arg11.IsWhole)
  (arg12 : Memref sig .tc .vmem S512x1 .f32) (harg12 : arg12.IsWhole) (arg13 : Memref sig .tc .vmem S64x3584 .f32) (harg13 : arg13.IsWhole)
  (arg14 : Memref sig .tc .vmem S512x3584 .f32) (harg14 : arg14.IsWhole) (h2 : k0_cond2 i = 1#1)
  (X6 : BufTy.Contents (Elt F) arg6.view.ty) (X7 : BufTy.Contents (Elt F) arg7.view.ty) (X8 : BufTy.Contents (Elt F) arg8.view.ty)
  (X9 : BufTy.Contents (Elt F) arg9.view.ty) (X10 : BufTy.Contents (Elt F) arg10.view.ty) (X14 : BufTy.Contents (Elt F) arg14.view.ty)
  (f11 g11 : BufTy.Contents (Elt F) arg11.view.ty) (f12 g12 : BufTy.Contents (Elt F) arg12.view.ty) (f13 : BufTy.Contents (Elt F) arg13.view.ty)

/-- One trip's pieces, whatever the two row-wise results held. -/
theorem tripL_indep (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h2 X6 X7 X8 X9 X10 X14 k f11 f12 f13
      = tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h2 X6 X7 X8 X9 X10 X14 k g11 g12 f13 := by
  unfold tripL_k0_t1 trip_k0_t1
  dsimp only

/-- All trips' pieces, whatever the two row-wise results held before the loop. -/
theorem pb_indep (n : ℕ) :
    pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h2 X6 X7 X8 X9 X10 X14 f11 f12 f13 n
      = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h2 X6 X7 X8 X9 X10 X14 g11 g12 f13 n := by
  induction n with
  | zero => rw [pb_k0_t1.eq_1, pb_k0_t1.eq_1]
  | succ n ih =>
    rw [pb_k0_t1.eq_2, pb_k0_t1.eq_2, ih]
    unfold pb_k0_t1Step
    split
    · rw [tripL_indep (g11 := arg11.view.writes (Elt F) g11 _) (g12 := arg12.view.writes (Elt F) g12 _)]
    · rfl

end Cert.DxIdeal.Hand
-- ==== Proof.DxIdealRunC.lean ====
/-
  The body of the input-gradient kernel run at a last contraction tile (first row tile): the pieces it leaves in each
  result and in the accumulator. The generated run's statement and proof, with one step more: the loop's pieces are first
  rewritten to ones that do not mention what the two row-wise results held before (`Hand.pb_indep`).
-/
module

public import proofs.«01_k».proof.Proof.DxIdealLoop
public import proofs.«01_k».proof.Proof.Gen.DxIdeal.Frame.RunB

@[expose] public section

-- membership in a rectangle of production extents (`View.cover_of_tiled`): the elaborator's structural look
-- recurses once per coordinate of the long axes
set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) :
    Σ' (L9 : List (View.Piece (Elt F) S512x3584 .bf16)), Σ' (L10 : List (View.Piece (Elt F) S512x1 .f32)), Σ' (L11 : List (View.Piece (Elt F) S64x3584 .f32)), { LS0 : List (View.Piece (Elt F) S512x3584 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs0
    sl_exec (disch := first | sl_exact hc0 | sl_exact hc1 | sl_exact hc2)
    sl_step
    simp only [Cert.DxIdeal.Hand.pb_indep (f11 := f9) (g11 := arg11.view.junk) (f12 := f10) (g12 := arg12.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact HS0

end Cert.DxIdeal.Gen

end
-- ==== Proof.DxIdealRunD.lean ====
/-
  The body of the input-gradient kernel run at a last contraction tile (a later row tile): the pieces it leaves in each
  result and in the accumulator. The generated run's statement and proof, with one step more: the loop's pieces are first
  rewritten to ones that do not mention what the two row-wise results held before (`Hand.pb_indep`).
-/
module

public import proofs.«01_k».proof.Proof.DxIdealRunC

@[expose] public section

-- membership in a rectangle of production extents (`View.cover_of_tiled`): the elaborator's structural look
-- recurses once per coordinate of the long axes
set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken: points 73, 110, … 887: 23 of 888), WITH the
    proof that on whole staging memrefs — the inputs' at their contents, the outputs it reads before covering (11) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) :
    Σ' (L9 : List (View.Piece (Elt F) S512x3584 .bf16)), Σ' (L10 : List (View.Piece (Elt F) S512x1 .f32)), Σ' (L11 : List (View.Piece (Elt F) S64x3584 .f32)), { LS0 : List (View.Piece (Elt F) S512x3584 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xo11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hfs0
    sl_exec (disch := first | sl_exact hc0 | sl_exact hc1 | sl_exact hc2)
    sl_step
    simp only [Cert.DxIdeal.Hand.pb_indep (f11 := f9) (g11 := arg11.view.junk) (f12 := f10) (g12 := arg12.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact HS0

end Cert.DxIdeal.Gen

end
-- ==== Proof.DxIdealFrame.lean ====
/-
  The frame of the input-gradient call: the generated frame module over the two runs of `DxIdealRunC` and `DxIdealRunD` (the generated
  runs of those two cases do not elaborate; everything after them is as generated).
-/
module

public import proofs.«01_k».proof.Proof.DxIdealRunD
public import Idealize.ShloMosaic.Lib.Claim

@[expose] public section

-- membership in a rectangle of production extents (`View.cover_of_tiled`): the elaborator's structural look
-- recurses once per coordinate of the long axes
set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) : Vec F S512x3584 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) : Vec F S512x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- Case A stores nothing into output 11 (the window is idle at its points and not written back there) and another
    case keeps its prior contents (reads it before covering, or covers it in part): what its buffer holds after the body is what the
    point before left, CARRIED — an argument of this term alone, which the run does not take (Lib/Pipeline/TableIdle.lean `Dat.before_out_traj`). -/
def out0_A_11 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) : Vec F S64x3584 .f32 := xo11

/-- Case A's pieces for scratch `arg14`, which the kernel carries between points, cover it: 2 pieces of `S512x3584` tiling it (Lib/Ring.lean `Piece.tiledL`). -/
theorem scover0_A_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (y : S512x3584.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S512x3584.size (by sl_kernel_rfl) y

/-- What case A leaves in scratch `arg14`: its pieces read back over junk. -/
def sout0_A_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) : Vec F S512x3584 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S512x3584 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0).1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S512x1 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0).2.1)

/-- Case B stores nothing into output 11 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_11 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) (xo11 : Vec F S64x3584 .f32) : Vec F S64x3584 .f32 := xo11

/-- Case B's pieces for scratch `arg14`, which the kernel carries between points, cover it: 1 piece of `S512x3584` tiling it (Lib/Ring.lean `Piece.tiledL`). -/
theorem scover0_B_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) (y : S512x3584.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0).2.2.2.1 S512x3584.size (by sl_kernel_rfl) y

/-- What case B leaves in scratch `arg14`: its pieces read back over junk. -/
def sout0_B_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : ¬cond0_1 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S512x3584 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0).2.2.2.1)

/-- Case C's pieces for output 9 tile its block (4 stores of `S128x3584`, checked by the kernel's evaluation: Lib/Ring.lean `Piece.tiledL`, linear in the pieces, through a loop's `@[irreducible]` trip theorem too), so they cover it. -/
theorem cover0_C_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) (y : S512x3584.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).1 S128x3584.size (by sl_kernel_rfl) y

/-- What case C leaves in output 9's staging buffer: its pieces read back over junk. -/
def out0_C_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S512x3584 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).1)

/-- Case C's pieces for output 10 tile its block (4 stores of `S128x1`, checked by the kernel's evaluation: Lib/Ring.lean `Piece.tiledL`, linear in the pieces, through a loop's `@[irreducible]` trip theorem too), so they cover it. -/
theorem cover0_C_10 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.1 S128x1.size (by sl_kernel_rfl) y

/-- What case C leaves in output 10's staging buffer: its pieces read back over junk. -/
def out0_C_10 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S512x1 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.1)

/-- Case C's pieces for output 11 tile its block (5 stores of `S64x3584`, checked by the kernel's evaluation: Lib/Ring.lean `Piece.tiledL`, linear in the pieces, through a loop's `@[irreducible]` trip theorem too), so they cover it. -/
theorem cover0_C_11 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) (y : S64x3584.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.2.1 S64x3584.size (by sl_kernel_rfl) y

/-- What case C leaves in output 11's staging buffer: its pieces read back over junk. -/
def out0_C_11 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S64x3584 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.2.1)

/-- Case C's pieces for scratch `arg14`, which the kernel carries between points, cover it: 1 piece of `S512x3584` tiling it (Lib/Ring.lean `Piece.tiledL`). -/
theorem scover0_C_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) (y : S512x3584.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.2.2.1 S512x3584.size (by sl_kernel_rfl) y

/-- What case C leaves in scratch `arg14`: its pieces read back over junk. -/
def sout0_C_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xs0 : Vec F S512x3584 .f32) : Vec F S512x3584 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs0).2.2.2.1)

/-- Case D's pieces for output 9 tile its block (4 stores of `S128x3584`, checked by the kernel's evaluation: Lib/Ring.lean `Piece.tiledL`, linear in the pieces, through a loop's `@[irreducible]` trip theorem too), so they cover it. -/
theorem cover0_D_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) (y : S512x3584.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).1 S128x3584.size (by sl_kernel_rfl) y

/-- What case D leaves in output 9's staging buffer: its pieces read back over junk. -/
def out0_D_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) : Vec F S512x3584 .bf16 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).1)

/-- Case D's pieces for output 10 tile its block (4 stores of `S128x1`, checked by the kernel's evaluation: Lib/Ring.lean `Piece.tiledL`, linear in the pieces, through a loop's `@[irreducible]` trip theorem too), so they cover it. -/
theorem cover0_D_10 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) (y : S512x1.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.1 S128x1.size (by sl_kernel_rfl) y

/-- What case D leaves in output 10's staging buffer: its pieces read back over junk. -/
def out0_D_10 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) : Vec F S512x1 .f32 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.1)

/-- Case D's pieces for output 11 tile its block (4 stores of `S64x3584`, checked by the kernel's evaluation: Lib/Ring.lean `Piece.tiledL`, linear in the pieces, through a loop's `@[irreducible]` trip theorem too), so they cover it. -/
theorem cover0_D_11 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) (y : S64x3584.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.2.1 S64x3584.size (by sl_kernel_rfl) y

/-- What case D leaves in output 11's staging buffer: its pieces read back over junk. -/
def out0_D_11 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) : Vec F S64x3584 .f32 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.2.1)

/-- Case D's pieces for scratch `arg14`, which the kernel carries between points, cover it: 1 piece of `S512x3584` tiling it (Lib/Ring.lean `Piece.tiledL`). -/
theorem scover0_D_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) (y : S512x3584.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.2.2.1 S512x3584.size (by sl_kernel_rfl) y

/-- What case D leaves in scratch `arg14`: its pieces read back over junk. -/
def sout0_D_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S3584x512 .bf16) (harg4 : arg4.IsWhole) (arg5 : Memref sig .tc .vmem S3584x512 .bf16) (harg5 : arg5.IsWhole) (arg6 : Memref sig .tc .vmem S512x128 .bf16) (harg6 : arg6.IsWhole) (arg7 : Memref sig .tc .vmem S128x3584 .bf16) (harg7 : arg7.IsWhole) (arg8 : Memref sig .tc .vmem S512x3584 .bf16) (harg8 : arg8.IsWhole) (arg9 : Memref sig .tc .vmem S512x3584 .bf16) (harg9 : arg9.IsWhole) (arg10 : Memref sig .tc .vmem S1x3584 .f32) (harg10 : arg10.IsWhole) (arg11 : Memref sig .tc .vmem S512x3584 .bf16) (harg11 : arg11.IsWhole) (arg12 : Memref sig .tc .vmem S512x1 .f32) (harg12 : arg12.IsWhole) (arg13 : Memref sig .tc .vmem S64x3584 .f32) (harg13 : arg13.IsWhole) (arg14 : Memref sig .tc .vmem S512x3584 .f32) (harg14 : arg14.IsWhole) (hc0 : ¬cond0_0 i) (hc1 : cond0_1 i) (hc2 : ¬cond0_2 i)
    (x0 : Vec F S512x512 .bf16) (x1 : Vec F S512x512 .bf16) (x2 : Vec F S3584x512 .bf16) (x3 : Vec F S3584x512 .bf16) (x4 : Vec F S512x128 .bf16) (x5 : Vec F S128x3584 .bf16) (x6 : Vec F S512x3584 .bf16) (x7 : Vec F S512x3584 .bf16) (x8 : Vec F S1x3584 .f32) (xo11 : Vec F S64x3584 .f32) (xs0 : Vec F S512x3584 .f32) : Vec F S512x3584 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xo11 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x3584 .bf16 × Vec F S512x1 .f32 × Vec F S64x3584 .f32 × Vec F S512x3584 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) ((VO0_9.read (Elt F) VO0_9.junk, VO0_10.read (Elt F) VO0_10.junk, VO0_11.read (Elt F) VO0_11.junk, VS0_0.read (Elt F) VS0_0.junk) : Vec F S512x3584 .bf16 × Vec F S512x1 .f32 × Vec F S64x3584 .f32 × Vec F S512x3584 .f32).2.2.1, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 37 = 0 then
      if h1 : (n + 1) % 37 = 36 then
        False.elim (by have hN : n + 1 < 888 := lt_of_lt_of_eq hn (show cfg0.N = 888 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 37 = 36 then
        if h2 : (n + 1) < 37 then
          (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2)
        else
          (out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2)

/-- `outsAt0` at a point of case A: that case's contents, over what the point before left. -/
theorem outsAt0_A (c : Dev nD) (t : Fin cfg0.N) (h0 : t.val % 37 = 0) (h1 : ¬t.val % 37 = 36) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 37 = 0) (h1 : ¬t.val % 37 = 36) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 37 = 0) (h1 : t.val % 37 = 36) (h2 : t.val < 37) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt0` at a point of case D: that case's contents, over what the point before left. -/
theorem outsAt0_D (c : Dev nD) (t : Fin cfg0.N) (h0 : ¬t.val % 37 = 0) (h1 : t.val % 37 = 36) (h2 : ¬t.val < 37) :
    outsAt0 m c t.val t.isLt = (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 888 := lt_of_lt_of_eq t.isLt (show cfg0.N = 888 from N_0)
  rw [after0_11, after0_11]
  by_cases h0 : t.val % 37 = 0
  · by_cases h1 : t.val % 37 = 36
    · exfalso; omega
    · rw [outsAt0_A m c t h0 h1]
      dsimp only
      unfold out0_A_11
      rfl
  · by_cases h1 : t.val % 37 = 36
    · by_cases h2 : t.val < 37
      · rw [liveAt0_11_C t (fun h => h0 ((hcond0_0 t).mp h)) ((hcond0_1 t).mpr h1) ((hcond0_2 t).mpr h2)] at hi
        exact absurd hi Bool.false_ne_true
      · rw [liveAt0_11_D t (fun h => h0 ((hcond0_0 t).mp h)) ((hcond0_1 t).mpr h1) (fun h => h2 ((hcond0_2 t).mp h))] at hi
        exact absurd hi Bool.false_ne_true
    · rw [outsAt0_B m c t h0 h1]
      dsimp only
      unfold out0_B_11
      rfl
/-- At a point of case D output 11's current staging buffer holds what the point before left: the buffer is not fresh
    there (`notFresh0_11_D`: stored into since the region's entry or the last write-back, carried through the points that
    leave it idle by `hcarry0_11`; Lib/Pipeline/TableIdle.lean `Dat.before_out_traj`). -/
theorem before0_11_D (c : Dev nD) (t : Fin cfg0.N) (h0 : ¬t.val % 37 = 0) (h1 : t.val % 37 = 36) (h2 : ¬t.val < 37) (d) :
    (dats m 0 c).before 11 t d = (outsAt0 m c (t.val - 1) (Nat.lt_of_le_of_lt (Nat.sub_le _ _) t.isLt)).2.2.1 := by
  rw [Dat.before_out_traj _ 11 rfl (fun _ _ => rfl) (hcarry0_11 m c) t.val t rfl d,
    if_neg (by rw [notFresh0_11_D t (fun h => h0 ((hcond0_0 t).mp h)) ((hcond0_1 t).mpr h1) (fun h => h2 ((hcond0_2 t).mp h))]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 888 := lt_of_lt_of_eq t.isLt (show cfg0.N = 888 from N_0)
  by_cases h0 : t.val % 37 = 0
  · by_cases h1 : t.val % 37 = 36
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        iexists _; iexact H11
      · rw [PhiS_castSucc m c t, PhiS_pos m c _ _ hz]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        iexists _; iexact H11
  · by_cases h1 : t.val % 37 = 36
    · by_cases h2 : t.val < 37
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) ((hcond0_1 t).mpr h1) ((hcond0_2 t).mpr h2)], after0_11]
        by_cases hz : t.val = 0
        · exfalso; have hN : t.val < 888 := lt_of_lt_of_eq t.isLt (show cfg0.N = 888 from N_0); omega
        · rw [PhiS_castSucc m c t, PhiS_pos m c _ _ hz]
          rw [outsAt0_C m c t h0 h1 h2]
          unfold out0_C_9 out0_C_10 out0_C_11 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_C c (grid0.coords t) _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [HS0]; · iexact HS0
          iintro ⟨H0, H1, H2, H3, H4, H5, H6, H7, H8, ⟨%e9, H9⟩, ⟨%e10, H10⟩, ⟨%e11, H11⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_D t (fun h => h0 ((hcond0_0 t).mp h)) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_D t (fun h => h0 ((hcond0_0 t).mp h)) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_D t (fun h => h0 ((hcond0_0 t).mp h)) ((hcond0_1 t).mpr h1) (fun h => h2 ((hcond0_2 t).mp h))], after0_11]
        by_cases hz : t.val = 0
        · exfalso; have hN : t.val < 888 := lt_of_lt_of_eq t.isLt (show cfg0.N = 888 from N_0); omega
        · rw [PhiS_castSucc m c t, PhiS_pos m c _ _ hz]
          rw [outsAt0_D m c t h0 h1 h2]
          simp only [before0_11_D m c t h0 h1 h2]
          unfold out0_D_9 out0_D_10 out0_D_11 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_D c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexact H11
          isplitl [HS0]; · iexact HS0
          iintro ⟨H0, H1, H2, H3, H4, H5, H6, H7, H8, ⟨%e9, H9⟩, ⟨%e10, H10⟩, ⟨%e11, H11⟩, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_D_9 c _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_D_11 c _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      by_cases hz : t.val = 0
      · exfalso; have hN : t.val < 888 := lt_of_lt_of_eq t.isLt (show cfg0.N = 888 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iintro ⟨H0, H1, H2, H3, H4, H5, H6, H7, H8, H9, H10, H11, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 888 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_DxIdeal`'s statement (Defs.lean) at any `F` — Proof.lean cites it at `Bits`:
    `theorem Cert.Proof.claim : Cert.Claim := ⟨Cert.DxIdeal.Gen.facts, fun m ρ _ => Cert.DxIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.DxIdeal.Gen

end
-- ==== Proof.DxFrame.lean ====
/-
  The frame of the printed program `Dx`, from the frame of `DxIdeal`.

  The idealisation rewrote no operation, so the two modules print one program. Its frame is proved once, for
  every float instance, of `DxIdeal` (`DxIdealFrame`); here the two programs are shown equal, and the
  frame of `Dx` is that theorem at the bit-level instance.
-/
module

public import proofs.«01_k».proof.Defs
public import proofs.«01_k».proof.Proof.Gen.Dx
public import proofs.«01_k».proof.Proof.DxIdealFrame

@[expose] public section

set_option maxRecDepth 100000
set_option maxHeartbeats 4000000

noncomputable section

namespace Cert.Dx.Hand

open Idealize.ShloMosaic Idealize.ShloMosaic.TcCoe Idealize.SL.Sem

variable {F : FTy → Type} [FloatOps F]

/-- Both modules give the kernel's label the same body. -/
theorem defs₀_eq : Cert.Dx.defs₀ (F := F) = Cert.DxIdeal.defs₀ (F := F) := by
  unfold Cert.Dx.defs₀ Cert.DxIdeal.defs₀
  refine congrArg (Defs.onTc (nD := Cert.Dx.nD) (τ := Cert.Dx.τ) (sig := Cert.Dx.sig) (Val := Elt F) (Λ := Cert.Dx.Λ₀)) ?_
  funext l
  match l with
  | ⟨0, _⟩ => exact funext fun ⟨t, s⟩ => rfl
  | ⟨_ + 1, h⟩ => exact absurd h (Nat.not_lt.2 (Nat.le_add_left _ _))

/-- So the pipelined calls are the same too. -/
theorem defs_eq : Cert.Dx.defs (F := F) = Cert.DxIdeal.defs (F := F) :=
  congrArg (Pipeline.defs (Cert.Dx.pcfgs (F := F))) defs₀_eq

/-- The host code of the two modules is the same. -/
theorem main_eq : Cert.Dx.main (F := F) = Cert.DxIdeal.main (F := F) := rfl

/-- `Dx` runs to quiescence from every memory and leaves its arguments as they were. -/
theorem frame : Cert.quiescent_Dx := fun m ρ _ => by
  have h := Cert.DxIdeal.Gen.frame (F := Bits) m ρ
  rw [← defs_eq] at h
  exact h

end Cert.Dx.Hand

end
-- ==== Proof.DxIdealValue.lean ====
/-
  The results of the input-gradient call as arrays: the generated value module, over the frame of `DxIdealFrame`.
-/
module

public import proofs.«01_k».proof.Proof.DxIdealFrame
public import Idealize.ShloMosaic.Lib.Pipeline.Value

@[expose] public section

noncomputable section

namespace Cert.DxIdeal.Value

open Cert.DxIdeal Cert.DxIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 37 = 0) (h1 : ¬t.val % 37 = 36) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 37 = 0) (h1 : ¬t.val % 37 = 36) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed9, outsAt0_B m c t h0 h1]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 37 = 0) (h1 : t.val % 37 = 36) (h2 : t.val < 37) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed9, outsAt0_C m c t h0 h1 h2]

/-- … so at a point where case D runs, what its write-back would write is that case's NAMED TERM for the window (`Gen.out0_D_9`: the pieces
    its run found, read back) at the point's memrefs and input blocks, and for an output the case reads back what the point before left (`Gen.outsAt0` at `t - 1`) — by the frame's rewriting lemma for the case. -/
theorem flushed9_D (c : Dev nD) (t : Fin cfg0.N) (h0 : ¬t.val % 37 = 0) (h1 : t.val % 37 = 36) (h2 : ¬t.val < 37) :
    (dats m 0 c).flushed 9 t = (cfg0.win 9).cut (grid0.coords t) (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed9, outsAt0_D m c t h0 h1 h2]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S12288x3584.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 1), read through the window's block. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 37 = 0) (h1 : ¬t.val % 37 = 36) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  simp only [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 37 = 0) (h1 : ¬t.val % 37 = 36) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed10, outsAt0_B m c t h0 h1]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 37 = 0) (h1 : t.val % 37 = 36) (h2 : t.val < 37) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed10, outsAt0_C m c t h0 h1 h2]

/-- … so at a point where case D runs, what its write-back would write is that case's NAMED TERM for the window (`Gen.out0_D_10`: the pieces
    its run found, read back) at the point's memrefs and input blocks, and for an output the case reads back what the point before left (`Gen.outsAt0` at `t - 1`) — by the frame's rewriting lemma for the case. -/
theorem flushed10_D (c : Dev nD) (t : Fin cfg0.N) (h0 : ¬t.val % 37 = 0) (h1 : t.val % 37 = 36) (h2 : ¬t.val < 37) :
    (dats m 0 c).flushed 10 t = (cfg0.win 10).cut (grid0.coords t) (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed10, outsAt0_D m c t h0 h1 h2]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S12288x1.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 2), read through the window's block. -/
theorem flushed11 (c : Dev nD) (t : Fin cfg0.N) :
    (dats m 0 c).flushed 11 t = (cfg0.win 11).cut (grid0.coords t) ((outsAt0 m c t.val t.isLt).2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 37 = 0) (h1 : ¬t.val % 37 = 36) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 37 = 0) (h1 : ¬t.val % 37 = 36) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2 (outsAt0 m c (t.val - 1) (Nat.lt_of_le_of_lt (Nat.sub_le _ _) t.isLt)).2.2.1) := by
  simp only [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 37 = 0) (h1 : t.val % 37 = 36) (h2 : t.val < 37) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed11, outsAt0_C m c t h0 h1 h2]

/-- … so at a point where case D runs, what its write-back would write is that case's NAMED TERM for the window (`Gen.out0_D_11`: the pieces
    its run found, read back) at the point's memrefs and input blocks, and for an output the case reads back what the point before left (`Gen.outsAt0` at `t - 1`) — by the frame's rewriting lemma for the case. -/
theorem flushed11_D (c : Dev nD) (t : Fin cfg0.N) (h0 : ¬t.val % 37 = 0) (h1 : t.val % 37 = 36) (h2 : ¬t.val < 37) :
    (dats m 0 c).flushed 11 t = (cfg0.win 11).cut (grid0.coords t) (out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed11, outsAt0_D m c t h0 h1 h2]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S64x3584.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v3_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v3_2) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- After the frame run, argument `main_arg8` is as launched: input window 7 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 9 cfg0.N
      ∧ r.2.mem ((c : Thread nD τ).loc main_v3_1) = (dats m 0 c).arrAt 10 cfg0.N
      ∧ r.2.mem ((c : Thread nD τ).loc main_v3_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 37)
    stores the scratch whole without reading what it held, and `acc` does not enter there (nor where no point meets the
    conditions: `acc`, never read). -/
def scAt0_0 (c : Dev nD) (n : ℕ) (hb : n < cfg0.N) (acc : Vec F S512x3584 .f32) : Vec F S512x3584 .f32 :=
  if h0 : n % 37 = 0 then
    if h1 : n % 37 = 36 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N))
  else
    if h1 : n % 37 = 36 then
      if h2 : n < 37 then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc
      else
        sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc

/-- WHAT CARRIED SCRATCH 0 HOLDS after point `t`: the fold of its run up to `t`, from the reset at the run's first point
    `37·(t / 37)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (37 * (t.val / 37)) (t.val % 37)
      (by have h1 := t.isLt; have h2 := Nat.div_add_mod t.val 37; omega) :=
  Pipeline.eq_accAt_of_mod (fun n h => (outsAt0 m c n h).2.2.2) 37 (fun n h => scAt0_0 m c n h (VS0_0.read (Elt F) VS0_0.junk)) (scAt0_0 m c)
    (fun n h hn => by
      have hN := lt_of_lt_of_eq h (show cfg0.N = 888 from N_0)
      by_cases h0 : n % 37 = 0 <;> by_cases h1 : n % 37 = 36 <;> by_cases h2 : n < 37
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1 h2]; dsimp only; unfold scAt0_0; rw [dif_neg h0, dif_pos h1, dif_pos h2] <;> try rfl) | (rw [outsAt0_D m c ⟨n, h⟩ h0 h1 h2]; dsimp only; unfold scAt0_0; rw [dif_neg h0, dif_pos h1, dif_neg h2] <;> try rfl))
    (fun n h hn => by
      have hN := lt_of_lt_of_eq h (show cfg0.N = 888 from N_0)
      by_cases h0 : (n + 1) % 37 = 0 <;> by_cases h1 : (n + 1) % 37 = 36 <;> by_cases h2 : (n + 1) < 37
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1 h2]; dsimp only; unfold scAt0_0; rw [dif_neg h0, dif_pos h1, dif_pos h2] <;> try rfl) | (rw [outsAt0_D m c ⟨n + 1, h⟩ h0 h1 h2]; dsimp only; unfold scAt0_0; rw [dif_neg h0, dif_pos h1, dif_neg h2] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x3584 .bf16 × Vec F S512x1 .f32 × Vec F S64x3584 .f32 × Vec F S512x3584 .f32 :=
  ((VO0_9.read (Elt F) VO0_9.junk, VO0_10.read (Elt F) VO0_10.junk, VO0_11.read (Elt F) VO0_11.junk, VS0_0.read (Elt F) VS0_0.junk) : Vec F S512x3584 .bf16 × Vec F S512x1 .f32 × Vec F S64x3584 .f32 × Vec F S512x3584 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x3584 .bf16 × Vec F S512x1 .f32 × Vec F S64x3584 .f32 × Vec F S512x3584 .f32) : Vec F S512x3584 .bf16 × Vec F S512x1 .f32 × Vec F S64x3584 .f32 × Vec F S512x3584 .f32 :=
  if h0 : n % 37 = 0 then
    if h1 : n % 37 = 36 then
      False.elim (by have hN : n < 888 := lt_of_lt_of_eq hb (show cfg0.N = 888 from N_0); omega)
    else
      (out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)), out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)), out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.1, sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)))
  else
    if h1 : n % 37 = 36 then
      if h2 : n < 37 then
        (out0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, out0_C_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, out0_C_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2)
      else
        (out0_D_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.1 acc.2.2.2, out0_D_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.1 acc.2.2.2, out0_D_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.1 acc.2.2.2, sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.1 acc.2.2.2)
    else
      (out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2 acc.2.2.1, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2)

/-- `stAt0` at a point of case A: that case's contents, over `acc`. -/
theorem stAt0_A (c : Dev nD) (t : Fin cfg0.N) (acc : Vec F S512x3584 .bf16 × Vec F S512x1 .f32 × Vec F S64x3584 .f32 × Vec F S512x3584 .f32) (h0 : t.val % 37 = 0) (h1 : ¬t.val % 37 = 36) :
    stAt0 m c t.val t.isLt acc = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) acc.2.2.1, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) :=
  (dif_pos h0).trans ((dif_neg h1).trans rfl)

/-- `stAt0` at a point of case B: that case's contents, over `acc`. -/
theorem stAt0_B (c : Dev nD) (t : Fin cfg0.N) (acc : Vec F S512x3584 .bf16 × Vec F S512x1 .f32 × Vec F S64x3584 .f32 × Vec F S512x3584 .f32) (h0 : ¬t.val % 37 = 0) (h1 : ¬t.val % 37 = 36) :
    stAt0 m c t.val t.isLt acc = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) acc.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) acc.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) acc.2.2.2 acc.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) acc.2.2.2) :=
  (dif_neg h0).trans ((dif_neg h1).trans rfl)

/-- `stAt0` at a point of case C: that case's contents, over `acc`. -/
theorem stAt0_C (c : Dev nD) (t : Fin cfg0.N) (acc : Vec F S512x3584 .bf16 × Vec F S512x1 .f32 × Vec F S64x3584 .f32 × Vec F S512x3584 .f32) (h0 : ¬t.val % 37 = 0) (h1 : t.val % 37 = 36) (h2 : t.val < 37) :
    stAt0 m c t.val t.isLt acc = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) acc.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) acc.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) acc.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) acc.2.2.2) :=
  (dif_neg h0).trans ((dif_pos h1).trans ((dif_pos h2).trans rfl))

/-- `stAt0` at a point of case D: that case's contents, over `acc`. -/
theorem stAt0_D (c : Dev nD) (t : Fin cfg0.N) (acc : Vec F S512x3584 .bf16 × Vec F S512x1 .f32 × Vec F S64x3584 .f32 × Vec F S512x3584 .f32) (h0 : ¬t.val % 37 = 0) (h1 : t.val % 37 = 36) (h2 : ¬t.val < 37) :
    stAt0 m c t.val t.isLt acc = (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) acc.2.2.1 acc.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) acc.2.2.1 acc.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) acc.2.2.1 acc.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) acc.2.2.1 acc.2.2.2) :=
  (dif_neg h0).trans ((dif_pos h1).trans ((dif_neg h2).trans rfl))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back but an output it leaves idle, at junk on both sides. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 888 from N_0)
  have e := Pipeline.eq_accAt_of_mod (fun n h => outsAt0 m c n h) 888 (fun n h => stAt0 m c n h junk0) (stAt0 m c)
    (fun n h _ => by
      have hN := lt_of_lt_of_eq h (show cfg0.N = 888 from N_0)
      obtain rfl : n = 0 := by omega
      exact outsAt0_zero m c h)
    (fun n h _ => outsAt0_succ m c n h)
    (by decide) n hn (by have := Nat.div_add_mod n 888; omega)
  have hd : n / 888 = 0 := Nat.div_eq_of_lt hN
  have hm : n % 888 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 9 -/

/-- The block of the array that holds index `i`, numbered in the order the points write the blocks back (one every 37 points),
    `i`'s place in it, and the point that writes it back (the last of its 37). -/
abbrev run9Of (i : S12288x3584.Idx) : ℕ := 1 * ((i 0).val / 512 - 0) + 1 * ((i 1).val / 3584 - 0)
set_option backward.proofsInPublic true in
abbrev loc9Of (i : S12288x3584.Idx) : S512x3584.Idx := fun a => match a with
  | ⟨0, _⟩ => ⟨(i 0).val % 512, Nat.mod_lt _ (by decide)⟩
  | ⟨1, _⟩ => ⟨(i 1).val % 3584, Nat.mod_lt _ (by decide)⟩
abbrev pt9Of (i : S12288x3584.Idx) : ℕ := 37 * run9Of i + 36

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v3_0) := fun i =>
  if h : pt9Of i < cfg0.N then
    (Pipeline.accAt (fun n h => stAt0 m c n h junk0) (stAt0 m c) 0 (pt9Of i) (by omega)).1 (loc9Of i)
  else V m c (Pipeline.arrRef spec0 9) i

/-- The printed index map, decided over the grid: output window 9's block indices stay in the box, and the block number
    read off them is the point's (`t / 37`). -/
theorem idx_facts9 : ∀ t : Fin cfg0.N, 0 ≤ win0_9.index t (0 : Fin 2) ∧ win0_9.index t (0 : Fin 2) ≤ 23
    ∧ 0 ≤ win0_9.index t (1 : Fin 2) ∧ win0_9.index t (1 : Fin 2) ≤ 0
    ∧ 1 * (win0_9.index t (0 : Fin 2) - 0) + 1 * (win0_9.index t (1 : Fin 2) - 0) = t.val / 37 :=
  (by decide +kernel : ∀ t : Fin grid0.N, _)

/-- Every block of the box is SOME flushing point's: `onto9Pt`, the point that writes back the block at place `q` of the box (the last point of its run). -/
abbrev onto9Pt (q0 : Fin 24) (q1 : Fin 1) : Fin grid0.N :=
  ⟨37 * (1 * q0.val + 1 * q1.val) + 36, lt_of_lt_of_eq (by omega) N_0.symm⟩
theorem idx_onto9 : ∀ (q0 : Fin 24) (q1 : Fin 1), ∃ t : Fin cfg0.N, (cfg0.win 9).flush t = true ∧ win0_9.index t = ![q0.val + 0, q1.val + 0] :=
  fun q0 q1 => ⟨onto9Pt q0 q1, (by decide +kernel : ∀ (q0 : Fin 24) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 37 = 36 := (flush0_9 t).mp hf
  obtain ⟨e0, e1, e2⟩ := idx_facts9 t
  funext y
  have hy0 : (y 0).val < 512 := (y 0).isLt
  have hy1 : (y 1).val < 3584 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 3584 + 1 * (y 1).val := rfl
  have hr : run9Of (((cfg0.win 9).blk t).view.emb y) = t.val / 37 := by
    show 1 * ((((cfg0.win 9).blk t).view.emb y 0).val / 512 - 0) + 1 * ((((cfg0.win 9).blk t).view.emb y 1).val / 3584 - 0) = _
    rw [hb0, hb1]
    rw [show (win0_9.index t (0 : Fin 2) * 512 + 1 * (y 0).val) / 512 = win0_9.index t (0 : Fin 2) from by omega]; rw [show (win0_9.index t (1 : Fin 2) * 3584 + 1 * (y 1).val) / 3584 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 512 = (y 0).val; rw [hb0]; omega
    | ⟨1, _⟩ => show (((cfg0.win 9).blk t).view.emb y 1).val % 3584 = (y 1).val; rw [hb1]; omega
  have hp : pt9Of (((cfg0.win 9).blk t).view.emb y) = t.val := by
    show 37 * run9Of (((cfg0.win 9).blk t).view.emb y) + 36 = _
    rw [hr]; have := Nat.div_add_mod t.val 37; omega
  show (Pipeline.accAt (fun n h => stAt0 m c n h junk0) (stAt0 m c) 0 t.val _).1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S12288x3584.Idx) :
    i ∈ ((cfg0.win 9).blk t).view.set ↔ ∀ a : Fin 2, win0_9.index t a * S512x3584.size a ≤ (i a).val ∧ (i a).val < win0_9.index t a * S512x3584.size a + S512x3584.size a := by
  show i ∈ ((View.whole main_v3_0).slice (win0_9.rect t)).set ↔ _
  rw [View.set_slice_whole, Rect.mem_set_unit]
  exact Iff.rfl

/-- THE COVERED INDICES: in some flushing point's block iff inside the box those blocks fill. -/
theorem covered_iff9 (i : S12288x3584.Idx) :
    (∃ t : Fin cfg0.N, (cfg0.win 9).flush t = true ∧ i ∈ ((cfg0.win 9).blk t).view.set) ↔ 0 ≤ (i 0).val ∧ (i 0).val < 12288 ∧ 0 ≤ (i 1).val ∧ (i 1).val < 3584 := by
  constructor
  · rintro ⟨t, -, hi⟩
    rw [mem_blk9] at hi
    have b0 : win0_9.index t (0 : Fin 2) * 512 ≤ (i 0).val ∧ (i 0).val < win0_9.index t (0 : Fin 2) * 512 + 512 := hi 0
    have b1 : win0_9.index t (1 : Fin 2) * 3584 ≤ (i 1).val ∧ (i 1).val < win0_9.index t (1 : Fin 2) * 3584 + 3584 := hi 1
    obtain ⟨e0, e1, e2⟩ := idx_facts9 t
    omega
  · intro h
    have hi0 : (i 0).val < 12288 := (i 0).isLt
    have hi1 : (i 1).val < 3584 := (i 1).isLt
    obtain ⟨t, hft, ht⟩ := idx_onto9 ⟨(i 0).val / 512 - 0, by omega⟩ ⟨(i 1).val / 3584 - 0, by omega⟩
    have q0 : win0_9.index t (0 : Fin 2) = (i 0).val / 512 - 0 + 0 := congrFun ht 0
    have q1 : win0_9.index t (1 : Fin 2) = (i 1).val / 3584 - 0 + 0 := congrFun ht 1
    refine ⟨t, hft, ?_⟩
    rw [mem_blk9]
    intro a
    match a with
    | ⟨0, _⟩ => show win0_9.index t (0 : Fin 2) * 512 ≤ (i 0).val ∧ (i 0).val < win0_9.index t (0 : Fin 2) * 512 + 512; omega
    | ⟨1, _⟩ => show win0_9.index t (1 : Fin 2) * 3584 ≤ (i 1).val ∧ (i 1).val < win0_9.index t (1 : Fin 2) * 3584 + 3584; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 12288 := (i 0).isLt; have h1 : (i 1).val < 3584 := (i 1).isLt; omega))

/-! ## Output window 10 -/

/-- The block of the array that holds index `i`, numbered in the order the points write the blocks back (one every 37 points),
    `i`'s place in it, and the point that writes it back (the last of its 37). -/
abbrev run10Of (i : S12288x1.Idx) : ℕ := 1 * ((i 0).val / 512 - 0) + 1 * ((i 1).val / 1 - 0)
set_option backward.proofsInPublic true in
abbrev loc10Of (i : S12288x1.Idx) : S512x1.Idx := fun a => match a with
  | ⟨0, _⟩ => ⟨(i 0).val % 512, Nat.mod_lt _ (by decide)⟩
  | ⟨1, _⟩ => ⟨(i 1).val % 1, Nat.mod_lt _ (by decide)⟩
abbrev pt10Of (i : S12288x1.Idx) : ℕ := 37 * run10Of i + 36

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v3_1) := fun i =>
  if h : pt10Of i < cfg0.N then
    (Pipeline.accAt (fun n h => stAt0 m c n h junk0) (stAt0 m c) 0 (pt10Of i) (by omega)).2.1 (loc10Of i)
  else V m c (Pipeline.arrRef spec0 10) i

/-- The printed index map, decided over the grid: output window 10's block indices stay in the box, and the block number
    read off them is the point's (`t / 37`). -/
theorem idx_facts10 : ∀ t : Fin cfg0.N, 0 ≤ win0_10.index t (0 : Fin 2) ∧ win0_10.index t (0 : Fin 2) ≤ 23
    ∧ 0 ≤ win0_10.index t (1 : Fin 2) ∧ win0_10.index t (1 : Fin 2) ≤ 0
    ∧ 1 * (win0_10.index t (0 : Fin 2) - 0) + 1 * (win0_10.index t (1 : Fin 2) - 0) = t.val / 37 :=
  (by decide +kernel : ∀ t : Fin grid0.N, _)

/-- Every block of the box is SOME flushing point's: `onto10Pt`, the point that writes back the block at place `q` of the box (the last point of its run). -/
abbrev onto10Pt (q0 : Fin 24) (q1 : Fin 1) : Fin grid0.N :=
  ⟨37 * (1 * q0.val + 1 * q1.val) + 36, lt_of_lt_of_eq (by omega) N_0.symm⟩
theorem idx_onto10 : ∀ (q0 : Fin 24) (q1 : Fin 1), ∃ t : Fin cfg0.N, (cfg0.win 10).flush t = true ∧ win0_10.index t = ![q0.val + 0, q1.val + 0] :=
  fun q0 q1 => ⟨onto10Pt q0 q1, (by decide +kernel : ∀ (q0 : Fin 24) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  have hm : t.val % 37 = 36 := (flush0_10 t).mp hf
  obtain ⟨e0, e1, e2⟩ := idx_facts10 t
  funext y
  have hy0 : (y 0).val < 512 := (y 0).isLt
  have hy1 : (y 1).val < 1 := (y 1).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 1 + 1 * (y 1).val := rfl
  have hr : run10Of (((cfg0.win 10).blk t).view.emb y) = t.val / 37 := by
    show 1 * ((((cfg0.win 10).blk t).view.emb y 0).val / 512 - 0) + 1 * ((((cfg0.win 10).blk t).view.emb y 1).val / 1 - 0) = _
    rw [hb0, hb1]
    rw [show (win0_10.index t (0 : Fin 2) * 512 + 1 * (y 0).val) / 512 = win0_10.index t (0 : Fin 2) from by omega]; rw [show (win0_10.index t (1 : Fin 2) * 1 + 1 * (y 1).val) / 1 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 512 = (y 0).val; rw [hb0]; omega
    | ⟨1, _⟩ => show (((cfg0.win 10).blk t).view.emb y 1).val % 1 = (y 1).val; rw [hb1]; omega
  have hp : pt10Of (((cfg0.win 10).blk t).view.emb y) = t.val := by
    show 37 * run10Of (((cfg0.win 10).blk t).view.emb y) + 36 = _
    rw [hr]; have := Nat.div_add_mod t.val 37; omega
  show (Pipeline.accAt (fun n h => stAt0 m c n h junk0) (stAt0 m c) 0 t.val _).2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S12288x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v3_1).slice (win0_10.rect t)).set ↔ _
  rw [View.set_slice_whole, Rect.mem_set_unit]
  exact Iff.rfl

/-- THE COVERED INDICES: in some flushing point's block iff inside the box those blocks fill. -/
theorem covered_iff10 (i : S12288x1.Idx) :
    (∃ t : Fin cfg0.N, (cfg0.win 10).flush t = true ∧ i ∈ ((cfg0.win 10).blk t).view.set) ↔ 0 ≤ (i 0).val ∧ (i 0).val < 12288 ∧ 0 ≤ (i 1).val ∧ (i 1).val < 1 := by
  constructor
  · rintro ⟨t, -, hi⟩
    rw [mem_blk10] at hi
    have b0 : win0_10.index t (0 : Fin 2) * 512 ≤ (i 0).val ∧ (i 0).val < win0_10.index t (0 : Fin 2) * 512 + 512 := hi 0
    have b1 : win0_10.index t (1 : Fin 2) * 1 ≤ (i 1).val ∧ (i 1).val < win0_10.index t (1 : Fin 2) * 1 + 1 := hi 1
    obtain ⟨e0, e1, e2⟩ := idx_facts10 t
    omega
  · intro h
    have hi0 : (i 0).val < 12288 := (i 0).isLt
    have hi1 : (i 1).val < 1 := (i 1).isLt
    obtain ⟨t, hft, ht⟩ := idx_onto10 ⟨(i 0).val / 512 - 0, by omega⟩ ⟨(i 1).val / 1 - 0, by omega⟩
    have q0 : win0_10.index t (0 : Fin 2) = (i 0).val / 512 - 0 + 0 := congrFun ht 0
    have q1 : win0_10.index t (1 : Fin 2) = (i 1).val / 1 - 0 + 0 := congrFun ht 1
    refine ⟨t, hft, ?_⟩
    rw [mem_blk10]
    intro a
    match a with
    | ⟨0, _⟩ => show win0_10.index t (0 : Fin 2) * 512 ≤ (i 0).val ∧ (i 0).val < win0_10.index t (0 : Fin 2) * 512 + 512; omega
    | ⟨1, _⟩ => show win0_10.index t (1 : Fin 2) * 1 ≤ (i 1).val ∧ (i 1).val < win0_10.index t (1 : Fin 2) * 1 + 1; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 12288 := (i 0).isLt; have h1 : (i 1).val < 1 := (i 1).isLt; omega))

/-! ## Output window 11 -/

/-- The block of the array that holds index `i`, numbered in the order the points write the blocks back (one every 888 points),
    `i`'s place in it, and the point that writes it back (the last of its 888). -/
abbrev run11Of (i : S64x3584.Idx) : ℕ := 1 * ((i 0).val / 64 - 0) + 1 * ((i 1).val / 3584 - 0)
set_option backward.proofsInPublic true in
abbrev loc11Of (i : S64x3584.Idx) : S64x3584.Idx := fun a => match a with
  | ⟨0, _⟩ => ⟨(i 0).val % 64, Nat.mod_lt _ (by decide)⟩
  | ⟨1, _⟩ => ⟨(i 1).val % 3584, Nat.mod_lt _ (by decide)⟩
abbrev pt11Of (i : S64x3584.Idx) : ℕ := 888 * run11Of i + 887

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v3_2) := fun i =>
  if h : pt11Of i < cfg0.N then
    (Pipeline.accAt (fun n h => stAt0 m c n h junk0) (stAt0 m c) 0 (pt11Of i) (by omega)).2.2.1 (loc11Of i)
  else V m c (Pipeline.arrRef spec0 11) i

/-- The printed index map, decided over the grid: output window 11's block indices stay in the box, and the block number
    read off them is the point's (`t / 888`). -/
theorem idx_facts11 : ∀ t : Fin cfg0.N, 0 ≤ win0_11.index t (0 : Fin 2) ∧ win0_11.index t (0 : Fin 2) ≤ 0
    ∧ 0 ≤ win0_11.index t (1 : Fin 2) ∧ win0_11.index t (1 : Fin 2) ≤ 0
    ∧ 1 * (win0_11.index t (0 : Fin 2) - 0) + 1 * (win0_11.index t (1 : Fin 2) - 0) = t.val / 888 :=
  (by decide +kernel : ∀ t : Fin grid0.N, _)

/-- Every block of the box is SOME flushing point's: `onto11Pt`, the point that writes back the block at place `q` of the box (the last point of its run). -/
abbrev onto11Pt (q0 : Fin 1) (q1 : Fin 1) : Fin grid0.N :=
  ⟨888 * (1 * q0.val + 1 * q1.val) + 887, lt_of_lt_of_eq (by omega) N_0.symm⟩
theorem idx_onto11 : ∀ (q0 : Fin 1) (q1 : Fin 1), ∃ t : Fin cfg0.N, (cfg0.win 11).flush t = true ∧ win0_11.index t = ![q0.val + 0, q1.val + 0] :=
  fun q0 q1 => ⟨onto11Pt q0 q1, (by decide +kernel : ∀ (q0 : Fin 1) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  have hm : t.val % 888 = 887 := (flush0_11 t).mp hf
  obtain ⟨e0, e1, e2⟩ := idx_facts11 t
  funext y
  have hy0 : (y 0).val < 64 := (y 0).isLt
  have hy1 : (y 1).val < 3584 := (y 1).isLt
  have hb0 : (((cfg0.win 11).blk t).view.emb y 0).val = win0_11.index t (0 : Fin 2) * 64 + 1 * (y 0).val := rfl
  have hb1 : (((cfg0.win 11).blk t).view.emb y 1).val = win0_11.index t (1 : Fin 2) * 3584 + 1 * (y 1).val := rfl
  have hr : run11Of (((cfg0.win 11).blk t).view.emb y) = t.val / 888 := by
    show 1 * ((((cfg0.win 11).blk t).view.emb y 0).val / 64 - 0) + 1 * ((((cfg0.win 11).blk t).view.emb y 1).val / 3584 - 0) = _
    rw [hb0, hb1]
    rw [show (win0_11.index t (0 : Fin 2) * 64 + 1 * (y 0).val) / 64 = win0_11.index t (0 : Fin 2) from by omega]; rw [show (win0_11.index t (1 : Fin 2) * 3584 + 1 * (y 1).val) / 3584 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 64 = (y 0).val; rw [hb0]; omega
    | ⟨1, _⟩ => show (((cfg0.win 11).blk t).view.emb y 1).val % 3584 = (y 1).val; rw [hb1]; omega
  have hp : pt11Of (((cfg0.win 11).blk t).view.emb y) = t.val := by
    show 888 * run11Of (((cfg0.win 11).blk t).view.emb y) + 887 = _
    rw [hr]; have := Nat.div_add_mod t.val 888; omega
  show (Pipeline.accAt (fun n h => stAt0 m c n h junk0) (stAt0 m c) 0 t.val _).2.2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S64x3584.Idx) :
    i ∈ ((cfg0.win 11).blk t).view.set ↔ ∀ a : Fin 2, win0_11.index t a * S64x3584.size a ≤ (i a).val ∧ (i a).val < win0_11.index t a * S64x3584.size a + S64x3584.size a := by
  show i ∈ ((View.whole main_v3_2).slice (win0_11.rect t)).set ↔ _
  rw [View.set_slice_whole, Rect.mem_set_unit]
  exact Iff.rfl

/-- THE COVERED INDICES: in some flushing point's block iff inside the box those blocks fill. -/
theorem covered_iff11 (i : S64x3584.Idx) :
    (∃ t : Fin cfg0.N, (cfg0.win 11).flush t = true ∧ i ∈ ((cfg0.win 11).blk t).view.set) ↔ 0 ≤ (i 0).val ∧ (i 0).val < 64 ∧ 0 ≤ (i 1).val ∧ (i 1).val < 3584 := by
  constructor
  · rintro ⟨t, -, hi⟩
    rw [mem_blk11] at hi
    have b0 : win0_11.index t (0 : Fin 2) * 64 ≤ (i 0).val ∧ (i 0).val < win0_11.index t (0 : Fin 2) * 64 + 64 := hi 0
    have b1 : win0_11.index t (1 : Fin 2) * 3584 ≤ (i 1).val ∧ (i 1).val < win0_11.index t (1 : Fin 2) * 3584 + 3584 := hi 1
    obtain ⟨e0, e1, e2⟩ := idx_facts11 t
    omega
  · intro h
    have hi0 : (i 0).val < 64 := (i 0).isLt
    have hi1 : (i 1).val < 3584 := (i 1).isLt
    obtain ⟨t, hft, ht⟩ := idx_onto11 ⟨(i 0).val / 64 - 0, by omega⟩ ⟨(i 1).val / 3584 - 0, by omega⟩
    have q0 : win0_11.index t (0 : Fin 2) = (i 0).val / 64 - 0 + 0 := congrFun ht 0
    have q1 : win0_11.index t (1 : Fin 2) = (i 1).val / 3584 - 0 + 0 := congrFun ht 1
    refine ⟨t, hft, ?_⟩
    rw [mem_blk11]
    intro a
    match a with
    | ⟨0, _⟩ => show win0_11.index t (0 : Fin 2) * 64 ≤ (i 0).val ∧ (i 0).val < win0_11.index t (0 : Fin 2) * 64 + 64; omega
    | ⟨1, _⟩ => show win0_11.index t (1 : Fin 2) * 3584 ≤ (i 1).val ∧ (i 1).val < win0_11.index t (1 : Fin 2) * 3584 + 3584; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 64 := (i 0).isLt; have h1 : (i 1).val < 3584 := (i 1).isLt; omega))

/-- Output 11 is written back ONCE, at the last point, and its block is its array: the array after the run is output 11's
    component of the fold over the whole grid — where a hand proof over this window starts. -/
theorem G11_last (c : Dev nD) :
    G11 m c = (Pipeline.accAt (fun n h => stAt0 m c n h junk0) (stAt0 m c) 0 887 (lt_of_lt_of_eq (by decide) N_0.symm)).2.2.1 := by
  funext i
  have hi0 : (i 0).val < 64 := (i 0).isLt
  have hi1 : (i 1).val < 3584 := (i 1).isLt
  have hp : pt11Of i = 887 := by
    show 888 * (1 * ((i 0).val / 64 - 0) + 1 * ((i 1).val / 3584 - 0)) + 887 = _
    omega
  have hl : loc11Of i = i := by
    funext a; apply Fin.ext
    match a with
    | ⟨0, _⟩ => show (i 0).val % 64 = (i 0).val; omega
    | ⟨1, _⟩ => show (i 1).val % 3584 = (i 1).val; omega
  unfold G11
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3_0) = G9 m c
      ∧ r.2.mem ((c : Thread nD τ).loc main_v3_1) = G10 m c
      ∧ r.2.mem ((c : Thread nD τ).loc main_v3_2) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.DxIdeal.Value

end
-- ==== Proof.NormMath.lean ====
/-
  The root-mean-square normalisation of one row of length 3584 and the gradient through it, over the reals, as the certificates
  of this directory state it: the row is a function of its lane. No claim is stated here.
-/
module

public import Idealize.ShloMosaic.PureOps.Ideal.Laws

@[expose] public section

noncomputable section

namespace Cert.RowNorm

open Idealize.ShloMosaic
open scoped BigOperators

/-- The length of a row, as the constant the programs divide by. -/
def len : EReal := Ideal.ofBits .f32 0x45600000#32

/-- The constant added under the root. -/
def eps : EReal := Ideal.ofBits .f32 0x3727C5AC#32

/-- The reciprocal of the row's root mean square. -/
def rstd (x : Fin 3584 → EReal) : EReal :=
  Ideal.div 1 (Ideal.sqrt (Ideal.div (∑ k, x k * x k) len + eps))

/-- The mean of the scaled gradient times the normalised row. -/
def corr (g x w : Fin 3584 → EReal) : EReal :=
  Ideal.div (∑ k, g k * w k * (x k * rstd x)) len

/-- The row's input gradient: the incoming one plus the gradient through the normalisation. -/
def grad (g x w y : Fin 3584 → EReal) (d : Fin 3584) : EReal :=
  y d + rstd x * (g d * w d - x d * rstd x * corr g x w)

end Cert.RowNorm
-- ==== Proof.DxPay.lean ====
/-
  What the input-gradient kernel's expressions compute over the reals, read at an index.
-/
module

public import proofs.«01_k».proof.Proof.Gen.DxIdeal.Skeleton
public import proofs.«01_k».proof.Proof.NormMath
public import Idealize.ShloMosaic.Lib.Pointwise

@[expose] public section

noncomputable section

namespace Cert.DxIdeal.Hand

open Idealize.ShloMosaic Cert.DxIdeal Cert.DxIdeal.Gen Cert.RowNorm
open scoped BigOperators

theorem pay1_apply (i : S512x3584.Idx) : (k0_pay1 (F := Ideal)) i = 0 := by
  unfold k0_pay1; pointwise

theorem pay3_apply (i : S64x3584.Idx) : (k0_pay3 (F := Ideal)) i = 0 := by
  unfold k0_pay3; pointwise

/-- The products of a tile of the two gradients with the tiles of the two projections, transposed. -/
def accTerm (x : Vec Ideal S512x512 .bf16) (p : Vec Ideal S3584x512 .bf16) (y : Vec Ideal S512x512 .bf16)
    (q : Vec Ideal S3584x512 .bf16) (i : S512x3584.Idx) : EReal :=
  ∑ k : Fin 512, x (ix2 (i 0) k) * p (ix2 (i 1) k) + ∑ k : Fin 512, y (ix2 (i 0) k) * q (ix2 (i 1) k)

/-- The accumulator after one contraction tile. -/
theorem pay2_apply (acc : Vec Ideal S512x3584 .f32) (x : Vec Ideal S512x512 .bf16) (p : Vec Ideal S3584x512 .bf16)
    (y : Vec Ideal S512x512 .bf16) (q : Vec Ideal S3584x512 .bf16) (i : S512x3584.Idx) :
    k0_pay2 acc x p y q i = acc i + accTerm x p y q i := by
  unfold k0_pay2 accTerm
  pointwise

theorem pay8_apply (x : Vec Ideal S128x3584 .bf16) (i : S128x1.Idx) :
    k0_pay8 x i = rstd fun k => x (ix2 (i 0) k) := by
  unfold k0_pay8 k0_pay7 rstd len eps
  pointwise

/-- The gradient of the normalised row before its scale: the accumulator plus the low-rank product. -/
def dhRow (acc : Vec Ideal S128x3584 .f32) (z : Vec Ideal S128x128 .bf16) (b : Vec Ideal S128x3584 .bf16) (r : Fin 128) :
    Fin 3584 → EReal :=
  fun d => acc (ix2 r d) + ∑ k : Fin 128, z (ix2 r k) * b (ix2 k d)

/-- The correction one row takes. -/
theorem corr_apply (z : Vec Ideal S128x128 .bf16) (acc : Vec Ideal S128x3584 .f32) (b x : Vec Ideal S128x3584 .bf16)
    (w : Vec Ideal S1x3584 .f32) (i : S128x1.Idx) :
    k0_pay4 (k0_pay12 z acc b x w) (k0_pay13 (F := Ideal)) i
      = corr (dhRow acc z b (i 0)) (fun k => x (ix2 (i 0) k)) fun k => w (ix2 0 k) := by
  unfold k0_pay4 k0_pay12 k0_pay11 k0_pay9 k0_pay7 k0_pay13 corr dhRow len
  pointwise
  simp only [pay8_apply]
  rfl

/-- The input gradient of one row. -/
theorem grad_apply (z : Vec Ideal S128x128 .bf16) (acc : Vec Ideal S128x3584 .f32) (b x y : Vec Ideal S128x3584 .bf16)
    (w : Vec Ideal S1x3584 .f32) (i : S128x3584.Idx) :
    k0_pay5 (k0_pay8 x) (k0_pay9 x) (k0_pay11 z acc b w) (k0_pay12 z acc b x w) (k0_pay13 (F := Ideal)) y i
      = grad (dhRow acc z b (i 0)) (fun k => x (ix2 (i 0) k)) (fun k => w (ix2 0 k)) (fun k => y (ix2 (i 0) k)) (i 1) := by
  have hc := corr_apply z acc b x w (ix2 (i 0) 0)
  unfold k0_pay5
  pointwise
  rw [hc, pay8_apply]
  unfold k0_pay11 k0_pay9 k0_pay7 grad dhRow
  pointwise
  rw [pay8_apply]
  rfl

/-- What one chunk of rows adds to the gradient of the stacked first factors. -/
def daTerm (z : Vec Ideal S128x128 .bf16) (x : Vec Ideal S128x3584 .bf16) (w : Vec Ideal S1x3584 .f32) (i : S64x3584.Idx) : EReal :=
  ∑ k : Fin 128, z (ix2 k ⟨32 + (i 0).val, by have : (i 0).val < 64 := (i 0).isLt; omega⟩)
    * (x (ix2 k (i 1)) * rstd (fun l => x (ix2 k l)) * w (ix2 0 (i 1)))

theorem pay6_apply (z : Vec Ideal S128x128 .bf16) (x : Vec Ideal S128x3584 .bf16) (w : Vec Ideal S1x3584 .f32)
    (da : Vec Ideal S64x3584 .f32) (i : S64x3584.Idx) :
    k0_pay6 z (k0_pay10 x w) da i = da i + daTerm z x w i := by
  unfold k0_pay6 k0_pay10 k0_pay9 k0_pay7 daTerm
  pointwise
  simp only [pay8_apply]
  rfl

end Cert.DxIdeal.Hand
-- ==== Proof.DxTrips.lean ====
/-
  The row loop of the input-gradient kernel over the reals: what its four trips leave in the three results, the accumulator
  and the operands being given.
-/
module

public import proofs.«01_k».proof.Proof.Gen.DxIdeal.Loops
public import proofs.«01_k».proof.Proof.DxPay
public import Idealize.ShloMosaic.Lib.VecWindow
public import Idealize.ShloMosaic.Lib.Pipeline.ValueKit.Acc

@[expose] public section

set_option maxRecDepth 16384

noncomputable section

namespace Cert.DxIdeal.Hand

open Idealize.ShloMosaic Idealize.ShloMosaic.TcCoe Cert.DxIdeal Cert.DxIdeal.Gen Cert.RowNorm
open scoped BigOperators

/-- The gradient of the normalised row before its scale: the accumulator plus the low-rank product. -/
def dhBig (s : Vec Ideal S512x3584 .f32) (z : Vec Ideal S512x128 .bf16) (b : Vec Ideal S128x3584 .bf16) (r : Fin 512) :
    Fin 3584 → EReal :=
  fun d => s (ix2 r d) + ∑ k : Fin 128, z (ix2 r k) * b (ix2 k d)

/-- The input gradient of a row tile. -/
def gradVal (s : Vec Ideal S512x3584 .f32) (z : Vec Ideal S512x128 .bf16) (b : Vec Ideal S128x3584 .bf16)
    (x y : Vec Ideal S512x3584 .bf16) (w : Vec Ideal S1x3584 .f32) : Vec Ideal S512x3584 .bf16 :=
  fun i => grad (dhBig s z b (i 0)) (fun k => x (ix2 (i 0) k)) (fun k => w (ix2 0 k)) (fun k => y (ix2 (i 0) k)) (i 1)

/-- The corrections of a row tile. -/
def corrVal (s : Vec Ideal S512x3584 .f32) (z : Vec Ideal S512x128 .bf16) (b : Vec Ideal S128x3584 .bf16)
    (x : Vec Ideal S512x3584 .bf16) (w : Vec Ideal S1x3584 .f32) : Vec Ideal S512x1 .f32 :=
  fun i => corr (dhBig s z b (i 0)) (fun k => x (ix2 (i 0) k)) fun k => w (ix2 0 k)

theorem gradVal_apply (s : Vec Ideal S512x3584 .f32) (z : Vec Ideal S512x128 .bf16) (b : Vec Ideal S128x3584 .bf16)
    (x y : Vec Ideal S512x3584 .bf16) (w : Vec Ideal S1x3584 .f32) (r : Fin 512) (d : Fin 3584) :
    gradVal s z b x y w (ix2 r d)
      = grad (dhBig s z b r) (fun k => x (ix2 r k)) (fun k => w (ix2 0 k)) (fun k => y (ix2 r k)) d := rfl

theorem corrVal_apply (s : Vec Ideal S512x3584 .f32) (z : Vec Ideal S512x128 .bf16) (b : Vec Ideal S128x3584 .bf16)
    (x : Vec Ideal S512x3584 .bf16) (w : Vec Ideal S1x3584 .f32) (r : Fin 512) (d : Fin 1) :
    corrVal s z b x w (ix2 r d) = corr (dhBig s z b r) (fun k => x (ix2 r k)) fun k => w (ix2 0 k) := rfl

/-- What one row adds to the gradient of the stacked first factors. -/
def daRow (z : Vec Ideal S512x128 .bf16) (x : Vec Ideal S512x3584 .bf16) (w : Vec Ideal S1x3584 .f32) (i : S64x3584.Idx)
    (r : Fin 512) : EReal :=
  z (ix2 r ⟨32 + (i 0).val, by have : (i 0).val < 64 := (i 0).isLt; omega⟩)
    * (x (ix2 r (i 1)) * rstd (fun l => x (ix2 r l)) * w (ix2 0 (i 1)))

/-- What the rows of trip `n` add to it. -/
def daChunk (z : Vec Ideal S512x128 .bf16) (x : Vec Ideal S512x3584 .bf16) (w : Vec Ideal S1x3584 .f32) (i : S64x3584.Idx)
    (n : ℕ) : EReal :=
  if h : n < 4 then ∑ k : Fin 128, daRow z x w i ⟨n * 128 + k.val, by omega⟩ else 0

/-- The four trips' rows are the tile's rows. -/
theorem daChunk_sum (z : Vec Ideal S512x128 .bf16) (x : Vec Ideal S512x3584 .bf16) (w : Vec Ideal S1x3584 .f32) (i : S64x3584.Idx) :
    ∑ n ∈ Finset.range 4, daChunk z x w i n = ∑ r : Fin 512, daRow z x w i r := by
  rw [← Fin.sum_univ_eq_sum_range, ← Fin.sum_mul_add_fin 4 128 (daRow z x w i)]
  refine Finset.sum_congr rfl fun s _ => ?_
  unfold daChunk
  rw [dif_pos s.isLt]

theorem off1_eq : ∀ k : Fin k0_t1_loop.trips, k0_off1 k = ![128 * k.val, 0] := by decide +kernel
theorem off2_eq : ∀ k : Fin k0_t1_loop.trips, k0_off2 k = ![128 * k.val, 0] := by decide +kernel
theorem off3_eq : ∀ k : Fin k0_t1_loop.trips, k0_off3 k = ![128 * k.val, 0] := by decide +kernel
theorem trips_eq : k0_t1_loop.trips = 4 := by decide +kernel

/-- The tile's row a trip's row is. -/
def rowOf (k : Fin k0_t1_loop.trips) (r : Fin 128) : Fin 512 :=
  ⟨128 * k.val + r.val, by have := k.isLt; have h : k0_t1_loop.trips = 4 := trips_eq; omega⟩

/-- Where a trip's rectangles sit. -/
theorem emb1 (i : grid0.Coords) (h2 : k0_cond2 i = 1#1) (k : Fin k0_t1_loop.trips) (j : S128x128.Idx) :
    (Rect.unit (s := S512x128) (k0_off1 k) S128x128.size (k0_off1_inb i k h2)).emb j = ix2 (rowOf k (j 0)) (j 1) := by
  have h0 := congrFun (off1_eq k) 0
  have h1 := congrFun (off1_eq k) 1
  funext a; apply Fin.ext
  match a with
  | ⟨0, _⟩ => show k0_off1 k 0 + 1 * (j 0).val = 128 * k.val + (j 0).val; rw [h0, one_mul]; rfl
  | ⟨1, _⟩ => show k0_off1 k 1 + 1 * (j 1).val = (j 1).val; rw [h1, one_mul]; exact Nat.zero_add _

theorem emb2 (i : grid0.Coords) (h2 : k0_cond2 i = 1#1) (k : Fin k0_t1_loop.trips) (j : S128x3584.Idx) :
    (Rect.unit (s := S512x3584) (k0_off2 k) S128x3584.size (k0_off2_inb i k h2)).emb j = ix2 (rowOf k (j 0)) (j 1) := by
  have h0 := congrFun (off2_eq k) 0
  have h1 := congrFun (off2_eq k) 1
  funext a; apply Fin.ext
  match a with
  | ⟨0, _⟩ => show k0_off2 k 0 + 1 * (j 0).val = 128 * k.val + (j 0).val; rw [h0, one_mul]; rfl
  | ⟨1, _⟩ => show k0_off2 k 1 + 1 * (j 1).val = (j 1).val; rw [h1, one_mul]; exact Nat.zero_add _

theorem emb3 (i : grid0.Coords) (h2 : k0_cond2 i = 1#1) (k : Fin k0_t1_loop.trips) (j : S128x1.Idx) :
    (Rect.unit (s := S512x1) (k0_off3 k) S128x1.size (k0_off3_inb i k h2)).emb j = ix2 (rowOf k (j 0)) (j 1) := by
  have h0 := congrFun (off3_eq k) 0
  have h1 := congrFun (off3_eq k) 1
  funext a; apply Fin.ext
  match a with
  | ⟨0, _⟩ => show k0_off3 k 0 + 1 * (j 0).val = 128 * k.val + (j 0).val; rw [h0, one_mul]; rfl
  | ⟨1, _⟩ => show k0_off3 k 1 + 1 * (j 1).val = (j 1).val; rw [h1, one_mul]; exact Nat.zero_add _

section Trip

variable (c : Dev nD) (i : grid0.Coords)
  (arg2 : Memref sig .tc .vmem S512x512 .bf16) (harg2 : arg2.IsWhole) (arg3 : Memref sig .tc .vmem S512x512 .bf16) (harg3 : arg3.IsWhole)
  (arg4 : Memref sig .tc .vmem S3584x512 .bf16) (harg4 : arg4.IsWhole) (arg5 : Memref sig .tc .vmem S3584x512 .bf16) (harg5 : arg5.IsWhole)
  (arg6 : Memref sig .tc .vmem S512x128 .bf16) (harg6 : arg6.IsWhole) (arg7 : Memref sig .tc .vmem S128x3584 .bf16) (harg7 : arg7.IsWhole)
  (arg8 : Memref sig .tc .vmem S512x3584 .bf16) (harg8 : arg8.IsWhole) (arg9 : Memref sig .tc .vmem S512x3584 .bf16) (harg9 : arg9.IsWhole)
  (arg10 : Memref sig .tc .vmem S1x3584 .f32) (harg10 : arg10.IsWhole) (arg11 : Memref sig .tc .vmem S512x3584 .bf16) (harg11 : arg11.IsWhole)
  (arg12 : Memref sig .tc .vmem S512x1 .f32) (harg12 : arg12.IsWhole) (arg13 : Memref sig .tc .vmem S64x3584 .f32) (harg13 : arg13.IsWhole)
  (arg14 : Memref sig .tc .vmem S512x3584 .f32) (harg14 : arg14.IsWhole) (h2 : k0_cond2 i = 1#1)
  (z : Vec Ideal S512x128 .bf16) (b : Vec Ideal S128x3584 .bf16) (x y : Vec Ideal S512x3584 .bf16) (w : Vec Ideal S1x3584 .f32)
  (X : BufTy.Contents (Elt Ideal) arg14.view.ty)

/-- The rows one trip reads of a row tile's operands. -/
abbrev zRows (k : Fin k0_t1_loop.trips) : Vec Ideal S128x128 .bf16 :=
  arg6.view.readAt (Elt Ideal) (Rect.unit (s := S512x128) (k0_off1 k) S128x128.size (k0_off1_inb i k h2)).toLoadRect (harg6.unread z)
abbrev sRows (k : Fin k0_t1_loop.trips) : Vec Ideal S128x3584 .f32 :=
  arg14.view.readAt (Elt Ideal) (Rect.unit (s := S512x3584) (k0_off2 k) S128x3584.size (k0_off2_inb i k h2)).toLoadRect X
abbrev xRows (k : Fin k0_t1_loop.trips) : Vec Ideal S128x3584 .bf16 :=
  arg8.view.readAt (Elt Ideal) (Rect.unit (s := S512x3584) (k0_off2 k) S128x3584.size (k0_off2_inb i k h2)).toLoadRect (harg8.unread x)
abbrev yRows (k : Fin k0_t1_loop.trips) : Vec Ideal S128x3584 .bf16 :=
  arg9.view.readAt (Elt Ideal) (Rect.unit (s := S512x3584) (k0_off2 k) S128x3584.size (k0_off2_inb i k h2)).toLoadRect (harg9.unread y)
abbrev bAll : Vec Ideal S128x3584 .bf16 :=
  arg7.view.readAt (Elt Ideal) (Rect.unit (s := S128x3584) ![0, 0] S128x3584.size inb_S128x3584_S128x3584_0_0).toLoadRect (harg7.unread b)
abbrev wAll : Vec Ideal S1x3584 .f32 :=
  arg10.view.readAt (Elt Ideal) (Rect.unit (s := S1x3584) ![0, 0] S1x3584.size inb_S1x3584_S1x3584_0_0).toLoadRect (harg10.unread w)

theorem bAll_eq : bAll arg7 harg7 b = b := by
  unfold bAll; rw [View.readAt_full, harg7.read_unread]
theorem wAll_eq : wAll arg10 harg10 w = w := by
  unfold wAll; rw [View.readAt_full, harg10.read_unread]
theorem zRows_apply (k : Fin k0_t1_loop.trips) (r : Fin 128) (q : Fin 128) :
    zRows i arg6 harg6 h2 z k (ix2 r q) = z (ix2 (rowOf k r) q) := by
  show arg6.view.read (Elt Ideal) (harg6.unread z) ((Rect.unit (s := S512x128) (k0_off1 k) S128x128.size (k0_off1_inb i k h2)).emb (ix2 r q)) = _
  rw [emb1 i h2 k, harg6.read_unread]; rfl
theorem sRows_apply (k : Fin k0_t1_loop.trips) (r : Fin 128) (q : Fin 3584) :
    sRows i arg14 h2 X k (ix2 r q) = (arg14.view.read (Elt Ideal) X : Vec Ideal S512x3584 .f32) (ix2 (rowOf k r) q) := by
  show arg14.view.read (Elt Ideal) X ((Rect.unit (s := S512x3584) (k0_off2 k) S128x3584.size (k0_off2_inb i k h2)).emb (ix2 r q)) = _
  rw [emb2 i h2 k]; rfl
theorem xRows_apply (k : Fin k0_t1_loop.trips) (r : Fin 128) (q : Fin 3584) :
    xRows i arg8 harg8 h2 x k (ix2 r q) = x (ix2 (rowOf k r) q) := by
  show arg8.view.read (Elt Ideal) (harg8.unread x) ((Rect.unit (s := S512x3584) (k0_off2 k) S128x3584.size (k0_off2_inb i k h2)).emb (ix2 r q)) = _
  rw [emb2 i h2 k, harg8.read_unread]; rfl
theorem yRows_apply (k : Fin k0_t1_loop.trips) (r : Fin 128) (q : Fin 3584) :
    yRows i arg9 harg9 h2 y k (ix2 r q) = y (ix2 (rowOf k r) q) := by
  show arg9.view.read (Elt Ideal) (harg9.unread y) ((Rect.unit (s := S512x3584) (k0_off2 k) S128x3584.size (k0_off2_inb i k h2)).emb (ix2 r q)) = _
  rw [emb2 i h2 k, harg9.read_unread]; rfl

/-- The scaled row gradient a trip's row uses is the tile's. -/
theorem dhRow_eq (k : Fin k0_t1_loop.trips) (r : Fin 128) :
    dhRow (sRows i arg14 h2 X k) (zRows i arg6 harg6 h2 z k) b r
      = dhBig (arg14.view.read (Elt Ideal) X) z b (rowOf k r) := by
  funext d
  unfold dhRow dhBig
  rw [sRows_apply i arg14 h2 X k r d]
  exact congrArg _ (Finset.sum_congr rfl fun q _ => congrArg (· * b (ix2 q d)) (zRows_apply i arg6 harg6 h2 z k r q))

/-- One trip: a store of the chunk's rows into each row-wise result, and one of the whole accumulated gradient. -/
theorem tripL_eq (k : Fin k0_t1_loop.trips) (f11 : BufTy.Contents (Elt Ideal) arg11.view.ty) (f12 : BufTy.Contents (Elt Ideal) arg12.view.ty)
    (f13 : BufTy.Contents (Elt Ideal) arg13.view.ty) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X k f11 f12 f13
      = ([⟨Rect.unit (s := S512x3584) (k0_off2 k) S128x3584.size (k0_off2_inb i k h2),
            k0_pay5 (k0_pay8 (xRows i arg8 harg8 h2 x k)) (k0_pay9 (xRows i arg8 harg8 h2 x k))
              (k0_pay11 (zRows i arg6 harg6 h2 z k) (sRows i arg14 h2 X k) (bAll arg7 harg7 b) (wAll arg10 harg10 w))
              (k0_pay12 (zRows i arg6 harg6 h2 z k) (sRows i arg14 h2 X k) (bAll arg7 harg7 b) (xRows i arg8 harg8 h2 x k) (wAll arg10 harg10 w))
              (k0_pay13 (F := Ideal)) (yRows i arg9 harg9 h2 y k)⟩],
         [⟨Rect.unit (s := S512x1) (k0_off3 k) S128x1.size (k0_off3_inb i k h2),
            k0_pay4 (k0_pay12 (zRows i arg6 harg6 h2 z k) (sRows i arg14 h2 X k) (bAll arg7 harg7 b) (xRows i arg8 harg8 h2 x k) (wAll arg10 harg10 w))
              (k0_pay13 (F := Ideal))⟩],
         [⟨Rect.unit (s := S64x3584) ![0, 0] S64x3584.size inb_S64x3584_S64x3584_0_0,
            k0_pay6 (zRows i arg6 harg6 h2 z k) (k0_pay10 (xRows i arg8 harg8 h2 x k) (wAll arg10 harg10 w))
              (arg13.view.readAt (Elt Ideal) (Rect.unit (s := S64x3584) ![0, 0] S64x3584.size inb_S64x3584_S64x3584_0_0).toLoadRect f13)⟩]) := by
  unfold tripL_k0_t1 trip_k0_t1
  dsimp only
  rfl

/-- A trip's pieces of the input gradient agree with the closed form. -/
theorem trip_dx (k : Fin k0_t1_loop.trips) (j : S128x3584.Idx) :
    k0_pay5 (k0_pay8 (xRows i arg8 harg8 h2 x k)) (k0_pay9 (xRows i arg8 harg8 h2 x k))
        (k0_pay11 (zRows i arg6 harg6 h2 z k) (sRows i arg14 h2 X k) (bAll arg7 harg7 b) (wAll arg10 harg10 w))
        (k0_pay12 (zRows i arg6 harg6 h2 z k) (sRows i arg14 h2 X k) (bAll arg7 harg7 b) (xRows i arg8 harg8 h2 x k) (wAll arg10 harg10 w))
        (k0_pay13 (F := Ideal)) (yRows i arg9 harg9 h2 y k) j
      = gradVal (arg14.view.read (Elt Ideal) X) z b x y w
          ((Rect.unit (s := S512x3584) (k0_off2 k) S128x3584.size (k0_off2_inb i k h2)).emb j) := by
  rw [bAll_eq, wAll_eq]
  refine (grad_apply _ _ _ _ _ _ _).trans (Eq.trans ?_ (congrArg (gradVal (arg14.view.read (Elt Ideal) X) z b x y w) (emb2 i h2 k j).symm))
  exact congr (congr (congr (congr (congrArg grad (dhRow_eq i arg6 harg6 arg14 h2 z b X k (j 0)))
    (funext fun l => xRows_apply i arg8 harg8 h2 x k (j 0) l)) rfl)
    (funext fun l => yRows_apply i arg9 harg9 h2 y k (j 0) l)) rfl

theorem trip_c (k : Fin k0_t1_loop.trips) (j : S128x1.Idx) :
    k0_pay4 (k0_pay12 (zRows i arg6 harg6 h2 z k) (sRows i arg14 h2 X k) (bAll arg7 harg7 b) (xRows i arg8 harg8 h2 x k) (wAll arg10 harg10 w))
        (k0_pay13 (F := Ideal)) j
      = corrVal (arg14.view.read (Elt Ideal) X) z b x w
          ((Rect.unit (s := S512x1) (k0_off3 k) S128x1.size (k0_off3_inb i k h2)).emb j) := by
  rw [bAll_eq, wAll_eq]
  refine (corr_apply _ _ _ _ _ _).trans (Eq.trans ?_ (congrArg (corrVal (arg14.view.read (Elt Ideal) X) z b x w) (emb3 i h2 k j).symm))
  exact congr (congr (congrArg corr (dhRow_eq i arg6 harg6 arg14 h2 z b X k (j 0)))
    (funext fun l => xRows_apply i arg8 harg8 h2 x k (j 0) l)) rfl

theorem trip_da (k : Fin k0_t1_loop.trips) (d : Vec Ideal S64x3584 .f32) (j : S64x3584.Idx) :
    k0_pay6 (zRows i arg6 harg6 h2 z k) (k0_pay10 (xRows i arg8 harg8 h2 x k) (wAll arg10 harg10 w)) d j
      = d j + daChunk z x w j k.val := by
  rw [pay6_apply, wAll_eq]
  unfold daTerm daChunk daRow
  rw [dif_pos (lt_of_lt_of_eq k.isLt trips_eq)]
  refine congrArg _ (Finset.sum_congr rfl fun q _ => ?_)
  rw [zRows_apply i arg6 harg6 h2 z k q]
  have hx : ∀ l : Fin 3584, xRows i arg8 harg8 h2 x k (ix2 q l) = x (ix2 (rowOf k q) l) :=
    fun l => xRows_apply i arg8 harg8 h2 x k q l
  rw [funext hx, hx (j 1)]
  have e : rowOf k q = ⟨k.val * 128 + q.val, by have := k.isLt; have h : k0_t1_loop.trips = 4 := trips_eq; omega⟩ :=
    Fin.ext (by show 128 * k.val + q.val = k.val * 128 + q.val; omega)
  rw [e]

variable (f11 : BufTy.Contents (Elt Ideal) arg11.view.ty) (f12 : BufTy.Contents (Elt Ideal) arg12.view.ty)
  (f13 : BufTy.Contents (Elt Ideal) arg13.view.ty)

/-- The pieces of the trips before `n`: those of the row-wise results agree with the closed forms and cover the first `128 n`
    rows, and the accumulated gradient has taken the trips' rows. -/
theorem pb_pieces : ∀ n : ℕ, n ≤ k0_t1_loop.trips →
    ((∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 n).1, ∀ j : p.1.shape.Idx, p.2 j = gradVal (arg14.view.read (Elt Ideal) X) z b x y w (p.1.emb j))
      ∧ ∀ j : S512x3584.Idx, (j 0).val / 128 < n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 n).1, j ∈ p.1.set)
    ∧ ((∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 n).2.1, ∀ j : p.1.shape.Idx, p.2 j = corrVal (arg14.view.read (Elt Ideal) X) z b x w (p.1.emb j))
      ∧ ∀ j : S512x1.Idx, (j 0).val / 128 < n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 n).2.1, j ∈ p.1.set)
    ∧ ∀ (j : S64x3584.Idx), (arg13.view.read (Elt Ideal) (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 n).2.2) : Vec Ideal S64x3584 .f32) j
        = (arg13.view.read (Elt Ideal) f13 : Vec Ideal S64x3584 .f32) j + ∑ l ∈ Finset.range n, daChunk z x w j l := by
  intro n
  induction n with
  | zero =>
    intro _
    rw [pb_k0_t1.eq_1]
    refine ⟨⟨fun p hp => absurd hp (List.not_mem_nil), fun j hj => absurd hj (Nat.not_lt_zero _)⟩,
      ⟨fun p hp => absurd hp (List.not_mem_nil), fun j hj => absurd hj (Nat.not_lt_zero _)⟩, fun j => ?_⟩
    rw [View.writes_nil, Finset.sum_range_zero, add_zero]
  | succ n ih =>
    intro hn
    obtain ⟨⟨a1, a2⟩, ⟨b1, b2⟩, d⟩ := ih (by omega)
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 ⟨n, hn⟩
    rw [tripL_eq] at e
    dsimp only at e
    rw [e]
    refine ⟨⟨fun p hp => ?_, fun j hj => ?_⟩, ⟨fun p hp => ?_, fun j hj => ?_⟩, fun j => ?_⟩
    · rcases List.mem_append.mp hp with h | h
      · obtain rfl := List.mem_singleton.mp h
        exact trip_dx i arg6 harg6 arg7 harg7 arg8 harg8 arg9 harg9 arg10 harg10 arg14 h2 z b x y w X ⟨n, hn⟩
      · exact a1 p h
    · by_cases h : (j 0).val / 128 = n
      · refine ⟨_, List.mem_append_left _ (List.mem_singleton_self _), ?_⟩
        rw [Rect.mem_set_unit]
        have h0 := congrFun (off2_eq ⟨n, hn⟩) 0
        have h1 := congrFun (off2_eq ⟨n, hn⟩) 1
        intro a
        match a with
        | ⟨0, _⟩ =>
          show k0_off2 ⟨n, hn⟩ 0 ≤ (j 0).val ∧ (j 0).val < k0_off2 ⟨n, hn⟩ 0 + 128
          rw [h0]; show 128 * n ≤ _ ∧ _ < 128 * n + 128; omega
        | ⟨1, _⟩ =>
          show k0_off2 ⟨n, hn⟩ 1 ≤ (j 1).val ∧ (j 1).val < k0_off2 ⟨n, hn⟩ 1 + 3584
          rw [h1]; have : (j 1).val < 3584 := (j 1).isLt; show 0 ≤ _ ∧ _ < 0 + 3584; omega
      · obtain ⟨p, hp, hj⟩ := a2 j (by omega)
        exact ⟨p, List.mem_append_right _ hp, hj⟩
    · rcases List.mem_append.mp hp with h | h
      · obtain rfl := List.mem_singleton.mp h
        exact trip_c i arg6 harg6 arg7 harg7 arg8 harg8 arg10 harg10 arg14 h2 z b x w X ⟨n, hn⟩
      · exact b1 p h
    · by_cases h : (j 0).val / 128 = n
      · refine ⟨_, List.mem_append_left _ (List.mem_singleton_self _), ?_⟩
        rw [Rect.mem_set_unit]
        have h0 := congrFun (off3_eq ⟨n, hn⟩) 0
        have h1 := congrFun (off3_eq ⟨n, hn⟩) 1
        intro a
        match a with
        | ⟨0, _⟩ =>
          show k0_off3 ⟨n, hn⟩ 0 ≤ (j 0).val ∧ (j 0).val < k0_off3 ⟨n, hn⟩ 0 + 128
          rw [h0]; show 128 * n ≤ _ ∧ _ < 128 * n + 128; omega
        | ⟨1, _⟩ =>
          show k0_off3 ⟨n, hn⟩ 1 ≤ (j 1).val ∧ (j 1).val < k0_off3 ⟨n, hn⟩ 1 + 1
          rw [h1]; have : (j 1).val < 1 := (j 1).isLt; show 0 ≤ _ ∧ _ < 0 + 1; omega
      · obtain ⟨p, hp, hj⟩ := b2 j (by omega)
        exact ⟨p, List.mem_append_right _ hp, hj⟩
    · refine (congrFun (View.read_writes_full arg13.view f13 inb_S64x3584_S64x3584_0_0 _ _) j).trans ?_
      rw [View.readAt_full]
      refine (trip_da i arg6 harg6 arg8 harg8 arg10 harg10 h2 z x w ⟨n, hn⟩ _ j).trans ?_
      rw [d j, Finset.sum_range_succ, add_assoc]

/-- What the whole loop leaves in the input gradient. -/
theorem loop_dx : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 (Scf.trips k0_t1_loop.lb k0_t1_loop.ub k0_t1_loop.st)).1 = gradVal (arg14.view.read (Elt Ideal) X) z b x y w := by
  have h := (pb_pieces c i arg2 harg2 arg3 harg3 arg4 harg4 arg5 harg5 arg6 harg6 arg7 harg7 arg8 harg8 arg9 harg9 arg10 harg10 arg11 harg11 arg12 harg12 arg13 harg13 arg14 harg14 h2 z b x y w X f11 f12 f13 4 (by rw [trips_eq])).1
  rw [show Scf.trips k0_t1_loop.lb k0_t1_loop.ub k0_t1_loop.st = 4 from trips_eq]
  funext j
  exact View.canon_apply_of_pieces _ _ h.1 j (h.2 j (by have : (j 0).val < 512 := (j 0).isLt; omega))

/-- What the whole loop leaves in the corrections. -/
theorem loop_c : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 (Scf.trips k0_t1_loop.lb k0_t1_loop.ub k0_t1_loop.st)).2.1 = corrVal (arg14.view.read (Elt Ideal) X) z b x w := by
  have h := (pb_pieces c i arg2 harg2 arg3 harg3 arg4 harg4 arg5 harg5 arg6 harg6 arg7 harg7 arg8 harg8 arg9 harg9 arg10 harg10 arg11 harg11 arg12 harg12 arg13 harg13 arg14 harg14 h2 z b x y w X f11 f12 f13 4 (by rw [trips_eq])).2.1
  rw [show Scf.trips k0_t1_loop.lb k0_t1_loop.ub k0_t1_loop.st = 4 from trips_eq]
  funext j
  exact View.canon_apply_of_pieces _ _ h.1 j (h.2 j (by have : (j 0).val < 512 := (j 0).isLt; omega))

/-- What the trips up to `n` leave in the accumulated gradient, whatever was stored there before. -/
theorem da_upto (L : List (View.Piece (Elt Ideal) S64x3584 .f32)) (j : S64x3584.Idx) (n : ℕ) (hn : n < k0_t1_loop.trips) :
    View.canon ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 (n + 1)).2.2 ++ L) j
      = (arg13.view.read (Elt Ideal) f13 : Vec Ideal S64x3584 .f32) j + ∑ l ∈ Finset.range (n + 1), daChunk z x w j l := by
  have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 ⟨n, hn⟩
  rw [tripL_eq] at e
  dsimp only at e
  have hz : (![0, 0] : Fin 2 → ℕ) = 0 := by funext a; fin_cases a <;> rfl
  rw [e]
  dsimp only
  rw [List.append_assoc, List.singleton_append]
  refine (congrFun (View.canon_cons_unit_zero hz inb_S64x3584_S64x3584_0_0 _ _) j).trans ?_
  rw [View.readAt_full]
  refine (trip_da i arg6 harg6 arg8 harg8 arg10 harg10 h2 z x w ⟨n, hn⟩ _ j).trans ?_
  rw [(pb_pieces c i arg2 harg2 arg3 harg3 arg4 harg4 arg5 harg5 arg6 harg6 arg7 harg7 arg8 harg8 arg9 harg9 arg10 harg10 arg11 harg11 arg12 harg12 arg13 harg13 arg14 harg14 h2 z b x y w X f11 f12 f13 n hn.le).2.2 j, add_assoc]
  exact congrArg _ (Finset.sum_range_succ _ n).symm

/-- What the whole loop leaves in the accumulated gradient: what it held, plus every row of the tile. -/
theorem loop_da (L : List (View.Piece (Elt Ideal) S64x3584 .f32)) (j : S64x3584.Idx) :
    View.canon ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h2 (harg6.unread z) (harg7.unread b) (harg8.unread x) (harg9.unread y) (harg10.unread w) X f11 f12 f13 (Scf.trips k0_t1_loop.lb k0_t1_loop.ub k0_t1_loop.st)).2.2 ++ L) j
      = (arg13.view.read (Elt Ideal) f13 : Vec Ideal S64x3584 .f32) j + ∑ r : Fin 512, daRow z x w j r := by
  obtain ⟨n, hn⟩ : ∃ n, n + 1 = Scf.trips k0_t1_loop.lb k0_t1_loop.ub k0_t1_loop.st := ⟨3, by decide +kernel⟩
  rw [← daChunk_sum z x w j, ← hn, da_upto c i arg2 harg2 arg3 harg3 arg4 harg4 arg5 harg5 arg6 harg6 arg7 harg7 arg8 harg8 arg9 harg9 arg10 harg10 arg11 harg11 arg12 harg12 arg13 harg13 arg14 harg14 h2 z b x y w X f11 f12 f13 L j n (lt_of_lt_of_eq (Nat.lt_succ_self n) hn),
    show n + 1 = 4 from hn.trans trips_eq]

end Trip

end Cert.DxIdeal.Hand
-- ==== Proof.DxFold.lean ====
/-
  What each grid point of the input-gradient kernel leaves in its windows and its accumulator, over the reals.
-/
module

public import proofs.«01_k».proof.Proof.DxIdealFrame
public import proofs.«01_k».proof.Proof.DxTrips

@[expose] public section

set_option maxRecDepth 16384

noncomputable section

namespace Cert.DxIdeal.Hand

open Idealize.ShloMosaic Idealize.ShloMosaic.TcCoe Cert.DxIdeal Cert.DxIdeal.Gen
open scoped BigOperators

variable (m : (ℓ : Loc nD τ sig) → Buf (Elt Ideal) ℓ)

/-- Reading the whole scratch back. -/
theorem scM0_0_read (h : (scM0_0).IsWhole) (X : Vec Ideal S512x3584 .f32) :
    View.read (Elt Ideal) (View.whole cc0_scratch0) (h.unread X) = X := h.read_unread X

theorem acc_A (c : Dev nD) (t : Fin cfg0.N) (h0 : t.val % 37 = 0) (h1 : ¬t.val % 37 = 36) :
    (outsAt0 m c t.val t.isLt).2.2.2
      = k0_pay2 (k0_pay1 (F := Ideal)) (iblk m c 0 t) (iblk m c 2 t) (iblk m c 1 t) (iblk m c 3 t) := by
  rw [outsAt0_A m c t h0 h1]; frame_out

theorem acc_B (c : Dev nD) (t : Fin cfg0.N) (h0 : ¬t.val % 37 = 0) (h1 : ¬t.val % 37 = 36) :
    (outsAt0 m c t.val t.isLt).2.2.2
      = k0_pay2 (outsAt0 m c (t.val - 1) (Nat.lt_of_le_of_lt (Nat.sub_le _ _) t.isLt)).2.2.2 (iblk m c 0 t) (iblk m c 2 t) (iblk m c 1 t) (iblk m c 3 t) := by
  rw [outsAt0_B m c t h0 h1]; frame_out; rw [scM0_0_read]

theorem acc_C (c : Dev nD) (t : Fin cfg0.N) (h0 : ¬t.val % 37 = 0) (h1 : t.val % 37 = 36) (h2 : t.val < 37) :
    (outsAt0 m c t.val t.isLt).2.2.2
      = k0_pay2 (outsAt0 m c (t.val - 1) (Nat.lt_of_le_of_lt (Nat.sub_le _ _) t.isLt)).2.2.2 (iblk m c 0 t) (iblk m c 2 t) (iblk m c 1 t) (iblk m c 3 t) := by
  rw [outsAt0_C m c t h0 h1 h2]; frame_out; rw [scM0_0_read]

theorem acc_D (c : Dev nD) (t : Fin cfg0.N) (h0 : ¬t.val % 37 = 0) (h1 : t.val % 37 = 36) (h2 : ¬t.val < 37) :
    (outsAt0 m c t.val t.isLt).2.2.2
      = k0_pay2 (outsAt0 m c (t.val - 1) (Nat.lt_of_le_of_lt (Nat.sub_le _ _) t.isLt)).2.2.2 (iblk m c 0 t) (iblk m c 2 t) (iblk m c 1 t) (iblk m c 3 t) := by
  rw [outsAt0_D m c t h0 h1 h2]; frame_out; rw [scM0_0_read]

theorem da_A (c : Dev nD) (t : Fin cfg0.N) (h0 : t.val % 37 = 0) (h1 : ¬t.val % 37 = 36) :
    (outsAt0 m c t.val t.isLt).2.2.1 = (outsAt0 m c (t.val - 1) (Nat.lt_of_le_of_lt (Nat.sub_le _ _) t.isLt)).2.2.1 := by
  rw [outsAt0_A m c t h0 h1]; rfl

theorem da_B (c : Dev nD) (t : Fin cfg0.N) (h0 : ¬t.val % 37 = 0) (h1 : ¬t.val % 37 = 36) :
    (outsAt0 m c t.val t.isLt).2.2.1 = (outsAt0 m c (t.val - 1) (Nat.lt_of_le_of_lt (Nat.sub_le _ _) t.isLt)).2.2.1 := by
  rw [outsAt0_B m c t h0 h1]; rfl

theorem dx_C (c : Dev nD) (t : Fin cfg0.N) (h0 : ¬t.val % 37 = 0) (h1 : t.val % 37 = 36) (h2 : t.val < 37) :
    (outsAt0 m c t.val t.isLt).1
      = gradVal (outsAt0 m c t.val t.isLt).2.2.2 (iblk m c 4 t) (iblk m c 5 t) (iblk m c 6 t) (iblk m c 7 t) (iblk m c 8 t) := by
  rw [acc_C m c t h0 h1 h2, outsAt0_C m c t h0 h1 h2]
  dsimp only
  frame_out
  refine (loop_dx ..).trans ?_
  rw [View.read_writes_junk_eq_canon, scM0_0_read]
  exact congrArg (fun s => gradVal s _ _ _ _ _) (View.canon_unit_zero (by funext a; fin_cases a <;> rfl) _ _)

theorem c_C (c : Dev nD) (t : Fin cfg0.N) (h0 : ¬t.val % 37 = 0) (h1 : t.val % 37 = 36) (h2 : t.val < 37) :
    (outsAt0 m c t.val t.isLt).2.1
      = corrVal (outsAt0 m c t.val t.isLt).2.2.2 (iblk m c 4 t) (iblk m c 5 t) (iblk m c 6 t) (iblk m c 8 t) := by
  rw [acc_C m c t h0 h1 h2, outsAt0_C m c t h0 h1 h2]
  dsimp only
  frame_out
  refine (loop_c ..).trans ?_
  rw [View.read_writes_junk_eq_canon, scM0_0_read]
  exact congrArg (fun s => corrVal s _ _ _ _) (View.canon_unit_zero (by funext a; fin_cases a <;> rfl) _ _)

theorem da_C (c : Dev nD) (t : Fin cfg0.N) (h0 : ¬t.val % 37 = 0) (h1 : t.val % 37 = 36) (h2 : t.val < 37) (i : S64x3584.Idx) :
    (outsAt0 m c t.val t.isLt).2.2.1 i
      = 0 + ∑ r : Fin 512, daRow (iblk m c 4 t) (iblk m c 6 t) (iblk m c 8 t) i r := by
  rw [outsAt0_C m c t h0 h1 h2]
  dsimp only
  frame_out
  refine (loop_da ..).trans ?_
  rw [View.read_writes_full]; exact congrArg₂ (· + ·) (pay3_apply i) rfl

theorem dx_D (c : Dev nD) (t : Fin cfg0.N) (h0 : ¬t.val % 37 = 0) (h1 : t.val % 37 = 36) (h2 : ¬t.val < 37) :
    (outsAt0 m c t.val t.isLt).1
      = gradVal (outsAt0 m c t.val t.isLt).2.2.2 (iblk m c 4 t) (iblk m c 5 t) (iblk m c 6 t) (iblk m c 7 t) (iblk m c 8 t) := by
  rw [acc_D m c t h0 h1 h2, outsAt0_D m c t h0 h1 h2]
  dsimp only
  frame_out
  refine (loop_dx ..).trans ?_
  rw [View.read_writes_junk_eq_canon, scM0_0_read]
  exact congrArg (fun s => gradVal s _ _ _ _ _) (View.canon_unit_zero (by funext a; fin_cases a <;> rfl) _ _)

theorem c_D (c : Dev nD) (t : Fin cfg0.N) (h0 : ¬t.val % 37 = 0) (h1 : t.val % 37 = 36) (h2 : ¬t.val < 37) :
    (outsAt0 m c t.val t.isLt).2.1
      = corrVal (outsAt0 m c t.val t.isLt).2.2.2 (iblk m c 4 t) (iblk m c 5 t) (iblk m c 6 t) (iblk m c 8 t) := by
  rw [acc_D m c t h0 h1 h2, outsAt0_D m c t h0 h1 h2]
  dsimp only
  frame_out
  refine (loop_c ..).trans ?_
  rw [View.read_writes_junk_eq_canon, scM0_0_read]
  exact congrArg (fun s => corrVal s _ _ _ _) (View.canon_unit_zero (by funext a; fin_cases a <;> rfl) _ _)

theorem da_D (c : Dev nD) (t : Fin cfg0.N) (h0 : ¬t.val % 37 = 0) (h1 : t.val % 37 = 36) (h2 : ¬t.val < 37) (i : S64x3584.Idx) :
    (outsAt0 m c t.val t.isLt).2.2.1 i
      = (outsAt0 m c (t.val - 1) (Nat.lt_of_le_of_lt (Nat.sub_le _ _) t.isLt)).2.2.1 i + ∑ r : Fin 512, daRow (iblk m c 4 t) (iblk m c 6 t) (iblk m c 8 t) i r := by
  rw [outsAt0_D m c t h0 h1 h2]
  dsimp only
  frame_out
  refine (congrFun (congrArg View.canon (List.append_nil _).symm) i).trans ((loop_da ..).trans ?_)
  rw [(hs0_11 t).read_unread]

end Cert.DxIdeal.Hand
-- ==== Proof.DxBlocks.lean ====
/-
  The input-gradient call's blocks: which part of its arrays each window shows at a grid point, and the two arrays the host
  prepares (the stacked first factors placed in rows 32 to 95 of 128 zero rows, and the norm's scale as one row).
-/
module

public import proofs.«01_k».proof.Proof.DxIdealFrame
public import proofs.«01_k».proof.Proof.DxPay
public import Idealize.ShloMosaic.Lib.Pipeline.ValueKit.Acc
public import Idealize.ShloMosaic.Lib.Pipeline.ValueKit.Geometry

@[expose] public section

set_option maxRecDepth 16384

noncomputable section

namespace Cert.DxIdeal.Hand

open Idealize.ShloMosaic Idealize.ShloMosaic.TcCoe Cert.DxIdeal Cert.DxIdeal.Gen
open scoped BigOperators

variable (m : (ℓ : Loc nD τ sig) → Buf (Elt Ideal) ℓ)

/-- The call's arrays, at their shapes. -/
abbrev in0 (c : Dev nD) : Vec Ideal S12288x18944 .bf16 := m ((c : Thread nD τ).loc main_arg0)
abbrev in1 (c : Dev nD) : Vec Ideal S12288x18944 .bf16 := m ((c : Thread nD τ).loc main_arg1)
abbrev in2 (c : Dev nD) : Vec Ideal S3584x18944 .bf16 := m ((c : Thread nD τ).loc main_arg2)
abbrev in3 (c : Dev nD) : Vec Ideal S3584x18944 .bf16 := m ((c : Thread nD τ).loc main_arg3)
abbrev in4 (c : Dev nD) : Vec Ideal S12288x128 .bf16 := m ((c : Thread nD τ).loc main_arg4)
abbrev in5 (c : Dev nD) : Vec Ideal S32x3584 .bf16 := m ((c : Thread nD τ).loc main_arg5)
abbrev in6 (c : Dev nD) : Vec Ideal S32x3584 .bf16 := m ((c : Thread nD τ).loc main_arg6)
abbrev in7 (c : Dev nD) : Vec Ideal S12288x3584 .bf16 := m ((c : Thread nD τ).loc main_arg7)
abbrev in8 (c : Dev nD) : Vec Ideal S12288x3584 .bf16 := m ((c : Thread nD τ).loc main_arg8)
abbrev in9 (c : Dev nD) : Vec Ideal S3584 .f32 := m ((c : Thread nD τ).loc main_arg9)

/-- Which block each input window shows at a grid point: the row tile `t / 37`, the contraction tile `t % 37`. -/
theorem idx : ∀ t : Fin cfg0.N,
    win0_0.index t 0 = t.val / 37 ∧ win0_0.index t 1 = t.val % 37 ∧ win0_1.index t 0 = t.val / 37 ∧ win0_1.index t 1 = t.val % 37
    ∧ win0_2.index t 0 = 0 ∧ win0_2.index t 1 = t.val % 37 ∧ win0_3.index t 0 = 0 ∧ win0_3.index t 1 = t.val % 37
    ∧ win0_4.index t 0 = t.val / 37 ∧ win0_4.index t 1 = 0 ∧ win0_5.index t 0 = 0 ∧ win0_5.index t 1 = 0
    ∧ win0_6.index t 0 = t.val / 37 ∧ win0_6.index t 1 = 0 ∧ win0_7.index t 0 = t.val / 37 ∧ win0_7.index t 1 = 0
    ∧ win0_8.index t 0 = 0 ∧ win0_8.index t 1 = 0 := by
  decide +kernel

theorem row_lt (t : Fin cfg0.N) (r : Fin 512) : t.val / 37 * 512 + r.val < 12288 := by
  have := t.isLt; have hN : cfg0.N = 888 := N_0; omega

theorem col_lt (t : Fin cfg0.N) (r : Fin 512) : t.val % 37 * 512 + r.val < 18944 := by omega

/-- The block of the gate's gradient: its row tile by its contraction tile. -/
theorem blk0 (c : Dev nD) (t : Fin cfg0.N) (r k : Fin 512) :
    iblk m c 0 t (ix2 r k) = m ((c : Thread nD τ).loc main_arg0) (ix2 ⟨t.val / 37 * 512 + r.val, row_lt t r⟩ ⟨t.val % 37 * 512 + k.val, col_lt t k⟩) := by
  refine Eq.trans ?_ (congrFun (V_main_arg0 m c) _)
  show V m c main_arg0 (((cfg0.win 0).blk t).view.emb (ix2 r k)) = V m c main_arg0 _
  blk_ext [idx t]

/-- The block of the up projection's gradient. -/
theorem blk1 (c : Dev nD) (t : Fin cfg0.N) (r k : Fin 512) :
    iblk m c 1 t (ix2 r k) = m ((c : Thread nD τ).loc main_arg1) (ix2 ⟨t.val / 37 * 512 + r.val, row_lt t r⟩ ⟨t.val % 37 * 512 + k.val, col_lt t k⟩) := by
  refine Eq.trans ?_ (congrFun (V_main_arg1 m c) _)
  show V m c main_arg1 (((cfg0.win 1).blk t).view.emb (ix2 r k)) = V m c main_arg1 _
  blk_ext [idx t]

/-- The contraction tile of the gate projection. -/
theorem blk2 (c : Dev nD) (t : Fin cfg0.N) (r : Fin 3584) (k : Fin 512) :
    iblk m c 2 t (ix2 r k) = m ((c : Thread nD τ).loc main_arg2) (ix2 r ⟨t.val % 37 * 512 + k.val, col_lt t k⟩) := by
  refine Eq.trans ?_ (congrFun (V_main_arg2 m c) _)
  show V m c main_arg2 (((cfg0.win 2).blk t).view.emb (ix2 r k)) = V m c main_arg2 _
  blk_ext [idx t]

/-- The contraction tile of the up projection. -/
theorem blk3 (c : Dev nD) (t : Fin cfg0.N) (r : Fin 3584) (k : Fin 512) :
    iblk m c 3 t (ix2 r k) = m ((c : Thread nD τ).loc main_arg3) (ix2 r ⟨t.val % 37 * 512 + k.val, col_lt t k⟩) := by
  refine Eq.trans ?_ (congrFun (V_main_arg3 m c) _)
  show V m c main_arg3 (((cfg0.win 3).blk t).view.emb (ix2 r k)) = V m c main_arg3 _
  blk_ext [idx t]

/-- The low-rank gradients' row tile. -/
theorem blk4 (c : Dev nD) (t : Fin cfg0.N) (r : Fin 512) (k : Fin 128) :
    iblk m c 4 t (ix2 r k) = m ((c : Thread nD τ).loc main_arg4) (ix2 ⟨t.val / 37 * 512 + r.val, row_lt t r⟩ k) := by
  refine Eq.trans ?_ (congrFun (V_main_arg4 m c) _)
  show V m c main_arg4 (((cfg0.win 4).blk t).view.emb (ix2 r k)) = V m c main_arg4 _
  blk_ext [idx t]

/-- The placed first factors are shown whole. -/
theorem blk5 (c : Dev nD) (t : Fin cfg0.N) (r : Fin 128) (k : Fin 3584) :
    iblk m c 5 t (ix2 r k) = V m c main_v1 (ix2 r k) := by
  show V m c main_v1 (((cfg0.win 5).blk t).view.emb (ix2 r k)) = V m c main_v1 _
  blk_ext [idx t]

/-- The residual stream's row tile. -/
theorem blk6 (c : Dev nD) (t : Fin cfg0.N) (r : Fin 512) (k : Fin 3584) :
    iblk m c 6 t (ix2 r k) = m ((c : Thread nD τ).loc main_arg7) (ix2 ⟨t.val / 37 * 512 + r.val, row_lt t r⟩ k) := by
  refine Eq.trans ?_ (congrFun (V_main_arg7 m c) _)
  show V m c main_arg7 (((cfg0.win 6).blk t).view.emb (ix2 r k)) = V m c main_arg7 _
  blk_ext [idx t]

/-- The incoming gradient's row tile. -/
theorem blk7 (c : Dev nD) (t : Fin cfg0.N) (r : Fin 512) (k : Fin 3584) :
    iblk m c 7 t (ix2 r k) = m ((c : Thread nD τ).loc main_arg8) (ix2 ⟨t.val / 37 * 512 + r.val, row_lt t r⟩ k) := by
  refine Eq.trans ?_ (congrFun (V_main_arg8 m c) _)
  show V m c main_arg8 (((cfg0.win 7).blk t).view.emb (ix2 r k)) = V m c main_arg8 _
  blk_ext [idx t]

/-- The norm's scale is shown whole. -/
theorem blk8_V (c : Dev nD) (t : Fin cfg0.N) (r : Fin 1) (k : Fin 3584) :
    iblk m c 8 t (ix2 r k) = V m c main_v2 (ix2 r k) := by
  show V m c main_v2 (((cfg0.win 8).blk t).view.emb (ix2 r k)) = V m c main_v2 _
  blk_ext [idx t]

/-- The first factors as the host places them: the gate's in rows 32 to 63, the up projection's in rows 64 to 95, zero elsewhere. -/
theorem a2_apply (c : Dev nD) (r : Fin 128) (k : Fin 3584) :
    V m c main_v1 (ix2 r k)
      = if h : 32 ≤ r.val ∧ r.val < 64 then in5 m c (ix2 ⟨r.val - 32, by omega⟩ k)
        else if h' : 64 ≤ r.val ∧ r.val < 96 then in6 m c (ix2 ⟨r.val - 64, by omega⟩ k)
        else 0 := by
  have e : V m c main_v1 = pad S128x3584 ![32, 0] ![32, 0] ![0, 0] (concatenate S64x3584 0 [⟨S32x3584, m ((c : Thread nD τ).loc main_arg5)⟩, ⟨S32x3584, m ((c : Thread nD τ).loc main_arg6)⟩] concatenates_S32x3584_S32x3584_S64x3584_d0) (sitofp (F := Ideal) .bf16 (constantI S_ 32 0#32)) pads_S64x3584_S128x3584_32320_000 h_S_ := by
    simp only [V, hostOps0, hostOps0_1, hostOps0_2, List.flatten_cons, List.flatten_nil, List.append_nil, List.cons_append, List.nil_append, StableHlo.TRef.unary, StableHlo.TRef.binary]
    after_results
    rfl
  have hz : (FloatOps.sitofp (F := Ideal) FTy.bf16 0#32 : EReal) = 0 := by
    show (((0#32 : BitVec 32).toInt : ℝ) : EReal) = 0
    simp
  rw [e]
  pointwise
  have hr := r.isLt
  by_cases h1 : 32 ≤ r.val ∧ r.val < 64
  · rw [dif_pos (by omega), dif_pos (by omega), dif_pos h1]
  · rw [dif_neg h1]
    by_cases h2 : 64 ≤ r.val ∧ r.val < 96
    · rw [dif_pos (by omega), dif_neg (by omega), dif_pos h2]
      simp only [Nat.sub_sub]
    · rw [dif_neg (by omega), dif_neg h2]
      exact hz

/-- The norm's scale as the host reshapes it. -/
theorem w_apply (c : Dev nD) (k : Fin 3584) :
    V m c main_v2 (ix2 0 k) = m ((c : Thread nD τ).loc main_arg9) (ix1 k) := by
  have e : V m c main_v2 = shapeCast S1x3584 (m ((c : Thread nD τ).loc main_arg9)) shapeCasts_S3584_S1x3584 := by
    simp only [V, hostOps0, hostOps0_1, hostOps0_2, List.flatten_cons, List.flatten_nil, List.append_nil, List.cons_append, List.nil_append, StableHlo.TRef.unary, StableHlo.TRef.binary]
    after_results
    rfl
  rw [e]
  pointwise

/-- The norm's scale in the window that shows it. -/
theorem blk8 (c : Dev nD) (t : Fin cfg0.N) (k : Fin 3584) :
    iblk m c 8 t (ix2 0 k) = m ((c : Thread nD τ).loc main_arg9) (ix1 k) :=
  (blk8_V m c t 0 k).trans (w_apply m c k)

end Cert.DxIdeal.Hand
-- ==== Proof.DxVal.lean ====
/-
  The input-gradient call's three results in closed form over the reals: each row's input gradient and correction from the full
  contractions, and the gradient of the stacked first factors summed over every row.
-/
module

public import proofs.«01_k».proof.Proof.DxIdealValue
public import proofs.«01_k».proof.Proof.DxFold
public import proofs.«01_k».proof.Proof.DxBlocks
public import proofs.«01_k».proof.Proof.Sums

@[expose] public section

set_option maxRecDepth 16384

noncomputable section

namespace Cert.DxIdeal.Hand

open Idealize.ShloMosaic Idealize.ShloMosaic.TcCoe Cert.DxIdeal Cert.DxIdeal.Gen Cert.Sums Cert.RowNorm
open scoped BigOperators

variable (m : (ℓ : Loc nD τ sig) → Buf (Elt Ideal) ℓ)

/-- A row's gradient of the normalised row before its scale: both contractions, and both low-rank products. -/
def dhOf (x0 x1 : Vec Ideal S12288x18944 .bf16) (x2 x3 : Vec Ideal S3584x18944 .bf16) (x4 : Vec Ideal S12288x128 .bf16)
    (x5 x6 : Vec Ideal S32x3584 .bf16) (r : Fin 12288) : Fin 3584 → EReal := fun d =>
  (∑ l : Fin 18944, x0 (ix2 r l) * x2 (ix2 d l) + ∑ l : Fin 18944, x1 (ix2 r l) * x3 (ix2 d l))
    + (∑ q : Fin 32, x4 (ix2 r ⟨32 + q.val, by omega⟩) * x5 (ix2 q d)
      + ∑ q : Fin 32, x4 (ix2 r ⟨64 + q.val, by omega⟩) * x6 (ix2 q d))

/-- The same, of the call's arrays. -/
abbrev dhFull (c : Dev nD) (r : Fin 12288) : Fin 3584 → EReal :=
  dhOf (in0 m c) (in1 m c) (in2 m c) (in3 m c) (in4 m c) (in5 m c) (in6 m c) r

/-- What one row adds to row `i 0` of the gradient of the stacked first factors. -/
def daOf (x4 : Vec Ideal S12288x128 .bf16) (x7 : Vec Ideal S12288x3584 .bf16) (x9 : Vec Ideal S3584 .f32) (i : S64x3584.Idx)
    (l : Fin 12288) : EReal :=
  x4 (ix2 l ⟨32 + (i 0).val, by have : (i 0).val < 64 := (i 0).isLt; omega⟩)
    * (x7 (ix2 l (i 1)) * rstd (fun k => x7 (ix2 l k)) * x9 (ix1 (i 1)))

/-- The results, at their shapes. -/
abbrev out9 (c : Dev nD) : Vec Ideal S12288x3584 .bf16 := Value.G9 m c
abbrev out10 (c : Dev nD) : Vec Ideal S12288x1 .f32 := Value.G10 m c
abbrev out11 (c : Dev nD) : Vec Ideal S64x3584 .f32 := Value.G11 m c

/-- The part of the contractions one grid point adds to the accumulator. -/
def accPt (c : Dev nD) (t : Fin cfg0.N) (i : S512x3584.Idx) : EReal :=
  accTerm (iblk m c 0 t) (iblk m c 2 t) (iblk m c 1 t) (iblk m c 3 t) i

/-- The accumulator at the last contraction tile of a row tile: the terms of the row tile's 37 points. -/
theorem acc_flush (c : Dev nD) (t : Fin cfg0.N) (hr : t.val % 37 = 36) (i : S512x3584.Idx) :
    (outsAt0 m c t.val t.isLt).2.2.2 i = 0 + ∑ s : Fin 37, accPt m c ⟨37 * (t.val / 37) + s.val, Pipeline.run_point_lt_of_flush t hr s⟩ i := by
  refine Pipeline.eq_sum_fin_of_reset_step_apply_of_flush (fun n h => ((outsAt0 m c n h).2.2.2 : S512x3584.Idx → EReal)) 37 (fun _ => 0) (accPt m c) ?_ ?_ t hr i
  · intro t h i
    show (outsAt0 m c t.val t.isLt).2.2.2 i = _
    rw [acc_A m c t h (by omega), pay2_apply, pay1_apply]; rfl
  · intro t h i
    show (outsAt0 m c t.val t.isLt).2.2.2 i = (outsAt0 m c (t.val - 1) _).2.2.2 i + _
    by_cases h1 : t.val % 37 = 36
    · by_cases h2 : t.val < 37
      · rw [acc_C m c t h h1 h2, pay2_apply]; rfl
      · rw [acc_D m c t h h1 h2, pay2_apply]; rfl
    · rw [acc_B m c t h h1, pay2_apply]; rfl

/-- … which is the sum of the two whole contractions. -/
theorem acc_sum (c : Dev nD) (t : Fin cfg0.N) (hr : t.val % 37 = 36) (r : Fin 512) (d : Fin 3584) :
    (outsAt0 m c t.val t.isLt).2.2.2 (ix2 r d)
      = ∑ l : Fin 18944, in0 m c (ix2 ⟨t.val / 37 * 512 + r.val, row_lt t r⟩ l) * in2 m c (ix2 d l)
        + ∑ l : Fin 18944, in1 m c (ix2 ⟨t.val / 37 * 512 + r.val, row_lt t r⟩ l) * in3 m c (ix2 d l) := by
  rw [acc_flush m c t hr, zero_add]
  unfold accPt accTerm
  rw [Finset.sum_add_distrib]
  have h1 : ∀ s : Fin 37, (37 * (t.val / 37) + s.val) / 37 = t.val / 37 := fun s => by have := s.isLt; omega
  have h2 : ∀ s : Fin 37, (37 * (t.val / 37) + s.val) % 37 = s.val := fun s => by have := s.isLt; omega
  refine congrArg₂ (fun a b : EReal => a + b) (Fin.sum_mul_add_congr fun s q hl => ?_) (Fin.sum_mul_add_congr fun s q hl => ?_)
  · have e0 := blk0 m c ⟨37 * (t.val / 37) + s.val, Pipeline.run_point_lt_of_flush t hr s⟩ r q
    have e1 := blk2 m c ⟨37 * (t.val / 37) + s.val, Pipeline.run_point_lt_of_flush t hr s⟩ d q
    refine (congrArg₂ (fun a b : EReal => a * b) e0 e1).trans ?_
    simp only [h1, h2]
  · have e0 := blk1 m c ⟨37 * (t.val / 37) + s.val, Pipeline.run_point_lt_of_flush t hr s⟩ r q
    have e1 := blk3 m c ⟨37 * (t.val / 37) + s.val, Pipeline.run_point_lt_of_flush t hr s⟩ d q
    refine (congrArg₂ (fun a b : EReal => a * b) e0 e1).trans ?_
    simp only [h1, h2]

/-- The gradient of the normalised row at a row tile's last point. -/
theorem dh_flush (c : Dev nD) (t : Fin cfg0.N) (hr : t.val % 37 = 36) (r : Fin 512) :
    dhBig (outsAt0 m c t.val t.isLt).2.2.2 (iblk m c 4 t) (iblk m c 5 t) r
      = dhFull m c ⟨t.val / 37 * 512 + r.val, row_lt t r⟩ := by
  funext d
  unfold dhBig
  refine congrArg₂ (fun a b : EReal => a + b) (acc_sum m c t hr r d) ?_
  refine Eq.trans (Finset.sum_congr rfl fun q _ => congrArg₂ (fun a b : EReal => a * b) (blk4 m c t r q) ((blk5 m c t q d).trans (a2_apply m c q d))) ?_
  exact sum_placed (fun q => in4 m c (ix2 ⟨t.val / 37 * 512 + r.val, row_lt t r⟩ q)) (fun q => in5 m c (ix2 q d)) (fun q => in6 m c (ix2 q d))

theorem x_flush (c : Dev nD) (t : Fin cfg0.N) (r : Fin 512) :
    (fun k : Fin 3584 => (iblk m c 6 t (ix2 r k) : EReal)) = fun k => in7 m c (ix2 ⟨t.val / 37 * 512 + r.val, row_lt t r⟩ k) :=
  funext fun k => blk6 m c t r k

theorem y_flush (c : Dev nD) (t : Fin cfg0.N) (r : Fin 512) :
    (fun k : Fin 3584 => (iblk m c 7 t (ix2 r k) : EReal)) = fun k => in8 m c (ix2 ⟨t.val / 37 * 512 + r.val, row_lt t r⟩ k) :=
  funext fun k => blk7 m c t r k

theorem w_flush (c : Dev nD) (t : Fin cfg0.N) :
    (fun k : Fin 3584 => (iblk m c 8 t (ix2 0 k) : EReal)) = fun k => in9 m c (ix1 k) :=
  funext fun k => blk8 m c t k

/-- What the first result holds at a row tile's last point. -/
theorem dx_flush (c : Dev nD) (t : Fin cfg0.N) (hr : t.val % 37 = 36) (r : Fin 512) (d : Fin 3584) :
    (outsAt0 m c t.val t.isLt).1 (ix2 r d)
      = grad (dhFull m c ⟨t.val / 37 * 512 + r.val, row_lt t r⟩) (fun k => in7 m c (ix2 ⟨t.val / 37 * 512 + r.val, row_lt t r⟩ k))
          (fun k => in9 m c (ix1 k)) (fun k => in8 m c (ix2 ⟨t.val / 37 * 512 + r.val, row_lt t r⟩ k)) d := by
  have e : (outsAt0 m c t.val t.isLt).1
      = gradVal (outsAt0 m c t.val t.isLt).2.2.2 (iblk m c 4 t) (iblk m c 5 t) (iblk m c 6 t) (iblk m c 7 t) (iblk m c 8 t) := by
    by_cases h2 : t.val < 37
    · exact dx_C m c t (by omega) hr h2
    · exact dx_D m c t (by omega) hr h2
  rw [e, gradVal_apply]
  exact congr (congr (congr (congr (congrArg grad (dh_flush m c t hr r)) (x_flush m c t r)) (w_flush m c t)) (y_flush m c t r)) rfl

/-- What the second result holds at a row tile's last point. -/
theorem c_flush (c : Dev nD) (t : Fin cfg0.N) (hr : t.val % 37 = 36) (r : Fin 512) (d : Fin 1) :
    (outsAt0 m c t.val t.isLt).2.1 (ix2 r d)
      = corr (dhFull m c ⟨t.val / 37 * 512 + r.val, row_lt t r⟩) (fun k => in7 m c (ix2 ⟨t.val / 37 * 512 + r.val, row_lt t r⟩ k))
          (fun k => in9 m c (ix1 k)) := by
  have e : (outsAt0 m c t.val t.isLt).2.1
      = corrVal (outsAt0 m c t.val t.isLt).2.2.2 (iblk m c 4 t) (iblk m c 5 t) (iblk m c 6 t) (iblk m c 8 t) := by
    by_cases h2 : t.val < 37
    · exact c_C m c t (by omega) hr h2
    · exact c_D m c t (by omega) hr h2
  rw [e, corrVal_apply]
  exact congr (congr (congrArg corr (dh_flush m c t hr r)) (x_flush m c t r)) (w_flush m c t)

/-- The first result: each row's input gradient. -/
theorem G9_apply (c : Dev nD) (i : S12288x3584.Idx) :
    out9 m c i = grad (dhFull m c (i 0)) (fun k => in7 m c (ix2 (i 0) k)) (fun k => in9 m c (ix1 k)) (fun k => in8 m c (ix2 (i 0) k)) (i 1) := by
  have h0 : (i 0).val < 12288 := (i 0).isLt
  have h1 : (i 1).val < 3584 := (i 1).isLt
  have hp : Value.pt9Of i = 37 * ((i 0).val / 512) + 36 := by
    show 37 * (1 * ((i 0).val / 512 - 0) + 1 * ((i 1).val / 3584 - 0)) + 36 = _
    omega
  have hN : cfg0.N = 888 := N_0
  have ht : Value.pt9Of i < cfg0.N := by omega
  show Value.G9 m c i = _
  unfold Value.G9
  rw [dif_pos ht, ← Value.outsAt0_sweep]
  have hl : Value.loc9Of i = ix2 ⟨(i 0).val % 512, by omega⟩ (i 1) := by
    funext a; apply Fin.ext
    match a with
    | ⟨0, _⟩ => rfl
    | ⟨1, _⟩ => show (i 1).val % 3584 = (i 1).val; omega
  rw [hl]
  refine (dx_flush m c ⟨Value.pt9Of i, ht⟩ (by show Value.pt9Of i % 37 = 36; omega) ⟨(i 0).val % 512, by omega⟩ (i 1)).trans ?_
  have hrow : ∀ h, (⟨Value.pt9Of i / 37 * 512 + (i 0).val % 512, h⟩ : Fin 12288) = i 0 := fun h => Fin.ext (by
    show Value.pt9Of i / 37 * 512 + (i 0).val % 512 = (i 0).val; omega)
  simp only [hrow]

/-- The second result: each row's correction. -/
theorem G10_apply (c : Dev nD) (i : S12288x1.Idx) :
    out10 m c i = corr (dhFull m c (i 0)) (fun k => in7 m c (ix2 (i 0) k)) (fun k => in9 m c (ix1 k)) := by
  have h0 : (i 0).val < 12288 := (i 0).isLt
  have h1 : (i 1).val < 1 := (i 1).isLt
  have hp : Value.pt10Of i = 37 * ((i 0).val / 512) + 36 := by
    show 37 * (1 * ((i 0).val / 512 - 0) + 1 * ((i 1).val / 1 - 0)) + 36 = _
    omega
  have hN : cfg0.N = 888 := N_0
  have ht : Value.pt10Of i < cfg0.N := by omega
  show Value.G10 m c i = _
  unfold Value.G10
  rw [dif_pos ht, ← Value.outsAt0_sweep]
  have hl : Value.loc10Of i = ix2 ⟨(i 0).val % 512, by omega⟩ (i 1) := by
    funext a; apply Fin.ext
    match a with
    | ⟨0, _⟩ => rfl
    | ⟨1, _⟩ => show (i 1).val % 1 = (i 1).val; omega
  rw [hl]
  refine (c_flush m c ⟨Value.pt10Of i, ht⟩ (by show Value.pt10Of i % 37 = 36; omega) ⟨(i 0).val % 512, by omega⟩ (i 1)).trans ?_
  have hrow : ∀ h, (⟨Value.pt10Of i / 37 * 512 + (i 0).val % 512, h⟩ : Fin 12288) = i 0 := fun h => Fin.ext (by
    show Value.pt10Of i / 37 * 512 + (i 0).val % 512 = (i 0).val; omega)
  simp only [hrow]

/-- One row tile's part of the gradient of the stacked first factors. -/
def daPart (c : Dev nD) (i : S64x3584.Idx) (n : ℕ) : EReal :=
  if h : n < 24 then ∑ k : Fin 512, daOf (in4 m c) (in7 m c) (in9 m c) i ⟨n * 512 + k.val, by omega⟩ else 0

theorem da_step (c : Dev nD) (t : Fin cfg0.N) (i : S64x3584.Idx) :
    ∑ r : Fin 512, daRow (iblk m c 4 t) (iblk m c 6 t) (iblk m c 8 t) i r = daPart m c i (t.val / 37) := by
  have hN : cfg0.N = 888 := N_0
  have := t.isLt
  unfold daPart
  rw [dif_pos (by omega)]
  refine Finset.sum_congr rfl fun k _ => ?_
  refine congrArg₂ (fun a b : EReal => a * b) (blk4 m c t k _) (congrArg₂ (fun a b : EReal => a * b)
    (congrArg₂ (fun a b : EReal => a * b) (blk6 m c t k (i 1)) (congrArg rstd (x_flush m c t k))) (blk8 m c t (i 1)))

/-- The accumulated gradient's window after a point: the parts of the row tiles finished so far. -/
theorem da_sum (c : Dev nD) (i : S64x3584.Idx) : ∀ (n : ℕ) (hn : n < cfg0.N), 36 ≤ n →
    (outsAt0 m c n hn).2.2.1 i = ∑ s ∈ Finset.range ((n + 1) / 37), daPart m c i s := by
  intro n
  induction n with
  | zero => intro _ h; omega
  | succ n ih =>
    intro hn h
    by_cases h1 : (n + 1) % 37 = 36
    · have hd : (n + 1 + 1) / 37 = (n + 1) / 37 + 1 := by omega
      rw [hd, Finset.sum_range_succ]
      by_cases h2 : n + 1 < 37
      · refine (da_C m c ⟨n + 1, hn⟩ (by show ¬(n + 1) % 37 = 0; omega) h1 h2 i).trans ?_
        rw [da_step]
        have : (n + 1) / 37 = 0 := by omega
        rw [this, Finset.sum_range_zero]
      · refine (da_D m c ⟨n + 1, hn⟩ (by show ¬(n + 1) % 37 = 0; omega) h1 h2 i).trans ?_
        rw [da_step]
        exact congrArg₂ (fun a b : EReal => a + b) (ih (by omega) (by omega)) rfl
    · have hd : (n + 1 + 1) / 37 = (n + 1) / 37 := by omega
      rw [hd]
      by_cases h0 : (n + 1) % 37 = 0
      · exact (congrFun (da_A m c ⟨n + 1, hn⟩ h0 h1) i).trans (ih (by omega) (by omega))
      · exact (congrFun (da_B m c ⟨n + 1, hn⟩ h0 h1) i).trans (ih (by omega) (by omega))

/-- The third result: the low-rank gradients, transposed, times the normalised and scaled rows. -/
theorem G11_apply (c : Dev nD) (i : S64x3584.Idx) :
    out11 m c i = ∑ l : Fin 12288, daOf (in4 m c) (in7 m c) (in9 m c) i l := by
  have h887 : 887 < cfg0.N := lt_of_lt_of_eq (by decide) N_0.symm
  have e := Value.G11_last m c
  rw [← Value.outsAt0_sweep] at e
  refine (congrFun e i).trans ?_
  refine (da_sum m c i 887 h887 (by decide)).trans ?_
  show ∑ s ∈ Finset.range 24, _ = _
  rw [← Fin.sum_univ_eq_sum_range, ← Fin.sum_mul_add_fin 24 512 (daOf (in4 m c) (in7 m c) (in9 m c) i)]
  refine Finset.sum_congr rfl fun s _ => ?_
  unfold daPart
  rw [dif_pos s.isLt]

end Cert.DxIdeal.Hand
-- ==== Proof.DxAlg.lean ====
/-
  The input-gradient call computes what its reference computes, over the reals: its three results, at every index.
-/
module

public import proofs.«01_k».proof.Defs
public import proofs.«01_k».proof.Proof.DxVal
public import proofs.«01_k».proof.Proof.Gen.DxRefIdeal.Run
public import proofs.«01_k».proof.Proof.Gen.DxRefIdeal.Read

@[expose] public section

set_option maxRecDepth 16384

noncomputable section

namespace Cert.DxIdeal.Hand

open Idealize.ShloMosaic Idealize.ShloMosaic.TcCoe Cert.DxIdeal Cert.DxIdeal.Gen Cert.RowNorm
open Cert.DxRefIdeal.Read
open scoped BigOperators

/-- The constant one. -/
theorem one32 : Ideal.ofBits .f32 0x3F800000#32 = 1 := by
  simp [Ideal.ofBits, Ideal.ieee]
  rw [← EReal.coe_mul, ← EReal.coe_one]
  exact congrArg _ (by norm_num)

section Ref

variable (x0 x1 : Vec Ideal S12288x18944 .bf16) (x2 x3 : Vec Ideal S3584x18944 .bf16) (x4 : Vec Ideal S12288x128 .bf16)
  (x5 x6 : Vec Ideal S32x3584 .bf16) (x7 x8 : Vec Ideal S12288x3584 .bf16) (x9 : Vec Ideal S3584 .f32)

/-- The reference's reciprocal root mean square of a row. -/
theorem ref_rstd (i : S12288x1.Idx) :
    val_main_v10 (F := Ideal) x7 i = rstd fun k => x7 (ix2 (i 0) k) := by
  rw [val_main_v10_apply, val_main_v9_apply, val_main_v8_apply, val_main_v7_apply, val_main_v6_apply, val_main_v5_apply,
    val_main_v4_apply, val_main_v3_apply, val_main_v2_apply, val_main_cst_apply, val_main_cst_0_apply, val_main_cst_1_apply,
    val_main_cst_2_apply]
  simp only [val_main_v1_apply, val_main_v0_apply]
  show Ideal.div (Ideal.ofBits .f32 0x3F800000#32) (Ideal.sqrt (Ideal.div (Ideal.ofBits .f32 0x00000000#32 + _) len + eps)) = _
  rw [one32, Ideal.ofBits_zero_f32, zero_add]
  unfold rstd
  refine congrArg (fun s => Ideal.div 1 (Ideal.sqrt (Ideal.div s len + eps))) (Finset.sum_congr rfl fun k _ => ?_)
  have e : idx_main_v2 (idx_main_v3 i) k = ix2 (i 0) k := by
    funext a; match a with
    | ⟨0, _⟩ => rfl
    | ⟨1, _⟩ => rfl
  rw [e]
  rfl

/-- The reference's normalised row. -/
theorem ref_xhat (i : S12288x3584.Idx) :
    val_main_v12 (F := Ideal) x7 i = x7 i * rstd fun k => x7 (ix2 (i 0) k) := by
  rw [val_main_v12_apply, val_main_v0_apply, val_main_v11_apply, ref_rstd]
  rfl

/-- The norm's scale, broadcast. -/
theorem ref_w (i : S12288x3584.Idx) : val_main_v14 (F := Ideal) x9 i = x9 (ix1 (i 1)) := by
  rw [val_main_v14_apply, val_main_v13_apply]
  refine congrArg x9 ?_
  funext a; match a with
  | ⟨0, _⟩ => rfl

theorem ref_w' (i : S12288x3584.Idx) : val_main_v27 (F := Ideal) x9 i = x9 (ix1 (i 1)) := by
  rw [val_main_v27_apply, val_main_v26_apply]
  refine congrArg x9 ?_
  funext a; match a with
  | ⟨0, _⟩ => rfl

/-- The reference's gradient of the normalised row before its scale. -/
theorem ref_dh (r : Fin 12288) (d : Fin 3584) :
    val_main_v25 (F := Ideal) x0 x1 x2 x3 x4 x5 x6 (ix2 r d) = dhOf x0 x1 x2 x3 x4 x5 x6 r d := by
  rw [val_main_v25_apply, val_main_v21_apply, val_main_v24_apply, val_main_v19_apply, val_main_v20_apply, val_main_v22_apply,
    val_main_v23_apply]
  simp only [val_main_v17_apply, val_main_v18_apply]
  unfold dhOf
  refine congrArg₂ (fun a b : EReal => a + b)
    (congrArg₂ (fun a b : EReal => a + b) (Finset.sum_congr rfl fun l _ => ?_) (Finset.sum_congr rfl fun l _ => ?_))
    (congrArg₂ (fun a b : EReal => a + b) (Finset.sum_congr rfl fun l _ => ?_) (Finset.sum_congr rfl fun l _ => ?_))
  · refine congrArg₂ (fun a b : EReal => a * b) (congrArg x0 ?_) (congrArg x2 ?_) <;>
    · funext a; match a with
      | ⟨0, _⟩ => rfl
      | ⟨1, _⟩ => rfl
  · refine congrArg₂ (fun a b : EReal => a * b) (congrArg x1 ?_) (congrArg x3 ?_) <;>
    · funext a; match a with
      | ⟨0, _⟩ => rfl
      | ⟨1, _⟩ => rfl
  · refine congrArg₂ (fun a b : EReal => a * b) (congrArg x4 ?_) (congrArg x5 ?_) <;>
    · funext a; match a with
      | ⟨0, _⟩ => rfl
      | ⟨1, _⟩ => rfl
  · refine congrArg₂ (fun a b : EReal => a * b) (congrArg x4 ?_) (congrArg x6 ?_) <;>
    · funext a; match a with
      | ⟨0, _⟩ => rfl
      | ⟨1, _⟩ => rfl

/-- The reference's scaled gradient. -/
theorem ref_gx (r : Fin 12288) (d : Fin 3584) :
    val_main_v28 (F := Ideal) x0 x1 x2 x3 x4 x5 x6 x9 (ix2 r d) = dhOf x0 x1 x2 x3 x4 x5 x6 r d * x9 (ix1 d) := by
  rw [val_main_v28_apply, ref_dh, ref_w']
  rfl

/-- The reference's second result at an index: the row's correction. -/
theorem ref_c (i : S12288x1.Idx) :
    val_main_v33 (F := Ideal) x0 x1 x2 x3 x4 x5 x6 x7 x9 i
      = corr (dhOf x0 x1 x2 x3 x4 x5 x6 (i 0)) (fun k => x7 (ix2 (i 0) k)) fun k => x9 (ix1 k) := by
  rw [val_main_v33_apply, val_main_v32_apply, val_main_v31_apply, val_main_v30_apply, val_main_cst_3_apply, val_main_cst_4_apply]
  simp only [val_main_v29_apply]
  show Ideal.div (Ideal.ofBits .f32 0x00000000#32 + _) len = _
  rw [Ideal.ofBits_zero_f32, zero_add]
  unfold corr
  refine congrArg (fun s => Ideal.div s len) (Finset.sum_congr rfl fun k _ => ?_)
  have e : idx_main_v30 (idx_main_v31 i) k = ix2 (i 0) k := by
    funext a; match a with
    | ⟨0, _⟩ => rfl
    | ⟨1, _⟩ => rfl
  rw [e]
  exact congrArg₂ (fun a b : EReal => a * b) (ref_gx x0 x1 x2 x3 x4 x5 x6 x9 (i 0) k) (ref_xhat x7 (ix2 (i 0) k))

/-- The reference's first result at an index: the row's input gradient. -/
theorem ref_dx (r : Fin 12288) (d : Fin 3584) :
    val_main_v43 (F := Ideal) x0 x1 x2 x3 x4 x5 x6 x7 x8 x9 (ix2 r d)
      = grad (dhOf x0 x1 x2 x3 x4 x5 x6 r) (fun k => x7 (ix2 r k)) (fun k => x9 (ix1 k)) (fun k => x8 (ix2 r k)) d := by
  rw [val_main_v43_apply, val_main_v42_apply, val_main_v41_apply, val_main_v38_apply, val_main_v37_apply, val_main_v36_apply,
    val_main_v35_apply, val_main_v34_apply, ref_gx, ref_xhat, ref_rstd, ref_c]
  rfl

/-- The reference's normalised and scaled row. -/
theorem ref_h (i : S12288x3584.Idx) :
    val_main_v16 (F := Ideal) x7 x9 i = x7 i * rstd (fun k => x7 (ix2 (i 0) k)) * x9 (ix1 (i 1)) := by
  rw [val_main_v16_apply, val_main_v15_apply, ref_xhat, ref_w]
  rfl

/-- The reference's third result at an index: the gate's factor in rows 0 to 31, the up projection's in rows 32 to 63. -/
theorem ref_da (r : Fin 64) (d : Fin 3584) :
    val_main_v44 (F := Ideal) x4 x7 x9 (ix2 r d) = ∑ l : Fin 12288, daOf x4 x7 x9 (ix2 r d) l := by
  unfold val_main_v44
  pointwise
  by_cases h : r.val < 32
  · rw [dif_pos h, val_main_v39_apply]
    refine Finset.sum_congr rfl fun l _ => ?_
    rw [val_main_v17_apply, ref_h]
    unfold daOf
    refine congrArg₂ (fun a b : EReal => a * b) (congrArg x4 ?_) ?_
    · funext a; match a with
      | ⟨0, _⟩ => rfl
      | ⟨1, _⟩ => rfl
    · refine congrArg (fun v => v * _ * _) (congrArg x7 ?_)
      funext a; match a with
      | ⟨0, _⟩ => rfl
      | ⟨1, _⟩ => rfl
  · rw [dif_neg h, val_main_v40_apply]
    refine Finset.sum_congr rfl fun l _ => ?_
    rw [val_main_v18_apply, ref_h]
    unfold daOf
    refine congrArg₂ (fun a b : EReal => a * b) (congrArg x4 ?_) ?_
    · funext a; apply Fin.ext
      match a with
      | ⟨0, _⟩ => rfl
      | ⟨1, _⟩ => show 64 + (r.val - 32) = 32 + r.val; omega
    · refine congrArg (fun v => v * _ * _) (congrArg x7 ?_)
      funext a; match a with
      | ⟨0, _⟩ => rfl
      | ⟨1, _⟩ => rfl

end Ref

/-- An index of a matrix is its two coordinates. -/
theorem ix2_eta {a b : ℕ} (i : (Shape.mk 2 ![a, b]).Idx) : ix2 (i 0) (i 1) = i := by
  funext k; match k with
  | ⟨0, _⟩ => rfl
  | ⟨1, _⟩ => rfl

/-- From agreeing arguments, the call and its reference leave equal results. -/
theorem algebraic : Cert.algebraic_DxIdeal_DxRefIdeal (hDxIdeal := Cert.DxIdeal.Gen.facts) (hDxRefIdeal := Cert.DxRefIdeal.Gen.facts) := by
  intro m g m' g' _ hagree
  refine ⟨fun c => Value.G9 m c, fun c => Value.G10 m c, fun c => Value.G11 m c, Value.run m g, (θ_run Cert.DxRefIdeal.defs _ _).mono (fun r h c => ?_) (Cert.DxRefIdeal.Value.run m' g')⟩
  obtain ⟨a0, a1, a2, a3, a4, a5, a6, a7, a8, a9⟩ := hagree c
  obtain ⟨h43, h33, h44, hrest⟩ := h c
  refine ⟨h43.trans ?_, h33.trans ?_, h44.trans ?_, hrest⟩
  · refine (Cert.DxRefIdeal.Read.val_main_v43_eq _ _).trans ?_
    rw [a0, a1, a2, a3, a4, a5, a6, a7, a8, a9]
    funext i
    refine (congrArg (val_main_v43 (F := Ideal) (in0 m c) (in1 m c) (in2 m c) (in3 m c) (in4 m c) (in5 m c) (in6 m c) (in7 m c) (in8 m c) (in9 m c)) (ix2_eta i).symm).trans ?_
    exact (ref_dx (in0 m c) (in1 m c) (in2 m c) (in3 m c) (in4 m c) (in5 m c) (in6 m c) (in7 m c) (in8 m c) (in9 m c) (i 0) (i 1)).trans (G9_apply m c i).symm
  · refine (Cert.DxRefIdeal.Read.val_main_v33_eq _ _ _ _ _ _ _ _ _).trans ?_
    rw [a0, a1, a2, a3, a4, a5, a6, a7, a9]
    funext i
    exact (ref_c (in0 m c) (in1 m c) (in2 m c) (in3 m c) (in4 m c) (in5 m c) (in6 m c) (in7 m c) (in9 m c) i).trans (G10_apply m c i).symm
  · refine (Cert.DxRefIdeal.Read.val_main_v44_eq _ _ _).trans ?_
    rw [a4, a7, a9]
    funext i
    refine (congrArg (val_main_v44 (F := Ideal) (in4 m c) (in7 m c) (in9 m c)) (ix2_eta i).symm).trans ?_
    exact ((ref_da (in4 m c) (in7 m c) (in9 m c) (i 0) (i 1)).trans (congrArg (fun j => ∑ l : Fin 12288, daOf (in4 m c) (in7 m c) (in9 m c) j l) (ix2_eta i))).trans (G11_apply m c i).symm

end Cert.DxIdeal.Hand
-- ==== Proof.SwigluIdealRun.lean ====
/-
  The body of the SwiGLU kernel run part by part: what each part leaves in each buffer, as a function of what the
  buffers held.
-/
module

public import proofs.«01_k».proof.Proof.Gen.SwigluIdeal.Frame
public import proofs.«01_k».proof.Proof.Gen.SwigluIdeal.Skeleton
public import Idealize.ShloMosaic.Lib.VecWindow

@[expose] public section

set_option maxRecDepth 16384

noncomputable section

namespace Cert.SwigluIdeal.Hand

open Cert.SwigluIdeal Cert.SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

/-- Whether the point is the first of its row of blocks (the condition of the body's first `if`). -/
abbrev cFirst (i : grid0.Coords) : Prop := (Scalar.cmpi .ne (Scalar.extui (Scalar.cmpi .eq (BitVec.ofNat 32 (i 1).val) 0#32)) 0#32) = 1#1

/-- A load at a unit-stride rectangle reads a window. -/
theorem readAt_win {s : Shape} {e : EltTy} (v : View sig .tc .vmem s e) (f : v.ty.Contents (Elt F)) {off size : Fin s.rank → ℕ} (inb : ∀ a, off a + size a ≤ s.size a) :
    v.readAt (Elt F) (Rect.unit off size inb).toLoadRect f = window (v.read (Elt F) f) off size inb := rfl

/-- An unmasked store at a unit-stride rectangle puts its payload there. -/
theorem read_put {s : Shape} {e : EltTy} (v : View sig .tc .vmem s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- The whole array as a window of itself. -/
theorem window_full {s : Shape} {α : Type} (x : s.Idx → α) {off : Fin s.rank → ℕ} (inb : ∀ a, off a + s.size a ≤ s.size a) : window x off s.size inb = x :=
  funext fun y => congrArg x (funext fun a => Fin.ext (by show off a + 1 * (y a).val = (y a).val; have := inb a; omega))

/-- The same for a matrix, its sizes written out. -/
theorem window_whole {A B : ℕ} {α : Type} (x : (⟨2, ![A, B]⟩ : Shape).Idx → α) {off : Fin 2 → ℕ} (inb : ∀ a, off a + (![A, B] : Fin 2 → ℕ) a ≤ (⟨2, ![A, B]⟩ : Shape).size a) :
    window (s := ⟨2, ![A, B]⟩) x off ![A, B] inb = x := window_full (s := ⟨2, ![A, B]⟩) x inb

variable (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S3584x256 .bf16) (harg6 : arg6.IsWhole) (arg7 : Memref sig .tc .vmem S3584x256 .bf16) (harg7 : arg7.IsWhole) (arg8 : Memref sig .tc .vmem S256x3584 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S128x256 .bf16) (harg11 : arg11.IsWhole) (arg12 : Memref sig .tc .vmem S3x256x128 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .bf16) (harg16 : arg16.IsWhole) (arg17 : Memref sig .tc .vmem S96x18944 .f32) (harg17 : arg17.IsWhole) (arg18 : Memref sig .tc .vmem S1024x128 .f32) (harg18 : arg18.IsWhole)

set_option maxHeartbeats 1000000 in
/-- The first part only loads: it returns the gate, the up value, the gradient of the product and what follows of them. -/
theorem part1_run (x0 : Vec F S1024x3584 .bf16) (x1 : Vec F S1024x3584 .bf16) (x2 : Vec F S1024x128 .bf16) (x4 : Vec F S3584x256 .bf16) (x5 : Vec F S3584x256 .bf16) (x6 : Vec F S256x3584 .bf16) (x7 : Vec F S256x128 .bf16) (x8 : Vec F S256x128 .bf16) (x9 : Vec F S128x256 .bf16) (E : Set ℕ)
    (K : (Σ' (arg0 : BitVec 32) (arg1 : BitVec 32) (v7 : FVec F S1024x256 .f32) (v21 : FVec F S1024x256 .f32) (v22 : FVec F S1024x256 .f32) (v25 : FVec F S1024x256 .bf16) (v27 : FVec F S1024x256 .f32), FVec F S1024x256 .f32) → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9) -∗ K ⟨BitVec.ofNat 32 (i 0).val, BitVec.ofNat 32 (i 1).val, k0_pay1 x2 x0 x4 x7, k0_pay3 x2 x1 x6 x9, k0_pay4 x2 x0 x4 x7,
            k0_pay5 x2 x0 x4 x7 x0 x5 x8, k0_pay6 x2 x0 x4 x7 x0 x5 x8 x1 x6 x9, k0_pay7 x2 x0 x4 x7⟩))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [k0_part1_eq_skeleton]; unfold k0_part1_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec
  sl_step
  simp (disch := rfl) only [readAt_win, Memref.IsWhole.read_unread, window_whole]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  iexists _; isplitr; · ipureintro; exact harg11.read_unread _
  iexact H9

/-- The accumulator after the second part: the three products added to what it held, or to zeros at a row's first point. -/
def zNew (s0 : Vec F S1024x128 .f32) (x10 : Vec F S3x256x128 .bf16) (v7 v21 v22 : FVec F S1024x256 .f32) (v25 : FVec F S1024x256 .bf16) (v27 v30 : FVec F S1024x256 .f32) : Vec F S1024x128 .f32 :=
  k0_pay11 v7 v21 v22 v25 v27 v30 s0 (View.ld x10 (Rect.unit (s := S3x256x128) ![0, 0, 0] S1x256x128.size inb_S3x256x128_S1x256x128_0_0_0))
    (View.ld x10 (Rect.unit (s := S3x256x128) ![1, 0, 0] S1x256x128.size inb_S3x256x128_S1x256x128_1_0_0)) (View.ld x10 (Rect.unit (s := S3x256x128) ![2, 0, 0] S1x256x128.size inb_S3x256x128_S1x256x128_2_0_0))

set_option maxHeartbeats 2000000 in
/-- The second part at a row's first point: the activation and the two gradients stored, the accumulator advanced. -/
theorem part2_first (hc0 : cFirst i) (x10 : Vec F S3x256x128 .bf16) (s0 : Vec F S1024x128 .f32) (v7 v21 v22 : FVec F S1024x256 .f32) (v25 : FVec F S1024x256 .bf16) (v27 v30 : FVec F S1024x256 .f32) (E : Set ℕ)
    (K : (Σ' (v34 : FVec F S1024x256 .bf16) (v37 : FVec F S1024x256 .bf16), BitVec 32) → sProp (MT nD τ sig Unit (Elt F) ℕ (UR sig nD τ) ℕ)) :
    iprop(owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg18 fullShare s0
        ∗ (iprop(owns (c : Thread nD τ) arg12 fullShare x10 ∗ owns (c : Thread nD τ) arg13 fullShare v25 ∗ owns (c : Thread nD τ) arg14 fullShare (k0_pay8 v27 v30) ∗ owns (c : Thread nD τ) arg15 fullShare (k0_pay9 v7 v21 v22) ∗ owns (c : Thread nD τ) arg18 fullShare (zNew (k0_pay10 (F := F)) x10 v7 v21 v22 v25 v27 v30))
          -∗ K ⟨k0_pay8 v27 v30, k0_pay9 v7 v21 v22, 73#32⟩))
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) v7 v21 v22 v25 v27 v30) K := by
  simp only [k0_part2_eq_skeleton]; unfold k0_part2_skel
  unfold owns
  iintro ⟨⟨%f10, %hf10, H10⟩, ⟨%d11, %f11, -, H11⟩, ⟨%d12, %f12, -, H12⟩, ⟨%d13, %f13, -, H13⟩, ⟨%f16, %hf16, H16⟩, Hk⟩
  obtain rfl := harg12.eq_unread hf10; obtain rfl := harg18.eq_unread hf16
  sl_exec (disch := sl_exact hc0)
  sl_step
  iapply Hk
  isplitl [H10]
  · iexists _; isplitr; · ipureintro; exact harg12.read_unread _
    iexact H10
  isplitl [H11]
  · iexists _; isplitr; rotate_left; · iexact H11
    ipureintro; exact View.read_writes_full _ _ _ _ _
  isplitl [H12]
  · iexists _; isplitr; rotate_left; · iexact H12
    ipureintro; exact View.read_writes_full _ _ _ _ _
  isplitl [H13]
  · iexists _; isplitr; rotate_left; · iexact H13
    ipureintro; exact View.read_writes_full _ _ _ _ _
  iexists _; isplitr; rotate_left; · iexact H16
  ipureintro
  sl_unfold_run_names; refine (View.read_writes_full _ _ _ _ _).trans ?_; simp only [View.readCov, readAt_win, Memref.IsWhole.read_unread]; exact congrArg (fun t => k0_pay11 v7 v21 v22 v25 v27 v30 t _ _ _) ((window_full (s := S1024x128) _ _).trans (View.read_writes_full _ _ _ _ _))

set_option maxHeartbeats 2000000 in
/-- The second part at a later point of a row: the activation and the two gradients stored, the accumulator advanced. -/
theorem part2_later (hc0 : ¬cFirst i) (x10 : Vec F S3x256x128 .bf16) (s0 : Vec F S1024x128 .f32) (v7 v21 v22 : FVec F S1024x256 .f32) (v25 : FVec F S1024x256 .bf16) (v27 v30 : FVec F S1024x256 .f32) (E : Set ℕ)
    (K : (Σ' (v34 : FVec F S1024x256 .bf16) (v37 : FVec F S1024x256 .bf16), BitVec 32) → sProp (MT nD τ sig Unit (Elt F) ℕ (UR sig nD τ) ℕ)) :
    iprop(owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg18 fullShare s0
        ∗ (iprop(owns (c : Thread nD τ) arg12 fullShare x10 ∗ owns (c : Thread nD τ) arg13 fullShare v25 ∗ owns (c : Thread nD τ) arg14 fullShare (k0_pay8 v27 v30) ∗ owns (c : Thread nD τ) arg15 fullShare (k0_pay9 v7 v21 v22) ∗ owns (c : Thread nD τ) arg18 fullShare (zNew s0 x10 v7 v21 v22 v25 v27 v30))
          -∗ K ⟨k0_pay8 v27 v30, k0_pay9 v7 v21 v22, 73#32⟩))
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) v7 v21 v22 v25 v27 v30) K := by
  simp only [k0_part2_eq_skeleton]; unfold k0_part2_skel
  unfold owns
  iintro ⟨⟨%f10, %hf10, H10⟩, ⟨%d11, %f11, -, H11⟩, ⟨%d12, %f12, -, H12⟩, ⟨%d13, %f13, -, H13⟩, ⟨%f16, %hf16, H16⟩, Hk⟩
  obtain rfl := harg12.eq_unread hf10; obtain rfl := harg18.eq_unread hf16
  sl_exec (disch := sl_exact hc0)
  sl_step
  iapply Hk
  isplitl [H10]
  · iexists _; isplitr; · ipureintro; exact harg12.read_unread _
    iexact H10
  isplitl [H11]
  · iexists _; isplitr; rotate_left; · iexact H11
    ipureintro; exact View.read_writes_full _ _ _ _ _
  isplitl [H12]
  · iexists _; isplitr; rotate_left; · iexact H12
    ipureintro; exact View.read_writes_full _ _ _ _ _
  isplitl [H13]
  · iexists _; isplitr; rotate_left; · iexact H13
    ipureintro; exact View.read_writes_full _ _ _ _ _
  iexists _; isplitr; rotate_left; · iexact H16
  ipureintro
  refine (View.read_writes_full _ _ _ _ _).trans ?_; simp only [readAt_win, Memref.IsWhole.read_unread]; exact congrArg (fun t => k0_pay11 v7 v21 v22 v25 v27 v30 t _ _ _) (window_full (s := S1024x128) s0 _)

/-- The offsets of the gradients' columns at a point. -/
theorem off_col : BitVec.toNat (Scalar.indexCast (Scalar.muli (BitVec.ofNat 32 (i 1).val) 256#32)) = 256 * (i 1).val := by
  have h : ∀ k : Fin 74, BitVec.toNat (Scalar.indexCast (Scalar.muli (BitVec.ofNat 32 k.val) 256#32)) = 256 * k.val := by decide
  exact h (i 1)

theorem off1_eq : k0_off1 i = ![0, 256 * (i 1).val] := congrArg (fun x => ![0, x]) (off_col i)
theorem off2_eq : k0_off2 i = ![0, 256 * (i 1).val] := congrArg (fun x => ![0, x]) (off_col i)
theorem off3_eq : k0_off3 i = ![32, 256 * (i 1).val] := congrArg (fun x => ![32, x]) (off_col i)
theorem off4_eq : k0_off4 i = ![64, 256 * (i 1).val] := congrArg (fun x => ![64, x]) (off_col i)

/-- The gate's rows of the gradients at this point: the product added to what they held. -/
def w2 (v34 : FVec F S1024x256 .bf16) (x3 : Vec F S128x1024 .bf16) (g : Vec F S96x18944 .f32) : FVec F S32x256 .f32 :=
  k0_pay14 v34 (window g (k0_off2 i) S32x256.size (k0_off2_inb i)) (window x3 ![0, 0] S32x1024.size inb_S128x1024_S32x1024_0_0)

/-- The up rows, added to what they held. -/
def w3 (v37 : FVec F S1024x256 .bf16) (x3 : Vec F S128x1024 .bf16) (g : Vec F S96x18944 .f32) : FVec F S32x256 .f32 :=
  k0_pay15 v37 (window g (k0_off3 i) S32x256.size (k0_off3_inb i)) (window x3 ![32, 0] S32x1024.size inb_S128x1024_S32x1024_32_0)

/-- The rows of the down projection's factor, added to what they held. -/
def w4 (v25 : FVec F S1024x256 .bf16) (x3 : Vec F S128x1024 .bf16) (g : Vec F S96x18944 .f32) : FVec F S32x256 .f32 :=
  k0_pay16 v25 (window g (k0_off4 i) S32x256.size (k0_off4_inb i)) (window x3 ![64, 0] S32x1024.size inb_S128x1024_S32x1024_64_0)

/-- The gradients' block after the gate's and the up rows. -/
def g3 (v34 v37 : FVec F S1024x256 .bf16) (x3 : Vec F S128x1024 .bf16) (g : Vec F S96x18944 .f32) : Vec F S96x18944 .f32 :=
  put (put g (k0_off2 i) S32x256.size (w2 i v34 x3 g)) (k0_off3 i) S32x256.size (w3 i v37 x3 g)

/-- A window inside what was put does not see what was there before. -/
theorem window_put_any (x x' : Vec F S96x18944 .f32) (off : Fin 2 → ℕ) (inb : ∀ a, off a + (![32, 256] : Fin 2 → ℕ) a ≤ S96x18944.size a) (w : Vec F S96x256 .f32)
    (h : ∀ a, k0_off1 i a ≤ off a ∧ off a + (![32, 256] : Fin 2 → ℕ) a ≤ k0_off1 i a + (![96, 256] : Fin 2 → ℕ) a) :
    window (put x (k0_off1 i) ![96, 256] w) off ![32, 256] inb = window (put x' (k0_off1 i) ![96, 256] w) off ![32, 256] inb :=
  (VecWindow.window_put_of_inside x (k0_off1 i) ![96, 256] off ![32, 256] inb w h).trans
    (VecWindow.window_put_of_inside x' (k0_off1 i) ![96, 256] off ![32, 256] inb w h).symm

theorem in2 : ∀ a, k0_off1 i a ≤ k0_off2 i a ∧ k0_off2 i a + (![32, 256] : Fin 2 → ℕ) a ≤ k0_off1 i a + (![96, 256] : Fin 2 → ℕ) a := by
  rw [off1_eq, off2_eq]; intro a; fin_cases a <;> simp
theorem in3 : ∀ a, k0_off1 i a ≤ k0_off3 i a ∧ k0_off3 i a + (![32, 256] : Fin 2 → ℕ) a ≤ k0_off1 i a + (![96, 256] : Fin 2 → ℕ) a := by
  rw [off1_eq, off3_eq]; intro a; fin_cases a <;> simp
theorem in4 : ∀ a, k0_off1 i a ≤ k0_off4 i a ∧ k0_off4 i a + (![32, 256] : Fin 2 → ℕ) a ≤ k0_off1 i a + (![96, 256] : Fin 2 → ℕ) a := by
  rw [off1_eq, off4_eq]; intro a; fin_cases a <;> simp

/-- The up rows' window is apart from the gate's rows. -/
theorem apart32 (x : Vec F S96x18944 .f32) (w : FVec F S32x256 .f32) (inb : ∀ a, k0_off3 i a + (![32, 256] : Fin 2 → ℕ) a ≤ S96x18944.size a) :
    window (put x (k0_off2 i) ![32, 256] w) (k0_off3 i) ![32, 256] inb = window x (k0_off3 i) ![32, 256] inb :=
  VecWindow.window_put_of_disjoint x _ _ _ _ _ w 0 (by rw [off2_eq, off3_eq]; simp)
theorem apart42 (x : Vec F S96x18944 .f32) (w : FVec F S32x256 .f32) (inb : ∀ a, k0_off4 i a + (![32, 256] : Fin 2 → ℕ) a ≤ S96x18944.size a) :
    window (put x (k0_off2 i) ![32, 256] w) (k0_off4 i) ![32, 256] inb = window x (k0_off4 i) ![32, 256] inb :=
  VecWindow.window_put_of_disjoint x _ _ _ _ _ w 0 (by rw [off2_eq, off4_eq]; simp)
theorem apart43 (x : Vec F S96x18944 .f32) (w : FVec F S32x256 .f32) (inb : ∀ a, k0_off4 i a + (![32, 256] : Fin 2 → ℕ) a ≤ S96x18944.size a) :
    window (put x (k0_off3 i) ![32, 256] w) (k0_off4 i) ![32, 256] inb = window x (k0_off4 i) ![32, 256] inb :=
  VecWindow.window_put_of_disjoint x _ _ _ _ _ w 0 (by rw [off3_eq, off4_eq]; simp)

set_option maxHeartbeats 2000000 in
/-- The third part (not a row's last point, the first row of blocks). -/
theorem part3_mid0 (hc1 : ¬k0_cond2 i = 1#1) (hc2 : k0_cond3 i = 1#1) (x3 : Vec F S128x1024 .bf16) (z1 : Vec F S1024x128 .bf16) (xg : Vec F S96x18944 .f32) (s1 : Vec F S1024x128 .f32) (v25 v34 v37 : FVec F S1024x256 .bf16) (a0 : BitVec 32) (E : Set ℕ)
    (K : FVec F S32x256 .f32 → sProp (MT nD τ sig Unit (Elt F) ℕ (UR sig nD τ) ℕ)) :
    iprop(owns (c : Thread nD τ) arg5 fullShare x3 ∗ owns (c : Thread nD τ) arg16 fullShare z1 ∗ owns (c : Thread nD τ) arg17 fullShare xg ∗ owns (c : Thread nD τ) arg18 fullShare s1
        ∗ (iprop(owns (c : Thread nD τ) arg5 fullShare x3 ∗ owns (c : Thread nD τ) arg16 fullShare z1 ∗ owns (c : Thread nD τ) arg17 fullShare (g3 i v34 v37 x3 (put xg (k0_off1 i) S96x256.size (k0_pay13 (F := F)))) ∗ owns (c : Thread nD τ) arg18 fullShare s1)
          -∗ K (w4 i v25 x3 (put xg (k0_off1 i) S96x256.size (k0_pay13 (F := F))))))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (BitVec.ofNat 32 (i 1).val) v25 v34 v37 73#32) K := by
  simp only [k0_part3_eq_skeleton]; unfold k0_part3_skel
  unfold owns
  iintro ⟨⟨%f3, %hf3, H3⟩, ⟨%f14, %hf14, H14⟩, ⟨%f15, %hf15, H15⟩, ⟨%f16, %hf16, H16⟩, Hk⟩
  obtain rfl := harg5.eq_unread hf3; obtain rfl := harg16.eq_unread hf14; obtain rfl := harg17.eq_unread hf15; obtain rfl := harg18.eq_unread hf16
  sl_exec (disch := first | sl_exact hc1 | sl_exact hc2)
  sl_step
  sl_unfold_run_names
  simp only [readAt_win, read_put, View.writes_nil, Memref.IsWhole.read_unread, g3, w2, w3, w4]
  simp only [View.readCov, readAt_win, read_put, View.writes_nil]; rw [apart32 i, apart43 i, apart42 i, window_put_any i (arg17.view.read (Elt F) arg17.view.junk) xg _ _ _ (in2 i), window_put_any i (arg17.view.read (Elt F) arg17.view.junk) xg _ _ _ (in3 i), window_put_any i (arg17.view.read (Elt F) arg17.view.junk) xg _ _ _ (in4 i)]
  iapply Hk
  isplitl [H3]
  · iexists _; isplitr; · ipureintro; exact harg5.read_unread _
    iexact H3
  isplitl [H14]
  · iexists _; isplitr; rotate_left; · iexact H14
    ipureintro
    exact harg16.read_unread _
  isplitl [H15]
  · iexists _; isplitr; rotate_left; · iexact H15
    ipureintro
    simp only [readAt_win, read_put, View.writes_nil, Memref.IsWhole.read_unread]
  iexists _; isplitr; · ipureintro; exact harg18.read_unread _
  iexact H16

set_option maxHeartbeats 2000000 in
/-- The third part (not a row's last point, a later row of blocks). -/
theorem part3_mid (hc1 : ¬k0_cond2 i = 1#1) (hc2 : ¬k0_cond3 i = 1#1) (x3 : Vec F S128x1024 .bf16) (z1 : Vec F S1024x128 .bf16) (xg : Vec F S96x18944 .f32) (s1 : Vec F S1024x128 .f32) (v25 v34 v37 : FVec F S1024x256 .bf16) (a0 : BitVec 32) (E : Set ℕ)
    (K : FVec F S32x256 .f32 → sProp (MT nD τ sig Unit (Elt F) ℕ (UR sig nD τ) ℕ)) :
    iprop(owns (c : Thread nD τ) arg5 fullShare x3 ∗ owns (c : Thread nD τ) arg16 fullShare z1 ∗ owns (c : Thread nD τ) arg17 fullShare xg ∗ owns (c : Thread nD τ) arg18 fullShare s1
        ∗ (iprop(owns (c : Thread nD τ) arg5 fullShare x3 ∗ owns (c : Thread nD τ) arg16 fullShare z1 ∗ owns (c : Thread nD τ) arg17 fullShare (g3 i v34 v37 x3 xg) ∗ owns (c : Thread nD τ) arg18 fullShare s1)
          -∗ K (w4 i v25 x3 xg)))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (BitVec.ofNat 32 (i 1).val) v25 v34 v37 73#32) K := by
  simp only [k0_part3_eq_skeleton]; unfold k0_part3_skel
  unfold owns
  iintro ⟨⟨%f3, %hf3, H3⟩, ⟨%f14, %hf14, H14⟩, ⟨%f15, %hf15, H15⟩, ⟨%f16, %hf16, H16⟩, Hk⟩
  obtain rfl := harg5.eq_unread hf3; obtain rfl := harg16.eq_unread hf14; obtain rfl := harg17.eq_unread hf15; obtain rfl := harg18.eq_unread hf16
  sl_exec (disch := first | sl_exact hc1 | sl_exact hc2)
  sl_step
  sl_unfold_run_names
  simp only [readAt_win, read_put, View.writes_nil, Memref.IsWhole.read_unread, g3, w2, w3, w4]

  iapply Hk
  isplitl [H3]
  · iexists _; isplitr; · ipureintro; exact harg5.read_unread _
    iexact H3
  isplitl [H14]
  · iexists _; isplitr; rotate_left; · iexact H14
    ipureintro
    exact harg16.read_unread _
  isplitl [H15]
  · iexists _; isplitr; rotate_left; · iexact H15
    ipureintro
    simp only [readAt_win, read_put, View.writes_nil, Memref.IsWhole.read_unread]
  iexists _; isplitr; · ipureintro; exact harg18.read_unread _
  iexact H16

set_option maxHeartbeats 2000000 in
/-- The third part (a row's last point, the first row of blocks). -/
theorem part3_last0 (hc1 : k0_cond2 i = 1#1) (hc2 : k0_cond3 i = 1#1) (x3 : Vec F S128x1024 .bf16) (z1 : Vec F S1024x128 .bf16) (xg : Vec F S96x18944 .f32) (s1 : Vec F S1024x128 .f32) (v25 v34 v37 : FVec F S1024x256 .bf16) (a0 : BitVec 32) (E : Set ℕ)
    (K : FVec F S32x256 .f32 → sProp (MT nD τ sig Unit (Elt F) ℕ (UR sig nD τ) ℕ)) :
    iprop(owns (c : Thread nD τ) arg5 fullShare x3 ∗ owns (c : Thread nD τ) arg16 fullShare z1 ∗ owns (c : Thread nD τ) arg17 fullShare xg ∗ owns (c : Thread nD τ) arg18 fullShare s1
        ∗ (iprop(owns (c : Thread nD τ) arg5 fullShare x3 ∗ owns (c : Thread nD τ) arg16 fullShare (k0_pay12 s1) ∗ owns (c : Thread nD τ) arg17 fullShare (g3 i v34 v37 x3 (put xg (k0_off1 i) S96x256.size (k0_pay13 (F := F)))) ∗ owns (c : Thread nD τ) arg18 fullShare s1)
          -∗ K (w4 i v25 x3 (put xg (k0_off1 i) S96x256.size (k0_pay13 (F := F))))))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (BitVec.ofNat 32 (i 1).val) v25 v34 v37 73#32) K := by
  simp only [k0_part3_eq_skeleton]; unfold k0_part3_skel
  unfold owns
  iintro ⟨⟨%f3, %hf3, H3⟩, ⟨%f14, %hf14, H14⟩, ⟨%f15, %hf15, H15⟩, ⟨%f16, %hf16, H16⟩, Hk⟩
  obtain rfl := harg5.eq_unread hf3; obtain rfl := harg16.eq_unread hf14; obtain rfl := harg17.eq_unread hf15; obtain rfl := harg18.eq_unread hf16
  sl_exec (disch := first | sl_exact hc1 | sl_exact hc2)
  sl_step
  sl_unfold_run_names
  simp only [readAt_win, read_put, View.writes_nil, Memref.IsWhole.read_unread, g3, w2, w3, w4]
  simp only [View.readCov, readAt_win, read_put, View.writes_nil]; rw [apart32 i, apart43 i, apart42 i, window_put_any i (arg17.view.read (Elt F) arg17.view.junk) xg _ _ _ (in2 i), window_put_any i (arg17.view.read (Elt F) arg17.view.junk) xg _ _ _ (in3 i), window_put_any i (arg17.view.read (Elt F) arg17.view.junk) xg _ _ _ (in4 i)]
  iapply Hk
  isplitl [H3]
  · iexists _; isplitr; · ipureintro; exact harg5.read_unread _
    iexact H3
  isplitl [H14]
  · iexists _; isplitr; rotate_left; · iexact H14
    ipureintro
    refine (View.read_writes_full _ _ _ _ _).trans ?_; exact congrArg (k0_pay12 (F := F)) ((window_full (s := S1024x128) _ inb_S1024x128_S1024x128_0_0))
  isplitl [H15]
  · iexists _; isplitr; rotate_left; · iexact H15
    ipureintro
    simp only [readAt_win, read_put, View.writes_nil, Memref.IsWhole.read_unread]
  iexists _; isplitr; · ipureintro; exact harg18.read_unread _
  iexact H16

set_option maxHeartbeats 2000000 in
/-- The third part (a row's last point, a later row of blocks). -/
theorem part3_last (hc1 : k0_cond2 i = 1#1) (hc2 : ¬k0_cond3 i = 1#1) (x3 : Vec F S128x1024 .bf16) (z1 : Vec F S1024x128 .bf16) (xg : Vec F S96x18944 .f32) (s1 : Vec F S1024x128 .f32) (v25 v34 v37 : FVec F S1024x256 .bf16) (a0 : BitVec 32) (E : Set ℕ)
    (K : FVec F S32x256 .f32 → sProp (MT nD τ sig Unit (Elt F) ℕ (UR sig nD τ) ℕ)) :
    iprop(owns (c : Thread nD τ) arg5 fullShare x3 ∗ owns (c : Thread nD τ) arg16 fullShare z1 ∗ owns (c : Thread nD τ) arg17 fullShare xg ∗ owns (c : Thread nD τ) arg18 fullShare s1
        ∗ (iprop(owns (c : Thread nD τ) arg5 fullShare x3 ∗ owns (c : Thread nD τ) arg16 fullShare (k0_pay12 s1) ∗ owns (c : Thread nD τ) arg17 fullShare (g3 i v34 v37 x3 xg) ∗ owns (c : Thread nD τ) arg18 fullShare s1)
          -∗ K (w4 i v25 x3 xg)))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (BitVec.ofNat 32 (i 1).val) v25 v34 v37 73#32) K := by
  simp only [k0_part3_eq_skeleton]; unfold k0_part3_skel
  unfold owns
  iintro ⟨⟨%f3, %hf3, H3⟩, ⟨%f14, %hf14, H14⟩, ⟨%f15, %hf15, H15⟩, ⟨%f16, %hf16, H16⟩, Hk⟩
  obtain rfl := harg5.eq_unread hf3; obtain rfl := harg16.eq_unread hf14; obtain rfl := harg17.eq_unread hf15; obtain rfl := harg18.eq_unread hf16
  sl_exec (disch := first | sl_exact hc1 | sl_exact hc2)
  sl_step
  sl_unfold_run_names
  simp only [readAt_win, read_put, View.writes_nil, Memref.IsWhole.read_unread, g3, w2, w3, w4]

  iapply Hk
  isplitl [H3]
  · iexists _; isplitr; · ipureintro; exact harg5.read_unread _
    iexact H3
  isplitl [H14]
  · iexists _; isplitr; rotate_left; · iexact H14
    ipureintro
    refine (View.read_writes_full _ _ _ _ _).trans ?_; exact congrArg (k0_pay12 (F := F)) ((window_full (s := S1024x128) _ inb_S1024x128_S1024x128_0_0))
  isplitl [H15]
  · iexists _; isplitr; rotate_left; · iexact H15
    ipureintro
    simp only [readAt_win, read_put, View.writes_nil, Memref.IsWhole.read_unread]
  iexists _; isplitr; · ipureintro; exact harg18.read_unread _
  iexact H16

/-- The scratch as the body's products find it: zeros at a row's first point. -/
def sFrom (s0 : Vec F S1024x128 .f32) : Vec F S1024x128 .f32 := if cFirst i then k0_pay10 (F := F) else s0

/-- The gradients' block as the body's products find it: its columns set to zero at the points of the first row of blocks. -/
def gFrom (g : Vec F S96x18944 .f32) : Vec F S96x18944 .f32 :=
  if k0_cond3 i = 1#1 then put g (k0_off1 i) ![96, 256] (k0_pay13 (F := F)) else g

/-- The activation's block that a point stores. -/
def aB (x0 : Vec F S1024x3584 .bf16) (x2 : Vec F S1024x128 .bf16) (x4 : Vec F S3584x256 .bf16) (x5 : Vec F S3584x256 .bf16) (x7 : Vec F S256x128 .bf16) (x8 : Vec F S256x128 .bf16) : FVec F S1024x256 .bf16 := k0_pay5 x2 x0 x4 x7 x0 x5 x8

/-- The gate gradient's block that a point stores. -/
def dgB (x0 : Vec F S1024x3584 .bf16) (x1 : Vec F S1024x3584 .bf16) (x2 : Vec F S1024x128 .bf16) (x4 : Vec F S3584x256 .bf16) (x5 : Vec F S3584x256 .bf16) (x6 : Vec F S256x3584 .bf16) (x7 : Vec F S256x128 .bf16) (x8 : Vec F S256x128 .bf16) (x9 : Vec F S128x256 .bf16) : FVec F S1024x256 .bf16 :=
  k0_pay8 (k0_pay6 x2 x0 x4 x7 x0 x5 x8 x1 x6 x9) (k0_pay7 x2 x0 x4 x7)

/-- The up gradient's block that a point stores. -/
def duB (x0 : Vec F S1024x3584 .bf16) (x1 : Vec F S1024x3584 .bf16) (x2 : Vec F S1024x128 .bf16) (x4 : Vec F S3584x256 .bf16) (x6 : Vec F S256x3584 .bf16) (x7 : Vec F S256x128 .bf16) (x9 : Vec F S128x256 .bf16) : FVec F S1024x256 .bf16 :=
  k0_pay9 (k0_pay1 x2 x0 x4 x7) (k0_pay3 x2 x1 x6 x9) (k0_pay4 x2 x0 x4 x7)

/-- The accumulator of the rank columns after a point. -/
def zB (x0 : Vec F S1024x3584 .bf16) (x1 : Vec F S1024x3584 .bf16) (x2 : Vec F S1024x128 .bf16) (x4 : Vec F S3584x256 .bf16) (x5 : Vec F S3584x256 .bf16) (x6 : Vec F S256x3584 .bf16) (x7 : Vec F S256x128 .bf16) (x8 : Vec F S256x128 .bf16) (x9 : Vec F S128x256 .bf16) (x10 : Vec F S3x256x128 .bf16) (s0 : Vec F S1024x128 .f32) : Vec F S1024x128 .f32 :=
  zNew (sFrom i s0) x10 (k0_pay1 x2 x0 x4 x7) (k0_pay3 x2 x1 x6 x9) (k0_pay4 x2 x0 x4 x7) (aB x0 x2 x4 x5 x7 x8) (k0_pay6 x2 x0 x4 x7 x0 x5 x8 x1 x6 x9) (k0_pay7 x2 x0 x4 x7)

/-- The gradients' block after a point. -/
def gB (x0 : Vec F S1024x3584 .bf16) (x1 : Vec F S1024x3584 .bf16) (x2 : Vec F S1024x128 .bf16) (x3 : Vec F S128x1024 .bf16) (x4 : Vec F S3584x256 .bf16) (x5 : Vec F S3584x256 .bf16) (x6 : Vec F S256x3584 .bf16) (x7 : Vec F S256x128 .bf16) (x8 : Vec F S256x128 .bf16) (x9 : Vec F S128x256 .bf16) (g : Vec F S96x18944 .f32) : Vec F S96x18944 .f32 :=
  put (g3 i (dgB x0 x1 x2 x4 x5 x6 x7 x8 x9) (duB x0 x1 x2 x4 x6 x7 x9) x3 (gFrom i g)) (k0_off4 i) S32x256.size (w4 i (aB x0 x2 x4 x5 x7 x8) x3 (gFrom i g))

/-- The second part, whichever point it is. -/
theorem part2_run (x10 : Vec F S3x256x128 .bf16) (s0 : Vec F S1024x128 .f32) (v7 v21 v22 : FVec F S1024x256 .f32) (v25 : FVec F S1024x256 .bf16) (v27 v30 : FVec F S1024x256 .f32) (E : Set ℕ)
    (K : (Σ' (v34 : FVec F S1024x256 .bf16) (v37 : FVec F S1024x256 .bf16), BitVec 32) → sProp (MT nD τ sig Unit (Elt F) ℕ (UR sig nD τ) ℕ)) :
    iprop(owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg18 fullShare s0
        ∗ (iprop(owns (c : Thread nD τ) arg12 fullShare x10 ∗ owns (c : Thread nD τ) arg13 fullShare v25 ∗ owns (c : Thread nD τ) arg14 fullShare (k0_pay8 v27 v30) ∗ owns (c : Thread nD τ) arg15 fullShare (k0_pay9 v7 v21 v22) ∗ owns (c : Thread nD τ) arg18 fullShare (zNew (sFrom i s0) x10 v7 v21 v22 v25 v27 v30))
          -∗ K ⟨k0_pay8 v27 v30, k0_pay9 v7 v21 v22, 73#32⟩))
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) v7 v21 v22 v25 v27 v30) K := by
  unfold sFrom
  by_cases h : cFirst i
  · rw [if_pos h]; exact part2_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x10 s0 v7 v21 v22 v25 v27 v30 E K
  · rw [if_neg h]; exact part2_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h x10 s0 v7 v21 v22 v25 v27 v30 E K

/-- The third part, whichever point it is. -/
theorem part3_run (x3 : Vec F S128x1024 .bf16) (z1 : Vec F S1024x128 .bf16) (xg : Vec F S96x18944 .f32) (s1 : Vec F S1024x128 .f32) (v25 v34 v37 : FVec F S1024x256 .bf16) (a0 : BitVec 32) (E : Set ℕ)
    (K : FVec F S32x256 .f32 → sProp (MT nD τ sig Unit (Elt F) ℕ (UR sig nD τ) ℕ)) :
    iprop(owns (c : Thread nD τ) arg5 fullShare x3 ∗ owns (c : Thread nD τ) arg16 fullShare z1 ∗ owns (c : Thread nD τ) arg17 fullShare xg ∗ owns (c : Thread nD τ) arg18 fullShare s1
        ∗ (iprop(owns (c : Thread nD τ) arg5 fullShare x3 ∗ owns (c : Thread nD τ) arg16 fullShare (if k0_cond2 i = 1#1 then k0_pay12 s1 else z1) ∗ owns (c : Thread nD τ) arg17 fullShare (g3 i v34 v37 x3 (gFrom i xg)) ∗ owns (c : Thread nD τ) arg18 fullShare s1)
          -∗ K (w4 i v25 x3 (gFrom i xg))))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (BitVec.ofNat 32 (i 1).val) v25 v34 v37 73#32) K := by
  unfold gFrom
  by_cases h1 : k0_cond2 i = 1#1 <;> by_cases h2 : k0_cond3 i = 1#1
  · rw [if_pos h1, if_pos h2]; exact part3_last0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 x3 z1 xg s1 v25 v34 v37 a0 E K
  · rw [if_pos h1, if_neg h2]; exact part3_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 x3 z1 xg s1 v25 v34 v37 a0 E K
  · rw [if_neg h1, if_pos h2]; exact part3_mid0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 x3 z1 xg s1 v25 v34 v37 a0 E K
  · rw [if_neg h1, if_neg h2]; exact part3_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 x3 z1 xg s1 v25 v34 v37 a0 E K

include harg17 in
/-- The body ends with a store of the last rows. -/
theorem tail_run (xg : Vec F S96x18944 .f32) (w : FVec F S32x256 .f32) (E : Set ℕ) (K : PUnit → sProp (MT nD τ sig Unit (Elt F) ℕ (UR sig nD τ) ℕ)) :
    iprop(owns (c : Thread nD τ) arg17 fullShare xg ∗ (iprop(owns (c : Thread nD τ) arg17 fullShare (put xg (k0_off4 i) S32x256.size w)) -∗ K ⟨⟩))
      ⊢ wp frame (wpE (defs₀ (F := F)) Variants.none c none) E (do
          let v95 : Vec F S32x256 .f32 ← Prog.lift (.load arg17 (Rect.unit (s := S96x18944) (k0_off4 i) S32x256.size (k0_off4_inb i)).toLoadRect (View.loadsAt_vmem h_S32x256))
          Prog.lift (.store arg17 (Rect.unit (s := S96x18944) (k0_off4 i) S32x256.size (k0_off4_inb i)) w Finset.univ (View.stores_vmem_bits_univ h_S32x256 rfl) (.inl rfl))
          pure ⟨⟩) K := by
  unfold owns
  iintro ⟨⟨%f15, %hf15, H15⟩, Hk⟩
  obtain rfl := harg17.eq_unread hf15
  sl_exec
  sl_step
  iapply Hk
  iexists _; isplitr; rotate_left; · iexact H15
  ipureintro
  refine (read_put _ _ _ _ _).trans ?_
  simp only [View.writes_nil, Memref.IsWhole.read_unread]

set_option maxHeartbeats 2000000 in
/-- The whole body: what it leaves in each buffer. -/
theorem body_run (x0 : Vec F S1024x3584 .bf16) (x1 : Vec F S1024x3584 .bf16) (x2 : Vec F S1024x128 .bf16) (x3 : Vec F S128x1024 .bf16) (x4 : Vec F S3584x256 .bf16) (x5 : Vec F S3584x256 .bf16) (x6 : Vec F S256x3584 .bf16) (x7 : Vec F S256x128 .bf16) (x8 : Vec F S256x128 .bf16) (x9 : Vec F S128x256 .bf16) (x10 : Vec F S3x256x128 .bf16) (z1 : Vec F S1024x128 .bf16) (xg : Vec F S96x18944 .f32) (s0 : Vec F S1024x128 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare z1 ∗ owns (c : Thread nD τ) arg17 fullShare xg ∗ owns (c : Thread nD τ) arg18 fullShare s0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (aB x0 x2 x4 x5 x7 x8) ∗ owns (c : Thread nD τ) arg14 fullShare (dgB x0 x1 x2 x4 x5 x6 x7 x8 x9) ∗ owns (c : Thread nD τ) arg15 fullShare (duB x0 x1 x2 x4 x6 x7 x9)
            ∗ owns (c : Thread nD τ) arg16 fullShare (if k0_cond2 i = 1#1 then k0_pay12 (zB i x0 x1 x2 x4 x5 x6 x7 x8 x9 x10 s0) else z1) ∗ owns (c : Thread nD τ) arg17 fullShare (gB i x0 x1 x2 x3 x4 x5 x6 x7 x8 x9 xg) ∗ owns (c : Thread nD τ) arg18 fullShare (zB i x0 x1 x2 x4 x5 x6 x7 x8 x9 x10 s0))
          -∗ K ⟨⟩))
      ⊢ wp frame (wpE (defs₀ (F := F)) Variants.none c none) E (cc0_swiglu (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_swiglu_eq_skeleton]; unfold cc0_swiglu_skel
  iintro ⟨H0, H1, H2, H3, H4, H5, H6, H7, H8, H9, H10, H11, H12, H13, H14, H15, H16, Hk⟩
  rw [wp_bind]
  iapply part1_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x4 x5 x6 x7 x8 x9 E _
  isplitl [H0]; · iexact H0
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  iintro ⟨H0, H1, H2, H4, H5, H6, H7, H8, H9⟩
  rw [wp_bind]
  iapply part2_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x10 s0 _ _ _ _ _ _ E _
  isplitl [H10]; · iexact H10
  isplitl [H11]; · iexact H11
  isplitl [H12]; · iexact H12
  isplitl [H13]; · iexact H13
  isplitl [H16]; · iexact H16
  iintro ⟨H10, H11, H12, H13, H16⟩
  rw [wp_bind]
  iapply part3_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 z1 xg _ _ _ _ _ E _
  isplitl [H3]; · iexact H3
  isplitl [H14]; · iexact H14
  isplitl [H15]; · iexact H15
  isplitl [H16]; · iexact H16
  iintro ⟨H3, H14, H15, H16⟩
  iapply tail_run c i arg17 harg17 _ _ E K
  isplitl [H15]; · iexact H15
  iintro H15
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.SwigluIdeal.Hand

end
-- ==== Proof.SwigluIdealFrame.lean ====
/-
  The frame of the SwiGLU kernel's launch: at every point the body leaves the activation's and the two gradients' blocks as
  functions of the inputs' blocks, the accumulator of the rank columns in its scratch, and the factors' gradients as one step
  from what it found.
-/
module

public import proofs.«01_k».proof.Proof.SwigluIdealRun
public import Idealize.ShloMosaic.Lib.WordCmp
public import Idealize.ShloMosaic.Lib.Claim
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.SwigluIdeal.Hand

open Cert.SwigluIdeal Cert.SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat cellOf)

variable {F : FTy → Type} [FloatOps F]

variable (m : (ℓ : Loc nD τ sig) → Buf (Elt F) ℓ) (ρ : Dev nD → PrngReg)

/-- A row of blocks begins at the points ≡ 0 (mod 74). -/
theorem hcFirst (t : Fin cfg0.N) : cFirst (grid0.coords t) ↔ t.val % 74 = 0 := by
  have ht : t.val < 888 := Nat.lt_of_lt_of_eq t.isLt N_0
  have e1 : (grid0.coords t 1).val = t.val / 1 % 74 := Pipeline.Grid.coords_val t 1 (by decide) rfl
  simp only [cFirst, e1]
  word_cmp

/-- A row of blocks ends at the points ≡ 73 (mod 74). -/
theorem hcond2 (t : Fin cfg0.N) : k0_cond2 (grid0.coords t) = 1#1 ↔ t.val % 74 = 73 := by
  have ht : t.val < 888 := Nat.lt_of_lt_of_eq t.isLt N_0
  have e1 : (grid0.coords t 1).val = t.val / 1 % 74 := Pipeline.Grid.coords_val t 1 (by decide) rfl
  simp only [k0_cond2, e1]
  word_cmp

/-- The first row of blocks is the points below 74. -/
theorem hcond3 (t : Fin cfg0.N) : k0_cond3 (grid0.coords t) = 1#1 ↔ t.val < 74 := by
  have ht : t.val < 888 := Nat.lt_of_lt_of_eq t.isLt N_0
  have e0 : (grid0.coords t 0).val = t.val / 74 % 12 := Pipeline.Grid.coords_val t 0 (by decide) rfl
  simp only [k0_cond3, e0]
  word_cmp

/-- The activation's block at a point. -/
def aAt (c : Dev nD) (t : Fin cfg0.N) : FVec F S1024x256 .bf16 := aB (iblk m c 0 t) (iblk m c 2 t) (iblk m c 4 t) (iblk m c 5 t) (iblk m c 7 t) (iblk m c 8 t)

/-- The gate gradient's block at a point. -/
def dgAt (c : Dev nD) (t : Fin cfg0.N) : FVec F S1024x256 .bf16 := dgB (iblk m c 0 t) (iblk m c 1 t) (iblk m c 2 t) (iblk m c 4 t) (iblk m c 5 t) (iblk m c 6 t) (iblk m c 7 t) (iblk m c 8 t) (iblk m c 9 t)

/-- The up gradient's block at a point. -/
def duAt (c : Dev nD) (t : Fin cfg0.N) : FVec F S1024x256 .bf16 := duB (iblk m c 0 t) (iblk m c 1 t) (iblk m c 2 t) (iblk m c 4 t) (iblk m c 6 t) (iblk m c 7 t) (iblk m c 9 t)

/-- The accumulator of the rank columns after a point, from what it held. -/
def zAt (c : Dev nD) (t : Fin cfg0.N) (s : Vec F S1024x128 .f32) : Vec F S1024x128 .f32 := zB (grid0.coords t) (iblk m c 0 t) (iblk m c 1 t) (iblk m c 2 t) (iblk m c 4 t) (iblk m c 5 t) (iblk m c 6 t) (iblk m c 7 t) (iblk m c 8 t) (iblk m c 9 t) (iblk m c 10 t) s

/-- The factors' gradients after a point, from what they held. -/
def gAt (c : Dev nD) (t : Fin cfg0.N) (g : Vec F S96x18944 .f32) : Vec F S96x18944 .f32 := gB (grid0.coords t) (iblk m c 0 t) (iblk m c 1 t) (iblk m c 2 t) (iblk m c 3 t) (iblk m c 4 t) (iblk m c 5 t) (iblk m c 6 t) (iblk m c 7 t) (iblk m c 8 t) (iblk m c 9 t) g

/-- The accumulator before point `n`. -/
def zAcc (c : Dev nD) : ℕ → Vec F S1024x128 .f32
  | 0 => k0_pay10 (F := F)
  | n + 1 => if h : n < cfg0.N then zAt m c ⟨n, h⟩ (zAcc c n) else zAcc c n

theorem zAcc_succ (c : Dev nD) (t : Fin cfg0.N) : zAcc m c (t.val + 1) = zAt m c t (zAcc m c t.val) := dif_pos t.isLt

/-- What the factors' gradients may hold before point `n`: anything before the first, then one step after another. -/
def gradOk (c : Dev nD) : ℕ → Vec F S96x18944 .f32 → Prop
  | 0, _ => True
  | n + 1, X => ∃ Y, gradOk c n Y ∧ ∃ h : n < cfg0.N, X = gAt m c ⟨n, h⟩ Y

/-- At a row's first point the accumulator does not depend on what it held. -/
theorem zAt_first (c : Dev nD) (t : Fin cfg0.N) (h : t.val % 74 = 0) (s s' : Vec F S1024x128 .f32) : zAt m c t s = zAt m c t s' := by
  unfold zAt zB sFrom
  rw [if_pos ((hcFirst t).mpr h), if_pos ((hcFirst t).mpr h)]

/-- The kernel's scratch. -/
abbrev scM0_0 : Memref sig .tc .vmem S1024x128 .f32 := Memref.whole cc0_scratch0

/-- What the launch hands the region: the scratch at anything, and the generator register. -/
theorem PhiA0_eq (c : Dev nD) : (Pipeline.ΦA spec0 c : sProp (MT nD τ sig Unit (Elt F) ℕ (UR sig nD τ) ℕ)) = iprop(iprop(∃ d, owns (c : Thread nD τ) scM0_0 fullShare d) ∗ (∃ r, prngReg c r)) := by
  unfold Pipeline.ΦA; rw [scopedRest0_eq]; simp only [scM0_0, owns_whole]; try rfl

/-- The invariant before point `n`. -/
def PhiS (c : Dev nD) : ℕ → sProp (MT nD τ sig Unit (Elt F) ℕ (UR sig nD τ) ℕ)
  | 0 => Pipeline.ΦA spec0 c
  | n + 1 => iprop(owns (c : Thread nD τ) scM0_0 fullShare (zAcc m c (n + 1)) ∗ (∃ r, prngReg c r))

/-- The outputs' windows. -/
def outs : Fin cfg0.W → Bool := fun w => Nat.ble 11 w.val

/-- What the body leaves in each output's window at a point. -/
def Rl (c : Dev nD) (w : Fin cfg0.W) (t : Fin cfg0.N) : ((cfg0.win w).block.Idx → Elt F (cfg0.win w).elt) → Prop :=
  match w with
  | ⟨11, _⟩ => fun X => X = aAt m c t
  | ⟨12, _⟩ => fun X => X = dgAt m c t
  | ⟨13, _⟩ => fun X => X = duAt m c t
  | ⟨14, _⟩ => fun X => t.val % 74 = 73 → X = k0_pay12 (zAcc m c (t.val + 1))
  | ⟨15, _⟩ => fun X => gradOk m c (t.val + 1) X
  | _ => fun _ => True

/-- The launch's data: the inputs' blocks stay; what the outputs hold is said by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => aAt m c t
    | ⟨12, _⟩ => dgAt m c t
    | ⟨13, _⟩ => duAt m c t
    | ⟨14, _⟩ => k0_pay12 (zAcc m c (t.val + 1))
    | ⟨15, _⟩ => fun _ => Classical.arbitrary _
    | ⟨n + 16, h⟩ => absurd h (by rw [show cfg0.W = 16 from rfl]; omega)
  Φ t := PhiS m c t.val
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem before0_10 (c : Dev nD) (t : Fin cfg0.N) (d) : (dats m 0 c).before 10 t d = iblk m c 10 t :=
  before0_10_of m (dats m 0 c) (A_eq m c 10) (fun t => by dsimp only [dats]) t d

abbrev ms0_0 (t : Fin cfg0.N) : Memref sig .tc .vmem S1024x3584 .bf16 := win0_0.stage (cfg0.slots t 0)
abbrev ms0_1 (t : Fin cfg0.N) : Memref sig .tc .vmem S1024x3584 .bf16 := win0_1.stage (cfg0.slots t 1)
abbrev ms0_2 (t : Fin cfg0.N) : Memref sig .tc .vmem S1024x128 .bf16 := win0_2.stage (cfg0.slots t 2)
abbrev ms0_3 (t : Fin cfg0.N) : Memref sig .tc .vmem S128x1024 .bf16 := win0_3.stage (cfg0.slots t 3)
abbrev ms0_4 (t : Fin cfg0.N) : Memref sig .tc .vmem S3584x256 .bf16 := win0_4.stage (cfg0.slots t 4)
abbrev ms0_5 (t : Fin cfg0.N) : Memref sig .tc .vmem S3584x256 .bf16 := win0_5.stage (cfg0.slots t 5)
abbrev ms0_6 (t : Fin cfg0.N) : Memref sig .tc .vmem S256x3584 .bf16 := win0_6.stage (cfg0.slots t 6)
abbrev ms0_7 (t : Fin cfg0.N) : Memref sig .tc .vmem S256x128 .bf16 := win0_7.stage (cfg0.slots t 7)
abbrev ms0_8 (t : Fin cfg0.N) : Memref sig .tc .vmem S256x128 .bf16 := win0_8.stage (cfg0.slots t 8)
abbrev ms0_9 (t : Fin cfg0.N) : Memref sig .tc .vmem S128x256 .bf16 := win0_9.stage (cfg0.slots t 9)
abbrev ms0_10 (t : Fin cfg0.N) : Memref sig .tc .vmem S3x256x128 .bf16 := win0_10.stage (cfg0.slots t 10)
abbrev ms0_11 (t : Fin cfg0.N) : Memref sig .tc .vmem S1024x256 .bf16 := win0_11.stage (cfg0.slots t 11)
abbrev ms0_12 (t : Fin cfg0.N) : Memref sig .tc .vmem S1024x256 .bf16 := win0_12.stage (cfg0.slots t 12)
abbrev ms0_13 (t : Fin cfg0.N) : Memref sig .tc .vmem S1024x256 .bf16 := win0_13.stage (cfg0.slots t 13)
abbrev ms0_14 (t : Fin cfg0.N) : Memref sig .tc .vmem S1024x128 .bf16 := win0_14.stage (cfg0.slots t 14)
abbrev ms0_15 (t : Fin cfg0.N) : Memref sig .tc .vmem S96x18944 .f32 := win0_15.stage (cfg0.slots t 15)

/-- The launch's data, what the outputs may hold said by `Rl`. -/
abbrev rdats (c : Dev nD) := (dats (F := F) m 0 c).toRRel outs (Rl m c)

/-- What the body is handed at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y)
    ∗ (∃ Y, ⌜(rdats m c).Finds 14 t Y⌝ ∗ owns (c : Thread nD τ) (ms0_14 t) fullShare Y)
    ∗ (∃ Y, ⌜(rdats m c).Finds 15 t Y⌝ ∗ owns (c : Thread nD τ) (ms0_15 t) fullShare Y))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X))

/-- What the body finds in the gradients' window. -/
theorem finds_grads (c : Dev nD) (t : Fin cfg0.N) (Y : Vec F S96x18944 .f32) (h : (rdats m c).Finds 15 t Y) : gradOk m c t.val Y := by
  by_cases hz : t.val = 0
  · rw [hz]; exact trivial
  · have ht : t.val < 888 := lt_of_lt_of_eq t.isLt (show cfg0.N = 888 from N_0)
    obtain ⟨n, hn⟩ : ∃ n, t.val = n + 1 := ⟨t.val - 1, by omega⟩
    rcases (RDat.finds_of_pos (rdats m c) (show (cfg0.win 15).fetch t = false from rfl) hz Y).mp h with hf | hl
    · have := (flush0_15 _).mp hf
      simp only [] at this; omega
    · have hR := (dats m 0 c).toRRel_leaves (fgt := outs) (Rl := Rl m c) (w := 15) rfl hl
      have e : gradOk m c (t.val - 1 + 1) Y := hR
      rwa [Nat.sub_add_cancel (Nat.one_le_iff_ne_zero.mpr hz)] at e

/-- The body's step with the scratch at given contents. -/
theorem sound_step (c : Dev nD) (t : Fin cfg0.N) (s0 : Vec F S1024x128 .f32) (hs : zAt m c t s0 = zAcc m c (t.val + 1)) :
    iprop(iprop(owns (c : Thread nD τ) scM0_0 fullShare s0 ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y)
    ∗ (∃ Y, ⌜(rdats m c).Finds 14 t Y⌝ ∗ owns (c : Thread nD τ) (ms0_14 t) fullShare Y)
    ∗ (∃ Y, ⌜(rdats m c).Finds 15 t Y⌝ ∗ owns (c : Thread nD τ) (ms0_15 t) fullShare Y))
      ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = iprop(owns (c : Thread nD τ) scM0_0 fullShare (zAcc m c (t.val + 1)) ∗ (∃ r, prngReg c r)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %h11, H11⟩, ⟨%d12, %h12, H12⟩, ⟨%d13, %h13, H13⟩, ⟨%d14, %h14, H14⟩, ⟨%d15, %h15, H15⟩⟩
  iapply body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) d14 d15 s0 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hg]
  · isplitl [HS]
    · rw [← hs]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; rotate_left; · iexact H11
    ipureintro; exact rfl
  isplitl [H12]
  · iexists _; isplitr; rotate_left; · iexact H12
    ipureintro; exact rfl
  isplitl [H13]
  · iexists _; isplitr; rotate_left; · iexact H13
    ipureintro; exact rfl
  isplitl [H14]
  · iexists _; isplitr; rotate_left; · iexact H14
    ipureintro
    intro h73
    rw [if_pos ((hcond2 t).mpr h73), ← hs]; rfl
  iexists _; isplitr; rotate_left; · iexact H15
  ipureintro
  exact ⟨d15, finds_grads m c t d15 h15, t.isLt, rfl⟩

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = PhiS m c t.val from rfl]
  by_cases hz : t.val = 0
  · rw [show PhiS m c t.val = Pipeline.ΦA spec0 c from by rw [hz]; rfl, PhiA0_eq]
    iintro ⟨⟨⟨%s0, HS⟩, Hg⟩, Hr⟩
    iapply sound_step m c t s0 ((zAt_first m c t (by omega) _ _).trans (zAcc_succ m c t).symm)
    isplitl [HS Hg]
    · isplitl [HS]; · iexact HS
      iexact Hg
    iexact Hr
  · obtain ⟨n, hn⟩ : ∃ n, t.val = n + 1 := ⟨t.val - 1, by omega⟩
    rw [show PhiS m c t.val = iprop(owns (c : Thread nD τ) scM0_0 fullShare (zAcc m c t.val) ∗ (∃ r, prngReg c r)) from by rw [hn]; rfl]
    exact sound_step m c t _ (zAcc_succ m c t).symm

/-- The body table's row at a point's buffers is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's obligation on the body. -/
theorem body_obligation (c : Dev nD) : BodyObligationRel (dats (F := F) m 0 c) (defs₀ (F := F)) Variants.none () Set.univ outs (Rl m c) := fun t => by
  rw [bigSep_W0, bigSep_W0, defs₀_row]
  refine triple_restated (sound_body m c t) rfl .rfl fun _ => ?_
  unfold bodyPost
  simp only [show outs 0 = false from rfl, show outs 1 = false from rfl, show outs 2 = false from rfl, show outs 3 = false from rfl, show outs 4 = false from rfl, show outs 5 = false from rfl, show outs 6 = false from rfl, show outs 7 = false from rfl, show outs 8 = false from rfl, show outs 9 = false from rfl, show outs 10 = false from rfl, show outs 11 = true from rfl, show outs 12 = true from rfl, show outs 13 = true from rfl, show outs 14 = true from rfl, show outs 15 = true from rfl]
  iintro ⟨HP, Ho, H0, H1, H2, H3, H4, H5, H6, H7, H8, H9, H10, H11, H12, H13, H14, H15⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (887 + 1) from (show (dats m 0 c).Φ (Fin.last cfg0.N) = PhiS m c (Fin.last cfg0.N).val from rfl).trans (congrArg (PhiS m c) ((Fin.val_last _).trans N_0)), PhiA0_eq]
  show iprop(owns (c : Thread nD τ) scM0_0 fullShare (zAcc m c (887 + 1)) ∗ (∃ r, prngReg c r)) ⊢ _
  iintro ⟨HS, Hg⟩
  isplitl [HS]
  · iexists _; iexact HS
  iexact Hg

set_option backward.isDefEq.respectTransparency.types false in
/-- The launch, for any data of this kind. -/
theorem run_of (dats : (p : Fin 1) → (c : Dev nD) → Dat τ (Elt F) Unit ℕ (UR sig nD τ) ℕ (cfgs p) c)
    (Rl : (c : Dev nD) → (w : Fin cfg0.W) → Fin cfg0.N → ((cfg0.win w).block.Idx → Elt F (cfg0.win w).elt) → Prop)
    (hbody : ∀ c, BodyObligationRel (dats 0 c) (defs₀ (F := F)) Variants.none () Set.univ outs (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (fun r => RDat.FramePost cfg0 (fun c => (dats 0 c).toRRel outs (Rl c)) (V m) r ∧ r.2.sem = fun _ => 0) :=
  RDat.θ_run_frame_track cfgs (0 : Fin 1) launch0 defs₀ Variants.none (fun c => (dats 0 c).toRRel outs (Rl c)) m ρ main
    (fun c => (hbody c).toRRel) hshare howed (V m) (hmain m Variants.none) hA hin hout _ (fun _ h => h)

/-- The launch at this kernel's data. -/
theorem run_main : θ_run defs (onTc (τ := τ) (main (F := F))) (s₀ m ρ)
      (fun r => RDat.FramePost cfg0 (fun c => rdats m c) (V m) r ∧ r.2.sem = fun _ => 0) :=
  run_of m ρ (dats m) (Rl m) (body_obligation m) (fun c => (dats m 0 c).share_full fun _ => rfl) (fun _ _ => rfl) (A_eq m) (hin m) (hout m)

/-- An input's array at the launch's end. -/
theorem arg_in (c : Dev nD) {r : PUnit × MemSt nD τ sig (Elt F)} (h : RDat.FramePost cfg0 (fun c => rdats m c) (V m) r) (w : Fin cfg0.W)
    (hw : (cfg0.win w).isOut = false) : r.2.mem ((cfg0.spec w).arr.view.loc (c.tc : Thread nD τ)) = V m c (Pipeline.arrRef spec0 w) :=
  (RDat.FramePost.arr_in h c w hw).trans ((congrFun (Dat.toRRel_A (dats m 0 c) (fgt := outs) (Rl := Rl m c)) w).trans (A_eq m c w))

/-- The frame read off the launch's end. -/
theorem args_of (c : Dev nD) {r : PUnit × MemSt nD τ sig (Elt F)} (h : RDat.FramePost cfg0 (fun c => rdats m c) (V m) r) :
      r.2.mem ((c.tc : Thread nD τ).loc main_arg0) = m ((c.tc : Thread nD τ).loc main_arg0)
 ∧       r.2.mem ((c.tc : Thread nD τ).loc main_arg1) = m ((c.tc : Thread nD τ).loc main_arg1)
 ∧       r.2.mem ((c.tc : Thread nD τ).loc main_arg2) = m ((c.tc : Thread nD τ).loc main_arg2)
 ∧       r.2.mem ((c.tc : Thread nD τ).loc main_arg3) = m ((c.tc : Thread nD τ).loc main_arg3)
 ∧       r.2.mem ((c.tc : Thread nD τ).loc main_arg4) = m ((c.tc : Thread nD τ).loc main_arg4)
 ∧       r.2.mem ((c.tc : Thread nD τ).loc main_arg5) = m ((c.tc : Thread nD τ).loc main_arg5)
 ∧       r.2.mem ((c.tc : Thread nD τ).loc main_arg6) = m ((c.tc : Thread nD τ).loc main_arg6)
 ∧       r.2.mem ((c.tc : Thread nD τ).loc main_arg7) = m ((c.tc : Thread nD τ).loc main_arg7)
 ∧       r.2.mem ((c.tc : Thread nD τ).loc main_arg8) = m ((c.tc : Thread nD τ).loc main_arg8)
 ∧       r.2.mem ((c.tc : Thread nD τ).loc main_arg9) = m ((c.tc : Thread nD τ).loc main_arg9) :=
  ⟨(arg_in m c h 0 rfl).trans (V_main_arg0 m c), (arg_in m c h 1 rfl).trans (V_main_arg1 m c), (arg_in m c h 2 rfl).trans (V_main_arg2 m c), (arg_in m c h 3 rfl).trans (V_main_arg3 m c), (arg_in m c h 4 rfl).trans (V_main_arg4 m c), (arg_in m c h 5 rfl).trans (V_main_arg5 m c), (arg_in m c h 6 rfl).trans (V_main_arg6 m c),
    ((h c).2 main_arg7 (Pipeline.mem_restRefs_of main_arg7 (by decide) (by decide))).trans (V_main_arg7 m c), ((h c).2 main_arg8 (Pipeline.mem_restRefs_of main_arg8 (by decide) (by decide))).trans (V_main_arg8 m c), ((h c).2 main_arg9 (Pipeline.mem_restRefs_of main_arg9 (by decide) (by decide))).trans (V_main_arg9 m c)⟩

end Cert.SwigluIdeal.Hand

end
-- ==== Proof.SwigluFrame.lean ====
/-
  The frame of the printed program `Swiglu`, from the frame of `SwigluIdeal`.

  The idealisation rewrote no operation, so the two modules print one program. Its frame is proved once, for
  every float instance, of `SwigluIdeal` (`SwigluIdealFrame`); here the two programs are shown equal, and the
  frame of `Swiglu` is that theorem at the bit-level instance.
-/
module

public import proofs.«01_k».proof.Defs
public import proofs.«01_k».proof.Proof.Gen.Swiglu
public import proofs.«01_k».proof.Proof.SwigluIdealFrame

@[expose] public section

set_option maxRecDepth 100000
set_option maxHeartbeats 4000000

noncomputable section

namespace Cert.Swiglu.Hand

open Idealize.ShloMosaic Idealize.ShloMosaic.TcCoe Idealize.SL.Sem

variable {F : FTy → Type} [FloatOps F]

/-- Both modules give the kernel's label the same body. -/
theorem defs₀_eq : Cert.Swiglu.defs₀ (F := F) = Cert.SwigluIdeal.defs₀ (F := F) := by
  unfold Cert.Swiglu.defs₀ Cert.SwigluIdeal.defs₀
  refine congrArg (Defs.onTc (nD := Cert.Swiglu.nD) (τ := Cert.Swiglu.τ) (sig := Cert.Swiglu.sig) (Val := Elt F) (Λ := Cert.Swiglu.Λ₀)) ?_
  funext l
  match l with
  | ⟨0, _⟩ => exact funext fun ⟨t, s⟩ => rfl
  | ⟨_ + 1, h⟩ => exact absurd h (Nat.not_lt.2 (Nat.le_add_left _ _))

/-- So the pipelined calls are the same too. -/
theorem defs_eq : Cert.Swiglu.defs (F := F) = Cert.SwigluIdeal.defs (F := F) :=
  congrArg (Pipeline.defs (Cert.Swiglu.pcfgs (F := F))) defs₀_eq

/-- The host code of the two modules is the same. -/
theorem main_eq : Cert.Swiglu.main (F := F) = Cert.SwigluIdeal.main (F := F) := rfl

/-- `Swiglu` runs to quiescence from every memory and leaves its arguments as they were. -/
theorem frame : Cert.quiescent_Swiglu := fun m ρ _ => by
  have h := Cert.SwigluIdeal.Hand.run_main (F := Bits) m ρ
  rw [← defs_eq] at h
  exact (θ_run Cert.Swiglu.defs _ _).mono (fun r h => ⟨fun c => Cert.SwigluIdeal.Hand.args_of m c h.1, h.2⟩) h

end Cert.Swiglu.Hand

end
-- ==== Proof.SwigluPay.lean ====
/-
  The SwiGLU kernel's values, read at one index over the reals: the three projections, the activation and the two gradients, the
  accumulator of the rank columns and the rows of the factors' gradients.
-/
module

public import proofs.«01_k».proof.Proof.SwigluIdealRun
public import proofs.«01_k».proof.Proof.Sums
public import Idealize.ShloMosaic.Lib.Pointwise

@[expose] public section

set_option maxRecDepth 16384

noncomputable section

namespace Cert.SwigluIdeal.Hand

open Idealize.ShloMosaic Idealize.ShloMosaic.TcCoe Cert.SwigluIdeal Cert.SwigluIdeal.Gen
open scoped BigOperators

/-- The f32 word of the constant two reads as the real number two. -/
theorem two32 : Ideal.ofBits .f32 0x40000000#32 = ((2 : ℝ) : EReal) := by
  simp [Ideal.ofBits, Ideal.ieee, -EReal.coe_mul]; norm_num

/-- So does its bf16 word. -/
theorem two16 : Ideal.ofBits .bf16 0x4000#16 = ((2 : ℝ) : EReal) := by
  simp [Ideal.ofBits, Ideal.ieee, -EReal.coe_mul]; norm_num

/-- The f32 word of one reads as one. -/
theorem one32 : Ideal.ofBits .f32 0x3F800000#32 = (1 : EReal) := by
  simp [Ideal.ofBits, Ideal.ieee]; rw [← EReal.coe_mul, ← EReal.coe_one]; exact congrArg _ (by norm_num)

/-- The activation from the gate's and the up projections. -/
def act (g u : EReal) : EReal := g * Ideal.logistic g * u

/-- The gate's gradient. -/
def dact (g u da : EReal) : EReal := da * u * Ideal.logistic g * (1 + g * (1 - Ideal.logistic g))

/-- The up projection's gradient. -/
def dup (g da : EReal) : EReal := da * g * Ideal.logistic g

/-- A block of a projection: the product with the weights plus the low-rank part. -/
def proj (x : Vec Ideal S1024x3584 .bf16) (w : Vec Ideal S3584x256 .bf16) (z : Vec Ideal S1024x128 .bf16) (b : Vec Ideal S256x128 .bf16)
    (i : S1024x256.Idx) : EReal :=
  ∑ d : Fin 3584, x (ix2 (i 0) d) * w (ix2 d (i 1)) + ∑ q : Fin 128, z (ix2 (i 0) q) * b (ix2 (i 1) q)

/-- A block of the gradient of the activation. -/
def projT (x : Vec Ideal S1024x3584 .bf16) (w : Vec Ideal S256x3584 .bf16) (z : Vec Ideal S1024x128 .bf16) (b : Vec Ideal S128x256 .bf16)
    (i : S1024x256.Idx) : EReal :=
  ∑ d : Fin 3584, x (ix2 (i 0) d) * w (ix2 (i 1) d) + ∑ q : Fin 128, z (ix2 (i 0) q) * b (ix2 q (i 1))

theorem pay1_apply (v0 : Vec Ideal S1024x128 .bf16) (v1 : Vec Ideal S1024x3584 .bf16) (v2 : Vec Ideal S3584x256 .bf16) (v4 : Vec Ideal S256x128 .bf16)
    (i : S1024x256.Idx) : k0_pay1 v0 v1 v2 v4 i = proj v1 v2 v0 v4 i := by
  unfold k0_pay1 proj; pointwise

theorem pay2_apply (v0 : Vec Ideal S1024x128 .bf16) (v1 : Vec Ideal S1024x3584 .bf16) (v2 : Vec Ideal S3584x256 .bf16) (v4 : Vec Ideal S256x128 .bf16)
    (i : S1024x256.Idx) : k0_pay2 v0 v1 v2 v4 i = proj v1 v2 v0 v4 i := by
  unfold k0_pay2 proj; pointwise

theorem pay3_apply (v0 : Vec Ideal S1024x128 .bf16) (v1 : Vec Ideal S1024x3584 .bf16) (v2 : Vec Ideal S256x3584 .bf16) (v4 : Vec Ideal S128x256 .bf16)
    (i : S1024x256.Idx) : k0_pay3 v0 v1 v2 v4 i = projT v1 v2 v0 v4 i := by
  unfold k0_pay3 projT; pointwise

theorem pay4_apply (v0 : Vec Ideal S1024x128 .bf16) (v1 : Vec Ideal S1024x3584 .bf16) (v2 : Vec Ideal S3584x256 .bf16) (v4 : Vec Ideal S256x128 .bf16)
    (i : S1024x256.Idx) : k0_pay4 v0 v1 v2 v4 i = Ideal.logistic (proj v1 v2 v0 v4 i) := by
  rw [← pay1_apply]; rfl

/-- The activation's block at an index. -/
theorem aB_apply (x0 : Vec Ideal S1024x3584 .bf16) (x2 : Vec Ideal S1024x128 .bf16) (x4 x5 : Vec Ideal S3584x256 .bf16) (x7 x8 : Vec Ideal S256x128 .bf16)
    (i : S1024x256.Idx) : aB x0 x2 x4 x5 x7 x8 i = act (proj x0 x4 x2 x7 i) (proj x0 x5 x2 x8 i) := by
  unfold act
  rw [← pay4_apply, ← pay1_apply, ← pay2_apply]; rfl

theorem pay8_apply (v27 v30 : FVec Ideal S1024x256 .f32) (i : S1024x256.Idx) : k0_pay8 v27 v30 i = v27 i * (1 + v30 i) := by
  unfold k0_pay8; pointwise

theorem pay7_apply (v0 : Vec Ideal S1024x128 .bf16) (v1 : Vec Ideal S1024x3584 .bf16) (v2 : Vec Ideal S3584x256 .bf16) (v4 : Vec Ideal S256x128 .bf16)
    (i : S1024x256.Idx) : k0_pay7 v0 v1 v2 v4 i = k0_pay1 v0 v1 v2 v4 i * (1 - k0_pay4 v0 v1 v2 v4 i) := by
  rw [← one32]; rfl

/-- The gate gradient's block at an index. -/
theorem dgB_apply (x0 x1 : Vec Ideal S1024x3584 .bf16) (x2 : Vec Ideal S1024x128 .bf16) (x4 x5 : Vec Ideal S3584x256 .bf16) (x6 : Vec Ideal S256x3584 .bf16)
    (x7 x8 : Vec Ideal S256x128 .bf16) (x9 : Vec Ideal S128x256 .bf16) (i : S1024x256.Idx) :
    dgB x0 x1 x2 x4 x5 x6 x7 x8 x9 i = dact (proj x0 x4 x2 x7 i) (proj x0 x5 x2 x8 i) (projT x1 x6 x2 x9 i) := by
  unfold dact dgB
  rw [pay8_apply, pay7_apply, ← pay4_apply, ← pay1_apply, ← pay2_apply, ← pay3_apply]; rfl

/-- The up gradient's block at an index. -/
theorem duB_apply (x0 x1 : Vec Ideal S1024x3584 .bf16) (x2 : Vec Ideal S1024x128 .bf16) (x4 : Vec Ideal S3584x256 .bf16) (x6 : Vec Ideal S256x3584 .bf16)
    (x7 : Vec Ideal S256x128 .bf16) (x9 : Vec Ideal S128x256 .bf16) (i : S1024x256.Idx) :
    duB x0 x1 x2 x4 x6 x7 x9 i = dup (proj x0 x4 x2 x7 i) (projT x1 x6 x2 x9 i) := by
  unfold dup duB
  rw [← pay4_apply, ← pay1_apply, ← pay3_apply]; rfl

/-- The reset accumulator is zero. -/
theorem pay10_apply (i : S1024x128.Idx) : k0_pay10 (F := Ideal) i = 0 := by
  unfold k0_pay10; pointwise

theorem pay13_apply (i : S96x256.Idx) : k0_pay13 (F := Ideal) i = 0 := by
  unfold k0_pay13; pointwise

/-- The accumulator after a point: what it held plus the three products with the stacked factors. -/
theorem pay11_apply (v7 v21 v22 : FVec Ideal S1024x256 .f32) (v25 : FVec Ideal S1024x256 .bf16) (v27 v30 : FVec Ideal S1024x256 .f32)
    (s : Vec Ideal S1024x128 .f32) (n0 n1 n2 : Vec Ideal S1x256x128 .bf16) (i : S1024x128.Idx) :
    k0_pay11 v7 v21 v22 v25 v27 v30 s n0 n1 n2 i
      = s i + ((∑ k : Fin 256, v25 (ix2 (i 0) k) * n0 (ix3 0 k (i 1)) + ∑ k : Fin 256, k0_pay8 v27 v30 (ix2 (i 0) k) * n1 (ix3 0 k (i 1)))
        + ∑ k : Fin 256, k0_pay9 v7 v21 v22 (ix2 (i 0) k) * n2 (ix3 0 k (i 1))) := by
  unfold k0_pay11
  generalize k0_pay8 v27 v30 = p
  generalize k0_pay9 v7 v21 v22 = q
  pointwise

theorem pay14_apply (v : FVec Ideal S1024x256 .bf16) (g : Vec Ideal S32x256 .f32) (z : Vec Ideal S32x1024 .bf16) (i : S32x256.Idx) :
    k0_pay14 v g z i = g i + ((2 : ℝ) : EReal) * ∑ k : Fin 1024, z (ix2 (i 0) k) * v (ix2 k (i 1)) := by
  unfold k0_pay14; pointwise; rw [two32]

theorem pay15_apply (v : FVec Ideal S1024x256 .bf16) (g : Vec Ideal S32x256 .f32) (z : Vec Ideal S32x1024 .bf16) (i : S32x256.Idx) :
    k0_pay15 v g z i = g i + ((2 : ℝ) : EReal) * ∑ k : Fin 1024, z (ix2 (i 0) k) * v (ix2 k (i 1)) := by
  unfold k0_pay15; pointwise; rw [two32]

theorem pay16_apply (v : FVec Ideal S1024x256 .bf16) (g : Vec Ideal S32x256 .f32) (z : Vec Ideal S32x1024 .bf16) (i : S32x256.Idx) :
    k0_pay16 v g z i = g i + ∑ k : Fin 1024, z (ix2 (i 0) k) * v (ix2 k (i 1)) := by
  unfold k0_pay16; pointwise

end Cert.SwigluIdeal.Hand

end
-- ==== Proof.SwigluBlocks.lean ====
/-
  What each input window of the SwiGLU call shows at a grid point, and the low-rank factors as the host places them.
-/
module

public import proofs.«01_k».proof.Proof.SwigluPay
public import proofs.«01_k».proof.Proof.SwigluIdealFrame
public import Idealize.ShloMosaic.Lib.Pipeline.ValueKit

@[expose] public section

set_option maxRecDepth 16384

noncomputable section

namespace Cert.SwigluIdeal.Hand

open Idealize.ShloMosaic Idealize.ShloMosaic.TcCoe Cert.SwigluIdeal Cert.SwigluIdeal.Gen
open scoped BigOperators

variable (m : (ℓ : Loc nD τ sig) → Buf (Elt Ideal) ℓ)

/-- The call's arrays, at their shapes. -/
abbrev inp0 (c : Dev nD) : Vec Ideal S12288x3584 .bf16 := m ((c : Thread nD τ).loc main_arg0)
abbrev inp1 (c : Dev nD) : Vec Ideal S12288x3584 .bf16 := m ((c : Thread nD τ).loc main_arg1)
abbrev inp2 (c : Dev nD) : Vec Ideal S12288x128 .bf16 := m ((c : Thread nD τ).loc main_arg2)
abbrev inp3 (c : Dev nD) : Vec Ideal S128x12288 .bf16 := m ((c : Thread nD τ).loc main_arg3)
abbrev inp4 (c : Dev nD) : Vec Ideal S3584x18944 .bf16 := m ((c : Thread nD τ).loc main_arg4)
abbrev inp5 (c : Dev nD) : Vec Ideal S3584x18944 .bf16 := m ((c : Thread nD τ).loc main_arg5)
abbrev inp6 (c : Dev nD) : Vec Ideal S18944x3584 .bf16 := m ((c : Thread nD τ).loc main_arg6)
abbrev inp7 (c : Dev nD) : Vec Ideal S18944x32 .bf16 := m ((c : Thread nD τ).loc main_arg7)
abbrev inp8 (c : Dev nD) : Vec Ideal S18944x32 .bf16 := m ((c : Thread nD τ).loc main_arg8)
abbrev inp9 (c : Dev nD) : Vec Ideal S32x18944 .bf16 := m ((c : Thread nD τ).loc main_arg9)

/-- Which block each input window shows at a grid point: the row tile `t / 74`, the column tile `t % 74`. -/
theorem idx : ∀ t : Fin cfg0.N,
    win0_0.index t 0 = t.val / 74 ∧ win0_0.index t 1 = 0 ∧ win0_1.index t 0 = t.val / 74 ∧ win0_1.index t 1 = 0
    ∧ win0_2.index t 0 = t.val / 74 ∧ win0_2.index t 1 = 0 ∧ win0_3.index t 0 = 0 ∧ win0_3.index t 1 = t.val / 74
    ∧ win0_4.index t 0 = 0 ∧ win0_4.index t 1 = t.val % 74 ∧ win0_5.index t 0 = 0 ∧ win0_5.index t 1 = t.val % 74
    ∧ win0_6.index t 0 = t.val % 74 ∧ win0_6.index t 1 = 0 ∧ win0_7.index t 0 = t.val % 74 ∧ win0_7.index t 1 = 0
    ∧ win0_8.index t 0 = t.val % 74 ∧ win0_8.index t 1 = 0 ∧ win0_9.index t 0 = 0 ∧ win0_9.index t 1 = t.val % 74
    ∧ win0_10.index t 0 = 0 ∧ win0_10.index t 1 = t.val % 74 ∧ win0_10.index t 2 = 0 := by
  decide +kernel

theorem row_lt (t : Fin cfg0.N) (r : Fin 1024) : t.val / 74 * 1024 + r.val < 12288 := by
  have := t.isLt; have hN : cfg0.N = 888 := N_0; omega

theorem col_lt (t : Fin cfg0.N) (r : Fin 256) : t.val % 74 * 256 + r.val < 18944 := by omega

/-- The hidden activations' row tile. -/
theorem blk0 (c : Dev nD) (t : Fin cfg0.N) (r : Fin 1024) (k : Fin 3584) : iblk m c 0 t (ix2 r k) = inp0 m c (ix2 ⟨t.val / 74 * 1024 + r.val, row_lt t r⟩ k) := by
  refine Eq.trans ?_ (congrFun (V_main_arg0 m c) _)
  show V m c main_arg0 (((cfg0.win 0).blk t).view.emb (ix2 r k)) = V m c main_arg0 _
  blk_ext [idx t]

/-- The incoming gradient's row tile. -/
theorem blk1 (c : Dev nD) (t : Fin cfg0.N) (r : Fin 1024) (k : Fin 3584) : iblk m c 1 t (ix2 r k) = inp1 m c (ix2 ⟨t.val / 74 * 1024 + r.val, row_lt t r⟩ k) := by
  refine Eq.trans ?_ (congrFun (V_main_arg1 m c) _)
  show V m c main_arg1 (((cfg0.win 1).blk t).view.emb (ix2 r k)) = V m c main_arg1 _
  blk_ext [idx t]

/-- The rank columns' row tile. -/
theorem blk2 (c : Dev nD) (t : Fin cfg0.N) (r : Fin 1024) (k : Fin 128) : iblk m c 2 t (ix2 r k) = inp2 m c (ix2 ⟨t.val / 74 * 1024 + r.val, row_lt t r⟩ k) := by
  refine Eq.trans ?_ (congrFun (V_main_arg2 m c) _)
  show V m c main_arg2 (((cfg0.win 2).blk t).view.emb (ix2 r k)) = V m c main_arg2 _
  blk_ext [idx t]

/-- The transposed rank columns' column tile. -/
theorem blk3 (c : Dev nD) (t : Fin cfg0.N) (r : Fin 128) (k : Fin 1024) : iblk m c 3 t (ix2 r k) = inp3 m c (ix2 r ⟨t.val / 74 * 1024 + k.val, row_lt t k⟩) := by
  refine Eq.trans ?_ (congrFun (V_main_arg3 m c) _)
  show V m c main_arg3 (((cfg0.win 3).blk t).view.emb (ix2 r k)) = V m c main_arg3 _
  blk_ext [idx t]

/-- The gate projection's column tile. -/
theorem blk4 (c : Dev nD) (t : Fin cfg0.N) (r : Fin 3584) (k : Fin 256) : iblk m c 4 t (ix2 r k) = inp4 m c (ix2 r ⟨t.val % 74 * 256 + k.val, col_lt t k⟩) := by
  refine Eq.trans ?_ (congrFun (V_main_arg4 m c) _)
  show V m c main_arg4 (((cfg0.win 4).blk t).view.emb (ix2 r k)) = V m c main_arg4 _
  blk_ext [idx t]

/-- The up projection's column tile. -/
theorem blk5 (c : Dev nD) (t : Fin cfg0.N) (r : Fin 3584) (k : Fin 256) : iblk m c 5 t (ix2 r k) = inp5 m c (ix2 r ⟨t.val % 74 * 256 + k.val, col_lt t k⟩) := by
  refine Eq.trans ?_ (congrFun (V_main_arg5 m c) _)
  show V m c main_arg5 (((cfg0.win 5).blk t).view.emb (ix2 r k)) = V m c main_arg5 _
  blk_ext [idx t]

/-- The down projection's row tile. -/
theorem blk6 (c : Dev nD) (t : Fin cfg0.N) (r : Fin 256) (k : Fin 3584) : iblk m c 6 t (ix2 r k) = inp6 m c (ix2 ⟨t.val % 74 * 256 + r.val, col_lt t r⟩ k) := by
  refine Eq.trans ?_ (congrFun (V_main_arg6 m c) _)
  show V m c main_arg6 (((cfg0.win 6).blk t).view.emb (ix2 r k)) = V m c main_arg6 _
  blk_ext [idx t]

/-- The gate's placed factor. -/
theorem blk7_V (c : Dev nD) (t : Fin cfg0.N) (r : Fin 256) (k : Fin 128) : iblk m c 7 t (ix2 r k) = V m c main_v14 (ix2 ⟨t.val % 74 * 256 + r.val, col_lt t r⟩ k) := by
  show V m c main_v14 (((cfg0.win 7).blk t).view.emb (ix2 r k)) = V m c main_v14 _
  blk_ext [idx t]

/-- The up projection's placed factor. -/
theorem blk8_V (c : Dev nD) (t : Fin cfg0.N) (r : Fin 256) (k : Fin 128) : iblk m c 8 t (ix2 r k) = V m c main_v17 (ix2 ⟨t.val % 74 * 256 + r.val, col_lt t r⟩ k) := by
  show V m c main_v17 (((cfg0.win 8).blk t).view.emb (ix2 r k)) = V m c main_v17 _
  blk_ext [idx t]

/-- The down projection's placed factor. -/
theorem blk9_V (c : Dev nD) (t : Fin cfg0.N) (r : Fin 128) (k : Fin 256) : iblk m c 9 t (ix2 r k) = V m c main_v18 (ix2 r ⟨t.val % 74 * 256 + k.val, col_lt t k⟩) := by
  show V m c main_v18 (((cfg0.win 9).blk t).view.emb (ix2 r k)) = V m c main_v18 _
  blk_ext [idx t]

/-- The stacked factors. -/
theorem blk10_V (c : Dev nD) (t : Fin cfg0.N) (s : Fin 3) (r : Fin 256) (k : Fin 128) :
    iblk m c 10 t (ix3 s r k) = V m c main_v11 (ix3 s ⟨t.val % 74 * 256 + r.val, col_lt t r⟩ k) := by
  show V m c main_v11 (((cfg0.win 10).blk t).view.emb (ix3 s r k)) = V m c main_v11 _
  blk_ext [idx t]

/-- The host's integer zero is zero. -/
theorem zero16 : (FloatOps.sitofp (F := Ideal) FTy.bf16 0#32 : EReal) = 0 := by
  show (((0#32 : BitVec 32).toInt : ℝ) : EReal) = 0
  simp

/-- Twice the gate's factor, in lanes 0 to 31, zero elsewhere. -/
theorem bg_apply (c : Dev nD) (r : Fin 18944) (k : Fin 128) :
    V m c main_v14 (ix2 r k) = if h : k.val < 32 then ((2 : ℝ) : EReal) * inp7 m c (ix2 r ⟨k.val, h⟩) else 0 := by
  have e : V m c main_v14 = pad S18944x128 ![0, 0] ![0, 96] ![0, 0] (mulf (broadcastInDim S18944x32 ![] bcast_S_S18944x32 (constant (F := Ideal) S_ .bf16 0x4000#16)) (inp7 m c)) (sitofp (F := Ideal) .bf16 (constantI S_ 32 0#32)) pads_S18944x32_S18944x128_000_0960 h_S_ := by
    simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.unary, StableHlo.TRef.binary]
    after_results
    rfl
  rw [e]
  pointwise
  by_cases h : k.val < 32
  · rw [dif_pos (by omega), dif_pos h, two16]
  · rw [dif_neg (by omega), dif_neg h]; exact zero16

/-- Twice the up projection's factor, in lanes 32 to 63, zero elsewhere. -/
theorem bu_apply (c : Dev nD) (r : Fin 18944) (k : Fin 128) :
    V m c main_v17 (ix2 r k) = if h : 32 ≤ k.val ∧ k.val < 64 then ((2 : ℝ) : EReal) * inp8 m c (ix2 r ⟨k.val - 32, by omega⟩) else 0 := by
  have e : V m c main_v17 = pad S18944x128 ![0, 32] ![0, 64] ![0, 0] (mulf (broadcastInDim S18944x32 ![] bcast_S_S18944x32 (constant (F := Ideal) S_ .bf16 0x4000#16)) (inp8 m c)) (sitofp (F := Ideal) .bf16 (constantI S_ 32 0#32)) pads_S18944x32_S18944x128_000_32640 h_S_ := by
    simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.unary, StableHlo.TRef.binary]
    after_results
    rfl
  rw [e]
  pointwise
  by_cases h : 32 ≤ k.val ∧ k.val < 64
  · rw [dif_pos (by omega), dif_pos h, two16]
  · rw [dif_neg (by omega), dif_neg h]; exact zero16

/-- The down projection's factor, in rows 64 to 95, zero elsewhere. -/
theorem ad_apply (c : Dev nD) (r : Fin 128) (k : Fin 18944) :
    V m c main_v18 (ix2 r k) = if h : 64 ≤ r.val ∧ r.val < 96 then inp9 m c (ix2 ⟨r.val - 64, by omega⟩ k) else 0 := by
  have e : V m c main_v18 = pad S128x18944 ![64, 0] ![32, 0] ![0, 0] (inp9 m c) (sitofp (F := Ideal) .bf16 (constantI S_ 32 0#32)) pads_S32x18944_S128x18944_64320_000 h_S_ := by
    simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.unary, StableHlo.TRef.binary]
    after_results
    rfl
  rw [e]
  pointwise
  by_cases h : 64 ≤ r.val ∧ r.val < 96
  · rw [dif_pos (by omega), dif_pos h]
  · rw [dif_neg (by omega), dif_neg h]; exact zero16

/-- The stacked factors as the host builds them. -/
theorem n_eq (c : Dev nD) : V m c main_v11 = concatenate S3x18944x128 0 [
    ⟨S1x18944x128, broadcastInDim S1x18944x128 ![1, 2] bcast_S18944x128_S1x18944x128_1_2 (pad S18944x128 ![0, 0] ![0, 96] ![0, 0] (transpose S18944x32 [1, 0] (inp9 m c) transposes_S32x18944_S18944x32_1_0) (sitofp (F := Ideal) .bf16 (constantI S_ 32 0#32)) pads_S18944x32_S18944x128_000_0960 h_S_)⟩,
    ⟨S1x18944x128, broadcastInDim S1x18944x128 ![1, 2] bcast_S18944x128_S1x18944x128_1_2 (pad S18944x128 ![0, 32] ![0, 64] ![0, 0] (mulf (broadcastInDim S18944x32 ![] bcast_S_S18944x32 (constant (F := Ideal) S_ .bf16 0x4000#16)) (inp7 m c)) (sitofp (F := Ideal) .bf16 (constantI S_ 32 0#32)) pads_S18944x32_S18944x128_000_32640 h_S_)⟩,
    ⟨S1x18944x128, broadcastInDim S1x18944x128 ![1, 2] bcast_S18944x128_S1x18944x128_1_2 (pad S18944x128 ![0, 64] ![0, 32] ![0, 0] (mulf (broadcastInDim S18944x32 ![] bcast_S_S18944x32 (constant (F := Ideal) S_ .bf16 0x4000#16)) (inp8 m c)) (sitofp (F := Ideal) .bf16 (constantI S_ 32 0#32)) pads_S18944x32_S18944x128_000_64320 h_S_)⟩] concatenates_S1x18944x128_S1x18944x128_S1x18944x128_S3x18944x128_d0 := by
    simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.unary, StableHlo.TRef.binary]
    after_results
    rfl

/-- The first of the stacked factors: the down projection's, transposed, in lanes 0 to 31. -/
theorem n0_apply (c : Dev nD) (r : Fin 18944) (k : Fin 128) :
    V m c main_v11 (ix3 0 r k) = if h : k.val < 32 then inp9 m c (ix2 ⟨k.val, h⟩ r) else 0 := by
  rw [n_eq]
  pointwise
  by_cases h : k.val < 32
  · rw [dif_pos (by omega), dif_pos h]
  · rw [dif_neg (by omega), dif_neg h]; exact zero16

/-- The second: twice the gate's, in lanes 32 to 63. -/
theorem n1_apply (c : Dev nD) (r : Fin 18944) (k : Fin 128) :
    V m c main_v11 (ix3 1 r k) = if h : 32 ≤ k.val ∧ k.val < 64 then ((2 : ℝ) : EReal) * inp7 m c (ix2 r ⟨k.val - 32, by omega⟩) else 0 := by
  rw [n_eq]
  pointwise
  by_cases h : 32 ≤ k.val ∧ k.val < 64
  · rw [dif_pos (by omega), dif_pos h, two16]
  · rw [dif_neg (by omega), dif_neg h]; exact zero16

/-- The third: twice the up projection's, in lanes 64 to 95. -/
theorem n2_apply (c : Dev nD) (r : Fin 18944) (k : Fin 128) :
    V m c main_v11 (ix3 2 r k) = if h : 64 ≤ k.val ∧ k.val < 96 then ((2 : ℝ) : EReal) * inp8 m c (ix2 r ⟨k.val - 64, by omega⟩) else 0 := by
  rw [n_eq]
  pointwise
  by_cases h : 64 ≤ k.val ∧ k.val < 96
  · rw [dif_pos (by omega), dif_pos h, two16]
  · rw [dif_neg (by omega), dif_neg h]; exact zero16

end Cert.SwigluIdeal.Hand

end
-- ==== Proof.SwigluTiles.lean ====
/-
  The SwiGLU call's projections, activation and gradients over the whole arrays, in closed form over the reals, and that each grid
  point's blocks are tiles of them.
-/
module

public import proofs.«01_k».proof.Proof.SwigluBlocks

@[expose] public section

set_option maxRecDepth 16384

noncomputable section

namespace Cert.SwigluIdeal.Hand

open Idealize.ShloMosaic Idealize.ShloMosaic.TcCoe Cert.SwigluIdeal Cert.SwigluIdeal.Gen Cert.Sums
open scoped BigOperators

/-- A contraction over 128 lanes whose second operand holds a factor in the 32 lanes from `o` on and zero elsewhere. -/
theorem sum_lanes (o : ℕ) (ho : o + 32 ≤ 128) (z : Fin 128 → EReal) (b : Fin 32 → EReal) :
    ∑ q : Fin 128, z q * (if h : o ≤ q.val ∧ q.val < o + 32 then b ⟨q.val - o, by omega⟩ else 0)
      = ∑ q : Fin 32, z ⟨o + q.val, by omega⟩ * b q := by
  symm
  refine Fintype.sum_of_injective (fun q : Fin 32 => (⟨o + q.val, by omega⟩ : Fin 128)) ?_ _ _ ?_ ?_
  · intro a b h
    have := congrArg Fin.val h
    exact Fin.ext (by simpa using this)
  · intro q hq
    rw [dif_neg (fun h => hq ⟨⟨q.val - o, by omega⟩, Fin.ext (by show o + (q.val - o) = q.val; omega)⟩), mul_zero]
  · intro q
    rw [dif_pos ⟨by show o ≤ o + q.val; omega, by show o + q.val < o + 32; omega⟩]
    exact congrArg (fun k => z ⟨o + q.val, by omega⟩ * b k) (Fin.ext (by show q.val = o + q.val - o; omega))

/-- The same with the factor two stored in the second operand, taken out of the sum. -/
theorem sum_lanes_two (o : ℕ) (ho : o + 32 ≤ 128) (z : Fin 128 → EReal) (b : Fin 32 → EReal) :
    ∑ q : Fin 128, z q * (if h : o ≤ q.val ∧ q.val < o + 32 then ((2 : ℝ) : EReal) * b ⟨q.val - o, by omega⟩ else 0)
      = ((2 : ℝ) : EReal) * ∑ q : Fin 32, z ⟨o + q.val, by omega⟩ * b q := by
  rw [sum_lanes o ho z (fun q => ((2 : ℝ) : EReal) * b q), two_mul_sum]
  exact Finset.sum_congr rfl fun q _ => mul_left_comm _ _ _

/-- The gate's projection over the whole arrays: the product with the weights plus twice the low-rank product. -/
def gateA (x0 : Vec Ideal S12288x3584 .bf16) (x2 : Vec Ideal S12288x128 .bf16) (x4 : Vec Ideal S3584x18944 .bf16) (x7 : Vec Ideal S18944x32 .bf16)
    (r : Fin 12288) (f : Fin 18944) : EReal :=
  ∑ d : Fin 3584, x0 (ix2 r d) * x4 (ix2 d f) + ((2 : ℝ) : EReal) * ∑ q : Fin 32, x2 (ix2 r ⟨q.val, by omega⟩) * x7 (ix2 f q)

/-- The up projection over the whole arrays. -/
def upA (x0 : Vec Ideal S12288x3584 .bf16) (x2 : Vec Ideal S12288x128 .bf16) (x5 : Vec Ideal S3584x18944 .bf16) (x8 : Vec Ideal S18944x32 .bf16)
    (r : Fin 12288) (f : Fin 18944) : EReal :=
  ∑ d : Fin 3584, x0 (ix2 r d) * x5 (ix2 d f) + ((2 : ℝ) : EReal) * ∑ q : Fin 32, x2 (ix2 r ⟨32 + q.val, by omega⟩) * x8 (ix2 f q)

/-- The gradient of the activation over the whole arrays. -/
def gradA (x1 : Vec Ideal S12288x3584 .bf16) (x2 : Vec Ideal S12288x128 .bf16) (x6 : Vec Ideal S18944x3584 .bf16) (x9 : Vec Ideal S32x18944 .bf16)
    (r : Fin 12288) (f : Fin 18944) : EReal :=
  ∑ d : Fin 3584, x1 (ix2 r d) * x6 (ix2 f d) + ∑ q : Fin 32, x2 (ix2 r ⟨64 + q.val, by omega⟩) * x9 (ix2 q f)

variable (m : (ℓ : Loc nD τ sig) → Buf (Elt Ideal) ℓ)

/-- The gate's projection of the call's arrays. -/
abbrev gF (c : Dev nD) := gateA (inp0 m c) (inp2 m c) (inp4 m c) (inp7 m c)
/-- Their up projection. -/
abbrev uF (c : Dev nD) := upA (inp0 m c) (inp2 m c) (inp5 m c) (inp8 m c)
/-- Their activation's gradient. -/
abbrev eF (c : Dev nD) := gradA (inp1 m c) (inp2 m c) (inp6 m c) (inp9 m c)

/-- The activation of the call's arrays. -/
def aF (c : Dev nD) (r : Fin 12288) (f : Fin 18944) : EReal := act (gF m c r f) (uF m c r f)
/-- The gate's gradient. -/
def dgF (c : Dev nD) (r : Fin 12288) (f : Fin 18944) : EReal := dact (gF m c r f) (uF m c r f) (eF m c r f)
/-- The up projection's gradient. -/
def duF (c : Dev nD) (r : Fin 12288) (f : Fin 18944) : EReal := dup (gF m c r f) (eF m c r f)

/-- The row of the arrays that a row of a point's tile is. -/
abbrev rowOf (t : Fin cfg0.N) (r : Fin 1024) : Fin 12288 := ⟨t.val / 74 * 1024 + r.val, row_lt t r⟩
/-- The column that a column of its tile is. -/
abbrev colOf (t : Fin cfg0.N) (j : Fin 256) : Fin 18944 := ⟨t.val % 74 * 256 + j.val, col_lt t j⟩

theorem gate_tile (c : Dev nD) (t : Fin cfg0.N) (r : Fin 1024) (j : Fin 256) :
    proj (iblk m c 0 t) (iblk m c 4 t) (iblk m c 2 t) (iblk m c 7 t) (ix2 r j) = gF m c (rowOf t r) (colOf t j) := by
  refine congrArg₂ (fun a b : EReal => a + b) (Finset.sum_congr rfl fun d _ => congrArg₂ (fun a b : EReal => a * b) (blk0 m c t r d) (blk4 m c t d j)) ?_
  refine (Finset.sum_congr rfl fun q _ => congrArg₂ (fun a b : EReal => a * b) (blk2 m c t r q) ((blk7_V m c t j q).trans (bg_apply m c _ q))).trans ?_
  exact sum_padded_two (n := 32) (k := 96) rfl (fun q => inp2 m c (ix2 (rowOf t r) q)) (fun q => inp7 m c (ix2 (colOf t j) q))

theorem up_tile (c : Dev nD) (t : Fin cfg0.N) (r : Fin 1024) (j : Fin 256) :
    proj (iblk m c 0 t) (iblk m c 5 t) (iblk m c 2 t) (iblk m c 8 t) (ix2 r j) = uF m c (rowOf t r) (colOf t j) := by
  refine congrArg₂ (fun a b : EReal => a + b) (Finset.sum_congr rfl fun d _ => congrArg₂ (fun a b : EReal => a * b) (blk0 m c t r d) (blk5 m c t d j)) ?_
  refine (Finset.sum_congr rfl fun q _ => congrArg₂ (fun a b : EReal => a * b) (blk2 m c t r q) ((blk8_V m c t j q).trans (bu_apply m c _ q))).trans ?_
  exact sum_lanes_two 32 (by decide) (fun q => inp2 m c (ix2 (rowOf t r) q)) (fun q => inp8 m c (ix2 (colOf t j) q))

theorem grad_tile (c : Dev nD) (t : Fin cfg0.N) (r : Fin 1024) (j : Fin 256) :
    projT (iblk m c 1 t) (iblk m c 6 t) (iblk m c 2 t) (iblk m c 9 t) (ix2 r j) = eF m c (rowOf t r) (colOf t j) := by
  refine congrArg₂ (fun a b : EReal => a + b) (Finset.sum_congr rfl fun d _ => congrArg₂ (fun a b : EReal => a * b) (blk1 m c t r d) (blk6 m c t j d)) ?_
  refine (Finset.sum_congr rfl fun q _ => congrArg₂ (fun a b : EReal => a * b) (blk2 m c t r q) ((blk9_V m c t q j).trans (ad_apply m c q _))).trans ?_
  exact sum_lanes 64 (by decide) (fun q => inp2 m c (ix2 (rowOf t r) q)) (fun q => inp9 m c (ix2 q (colOf t j)))

/-- A point's activation block is a tile of the activation. -/
theorem aAt_apply (c : Dev nD) (t : Fin cfg0.N) (r : Fin 1024) (j : Fin 256) : aAt m c t (ix2 r j) = aF m c (rowOf t r) (colOf t j) := by
  unfold aAt aF
  rw [← gate_tile, ← up_tile]
  exact aB_apply _ _ _ _ _ _ _

/-- Its gate gradient block is a tile of the gate's gradient. -/
theorem dgAt_apply (c : Dev nD) (t : Fin cfg0.N) (r : Fin 1024) (j : Fin 256) : dgAt m c t (ix2 r j) = dgF m c (rowOf t r) (colOf t j) := by
  unfold dgAt dgF
  rw [← gate_tile, ← up_tile, ← grad_tile]
  exact dgB_apply _ _ _ _ _ _ _ _ _ _

/-- Its up gradient block is a tile of the up projection's gradient. -/
theorem duAt_apply (c : Dev nD) (t : Fin cfg0.N) (r : Fin 1024) (j : Fin 256) : duAt m c t (ix2 r j) = duF m c (rowOf t r) (colOf t j) := by
  unfold duAt duF
  rw [← gate_tile, ← grad_tile]
  exact duB_apply _ _ _ _ _ _ _ _

/-- The stacked factors, entry by entry. -/
def nF (c : Dev nD) (s : Fin 3) (l : Fin 18944) (k : Fin 128) : EReal := V m c main_v11 (ix3 s l k)

/-- What a point adds to the accumulator of the rank columns: its three blocks times the stacked factors. -/
def zTerm (c : Dev nD) (t : Fin cfg0.N) (i : S1024x128.Idx) : EReal :=
  (∑ k : Fin 256, aF m c (rowOf t (i 0)) (colOf t k) * nF m c 0 (colOf t k) (i 1)
    + ∑ k : Fin 256, dgF m c (rowOf t (i 0)) (colOf t k) * nF m c 1 (colOf t k) (i 1))
  + ∑ k : Fin 256, duF m c (rowOf t (i 0)) (colOf t k) * nF m c 2 (colOf t k) (i 1)

theorem ld_apply (x : Vec Ideal S3x256x128 .bf16) (s : Fin 3) (inb : ∀ a, (![s.val, 0, 0] : Fin 3 → ℕ) a + S1x256x128.size a ≤ S3x256x128.size a) (k : Fin 256) (q : Fin 128) :
    View.ld x (Rect.unit (s := S3x256x128) ![s.val, 0, 0] S1x256x128.size inb) (ix3 0 k q) = x (ix3 s k q) := by
  refine congrArg x (funext fun a => Fin.ext ?_)
  match a with
  | ⟨0, _⟩ => show s.val + 1 * 0 = s.val; omega
  | ⟨1, _⟩ => show 0 + 1 * k.val = k.val; omega
  | ⟨2, _⟩ => show 0 + 1 * q.val = q.val; omega

/-- One step of the accumulator at an index. -/
theorem zAt_apply (c : Dev nD) (t : Fin cfg0.N) (s : Vec Ideal S1024x128 .f32) (i : S1024x128.Idx) :
    zAt m c t s i = sFrom (grid0.coords t) s i + zTerm m c t i := by
  refine (pay11_apply _ _ _ _ _ _ _ _ _ _ i).trans (congrArg₂ (fun a b : EReal => a + b) rfl ?_)
  refine congrArg₂ (fun a b : EReal => a + b) (congrArg₂ (fun a b : EReal => a + b) ?_ ?_) ?_
  · exact Finset.sum_congr rfl fun k _ => congrArg₂ (fun a b : EReal => a * b) (aAt_apply m c t (i 0) k) ((ld_apply _ 0 _ k (i 1)).trans (blk10_V m c t 0 k (i 1)))
  · exact Finset.sum_congr rfl fun k _ => congrArg₂ (fun a b : EReal => a * b) (dgAt_apply m c t (i 0) k) ((ld_apply _ 1 _ k (i 1)).trans (blk10_V m c t 1 k (i 1)))
  · exact Finset.sum_congr rfl fun k _ => congrArg₂ (fun a b : EReal => a * b) (duAt_apply m c t (i 0) k) ((ld_apply _ 2 _ k (i 1)).trans (blk10_V m c t 2 k (i 1)))

/-- The points of a row of blocks. -/
def ptOf (t : Fin cfg0.N) (hr : t.val % 74 = 73) (s : Fin 74) : Fin cfg0.N := ⟨74 * (t.val / 74) + s.val, Pipeline.run_point_lt_of_flush t hr s⟩

theorem rowOf_pt (t : Fin cfg0.N) (hr : t.val % 74 = 73) (s : Fin 74) (r : Fin 1024) : rowOf (ptOf t hr s) r = rowOf t r := Fin.ext (by
  have hs := s.isLt
  have h1 : (74 * (t.val / 74) + s.val) / 74 = t.val / 74 := by omega
  show (74 * (t.val / 74) + s.val) / 74 * 1024 + r.val = t.val / 74 * 1024 + r.val
  rw [h1])

theorem colOf_pt (t : Fin cfg0.N) (hr : t.val % 74 = 73) (s : Fin 74) (q : Fin 256) (h : s.val * 256 + q.val < 18944) : colOf (ptOf t hr s) q = ⟨s.val * 256 + q.val, h⟩ := Fin.ext (by
  have hs := s.isLt
  have h2 : (74 * (t.val / 74) + s.val) % 74 = s.val := by omega
  show (74 * (t.val / 74) + s.val) % 74 * 256 + q.val = s.val * 256 + q.val
  rw [h2])

/-- A sum over a row of blocks' points and their columns is a sum over all columns. -/
theorem row_sum (t : Fin cfg0.N) (hr : t.val % 74 = 73) (r : Fin 1024) (f : Fin 12288 → Fin 18944 → EReal) (g : Fin 18944 → EReal) :
    ∑ s : Fin 74, ∑ q : Fin 256, f (rowOf (ptOf t hr s) r) (colOf (ptOf t hr s) q) * g (colOf (ptOf t hr s) q) = ∑ l : Fin 18944, f (rowOf t r) l * g l := by
  refine Eq.trans (Finset.sum_congr rfl fun s _ => Finset.sum_congr rfl fun q _ => ?_) (Fin.sum_mul_add_fin 74 256 (fun l : Fin 18944 => f (rowOf t r) l * g l))
  rw [rowOf_pt, colOf_pt t hr s q (by omega)]

/-- The accumulator at a row of blocks' last point: the terms of its 74 points. -/
theorem zAcc_flush (c : Dev nD) (t : Fin cfg0.N) (hr : t.val % 74 = 73) (i : S1024x128.Idx) :
    zAcc m c (t.val + 1) i = 0 + ∑ s : Fin 74, zTerm m c (ptOf t hr s) i := by
  refine Pipeline.eq_sum_fin_of_reset_step_apply_of_flush (fun n _ => (zAcc m c (n + 1) : S1024x128.Idx → EReal)) 74 (fun _ => 0) (zTerm m c) ?_ ?_ t hr i
  · intro t h i
    show zAcc m c (t.val + 1) i = _
    rw [zAcc_succ, zAt_apply]
    refine congrArg₂ (fun a b : EReal => a + b) ?_ rfl
    unfold sFrom
    rw [if_pos ((hcFirst t).mpr h)]
    exact pay10_apply i
  · intro t h i
    show zAcc m c (t.val + 1) i = zAcc m c (t.val - 1 + 1) i + _
    have ht : t.val - 1 + 1 = t.val := by
      have : t.val ≠ 0 := fun h0 => h (by rw [h0])
      omega
    rw [zAcc_succ, zAt_apply, ht]
    refine congrArg₂ (fun a b : EReal => a + b) ?_ rfl
    unfold sFrom
    rw [if_neg (fun hc => h ((hcFirst t).mp hc))]

/-- … which are the whole contractions of the row with the stacked factors. -/
theorem zAcc_sum (c : Dev nD) (t : Fin cfg0.N) (hr : t.val % 74 = 73) (r : Fin 1024) (k : Fin 128) :
    zAcc m c (t.val + 1) (ix2 r k)
      = (∑ l : Fin 18944, aF m c (rowOf t r) l * nF m c 0 l k + ∑ l : Fin 18944, dgF m c (rowOf t r) l * nF m c 1 l k)
        + ∑ l : Fin 18944, duF m c (rowOf t r) l * nF m c 2 l k := by
  have key := row_sum t hr r
  rw [zAcc_flush m c t hr, zero_add]
  unfold zTerm
  rw [Finset.sum_add_distrib, Finset.sum_add_distrib]
  exact congrArg₂ (fun a b : EReal => a + b) (congrArg₂ (fun a b : EReal => a + b) (key (aF m c) (fun l => nF m c 0 l k)) (key (dgF m c) (fun l => nF m c 1 l k))) (key (duF m c) (fun l => nF m c 2 l k))

/-- The rank columns' gradient over the whole arrays: the activation's product with the down projection's factor, transposed, then
    twice the two gradients' products with the gate's and the up projection's factors, then zero lanes. -/
def zF (c : Dev nD) (r : Fin 12288) (k : Fin 128) : EReal :=
  if h : k.val < 32 then ∑ l : Fin 18944, aF m c r l * inp9 m c (ix2 ⟨k.val, h⟩ l)
  else if h1 : 32 ≤ k.val ∧ k.val < 64 then ((2 : ℝ) : EReal) * ∑ l : Fin 18944, dgF m c r l * inp7 m c (ix2 l ⟨k.val - 32, by omega⟩)
  else if h2 : 64 ≤ k.val ∧ k.val < 96 then ((2 : ℝ) : EReal) * ∑ l : Fin 18944, duF m c r l * inp8 m c (ix2 l ⟨k.val - 64, by omega⟩)
  else 0

theorem two_out (f g : Fin 18944 → EReal) : ∑ l : Fin 18944, f l * (((2 : ℝ) : EReal) * g l) = ((2 : ℝ) : EReal) * ∑ l : Fin 18944, f l * g l := by
  rw [two_mul_sum]
  exact Finset.sum_congr rfl fun l _ => mul_left_comm _ _ _

/-- The accumulator at a row of blocks' last point is a tile of the rank columns' gradient. -/
theorem zAcc_tile (c : Dev nD) (t : Fin cfg0.N) (hr : t.val % 74 = 73) (r : Fin 1024) (k : Fin 128) :
    zAcc m c (t.val + 1) (ix2 r k) = zF m c (rowOf t r) k := by
  refine (zAcc_sum m c t hr r k).trans ?_
  refine (congrArg₂ (fun a b : EReal => a + b) (congrArg₂ (fun a b : EReal => a + b)
    (Finset.sum_congr rfl fun l _ => congrArg (fun b : EReal => aF m c (rowOf t r) l * b) (n0_apply m c l k))
    (Finset.sum_congr rfl fun l _ => congrArg (fun b : EReal => dgF m c (rowOf t r) l * b) (n1_apply m c l k)))
    (Finset.sum_congr rfl fun l _ => congrArg (fun b : EReal => duF m c (rowOf t r) l * b) (n2_apply m c l k))).trans ?_
  unfold zF
  by_cases h : k.val < 32
  · simp only [dif_pos h, dif_neg (show ¬(32 ≤ k.val ∧ k.val < 64) by omega), dif_neg (show ¬(64 ≤ k.val ∧ k.val < 96) by omega), mul_zero, Finset.sum_const_zero, add_zero]
  · by_cases h1 : 32 ≤ k.val ∧ k.val < 64
    · simp only [dif_neg h, dif_pos h1, dif_neg (show ¬(64 ≤ k.val ∧ k.val < 96) by omega), mul_zero, Finset.sum_const_zero, add_zero, zero_add]
      exact two_out _ _
    · by_cases h2 : 64 ≤ k.val ∧ k.val < 96
      · simp only [dif_neg h, dif_neg h1, dif_pos h2, mul_zero, Finset.sum_const_zero, zero_add]
        exact two_out _ _
      · simp only [dif_neg h, dif_neg h1, dif_neg h2, mul_zero, Finset.sum_const_zero, add_zero]

end Cert.SwigluIdeal.Hand

end
-- ==== Proof.SwigluGrad.lean ====
/-
  The low-rank factors' gradients of the SwiGLU call: what one grid point does to the whole block, and what the block holds after
  all of them.
-/
module

public import proofs.«01_k».proof.Proof.SwigluTiles

@[expose] public section

set_option maxRecDepth 16384

noncomputable section

namespace Cert.SwigluIdeal.Hand

open Idealize.ShloMosaic Idealize.ShloMosaic.TcCoe Idealize.ShloMosaic.VecWindow Cert.SwigluIdeal Cert.SwigluIdeal.Gen Cert.Sums
open scoped BigOperators

/-- What was put, read inside. -/
theorem put_in {R : ℕ} (x : Vec Ideal S96x18944 .f32) (off : Fin 2 → ℕ) (r0 b : ℕ) (he : off = ![r0, 256 * b]) (w : (⟨2, ![R, 256]⟩ : Shape).Idx → EReal)
    (r : Fin 96) (j : Fin 18944) (h0 : r0 ≤ r.val) (h1 : r.val - r0 < R) (hb : j.val / 256 = b) :
    put (s := S96x18944) x off ![R, 256] w (ix2 r j) = w (ix2 ⟨r.val - r0, h1⟩ ⟨j.val % 256, by omega⟩) := by
  subst he
  unfold put
  have hin : ∀ a : Fin 2, (![r0, 256 * b] : Fin 2 → ℕ) a ≤ ((ix2 r j : S96x18944.Idx) a).val ∧ ((ix2 r j : S96x18944.Idx) a).val < (![r0, 256 * b] : Fin 2 → ℕ) a + (![R, 256] : Fin 2 → ℕ) a := fun a => by
    match a with
    | ⟨0, _⟩ => show r0 ≤ r.val ∧ r.val < r0 + R; omega
    | ⟨1, _⟩ => show 256 * b ≤ j.val ∧ j.val < 256 * b + 256; omega
  refine (dif_pos hin).trans (congrArg w (funext fun a => Fin.ext ?_))
  match a with
  | ⟨0, _⟩ => rfl
  | ⟨1, _⟩ => show j.val - 256 * b = j.val % 256; omega

/-- What was put, read outside. -/
theorem put_out {R : ℕ} (x : Vec Ideal S96x18944 .f32) (off : Fin 2 → ℕ) (r0 b : ℕ) (he : off = ![r0, 256 * b]) (w : (⟨2, ![R, 256]⟩ : Shape).Idx → EReal)
    (r : Fin 96) (j : Fin 18944) (h : ¬(r0 ≤ r.val ∧ r.val < r0 + R) ∨ j.val / 256 ≠ b) :
    put (s := S96x18944) x off ![R, 256] w (ix2 r j) = x (ix2 r j) := by
  subst he
  unfold put
  refine dif_neg fun hin => ?_
  have h0 : r0 ≤ r.val ∧ r.val < r0 + R := hin 0
  have h1 : 256 * b ≤ j.val ∧ j.val < 256 * b + 256 := hin 1
  omega

/-- A window of the gradients, read at an index. -/
theorem window_at (x : Vec Ideal S96x18944 .f32) (off : Fin 2 → ℕ) (r0 b : ℕ) (he : off = ![r0, 256 * b]) (inb : ∀ a, off a + S32x256.size a ≤ S96x18944.size a)
    (r : Fin 96) (j : Fin 18944) (h0 : r0 ≤ r.val) (h1 : r.val - r0 < 32) (hb : j.val / 256 = b) :
    window x off S32x256.size inb (ix2 ⟨r.val - r0, h1⟩ ⟨j.val % 256, by omega⟩) = x (ix2 r j) := by
  subst he
  refine congrArg x (funext fun a => Fin.ext ?_)
  match a with
  | ⟨0, _⟩ => show r0 + 1 * (r.val - r0) = r.val; omega
  | ⟨1, _⟩ => show 256 * b + 1 * (j.val % 256) = j.val; omega

/-- A window of 32 rows of the transposed rank columns. -/
theorem window_z (x : Vec Ideal S128x1024 .bf16) (r0 : ℕ) (inb : ∀ a, (![r0, 0] : Fin 2 → ℕ) a + S32x1024.size a ≤ S128x1024.size a) (r : Fin 96) (h0 : r0 ≤ r.val) (h1 : r.val - r0 < 32) (k : Fin 1024) :
    window x ![r0, 0] S32x1024.size inb (ix2 ⟨r.val - r0, h1⟩ k) = x (ix2 ⟨r.val, by omega⟩ k) := by
  refine congrArg x (funext fun a => Fin.ext ?_)
  match a with
  | ⟨0, _⟩ => show r0 + 1 * (r.val - r0) = r.val; omega
  | ⟨1, _⟩ => show 0 + 1 * k.val = k.val; omega

variable (m : (ℓ : Loc nD τ sig) → Buf (Elt Ideal) ℓ)

/-- The column tile of a point, as the body reads it from its coordinates. -/
theorem coord1 (t : Fin cfg0.N) : (grid0.coords t 1).val = t.val % 74 := by
  have e : (grid0.coords t 1).val = t.val / 1 % 74 := Pipeline.Grid.coords_val t 1 (by decide) rfl
  rw [e, Nat.div_one]

/-- One row's contribution to an entry of the factors' gradients. -/
def con (c : Dev nD) (r : Fin 96) (j : Fin 18944) (l : Fin 12288) : EReal :=
  if r.val < 32 then ((2 : ℝ) : EReal) * (inp3 m c (ix2 ⟨r.val, by omega⟩ l) * dgF m c l j)
  else if r.val < 64 then ((2 : ℝ) : EReal) * (inp3 m c (ix2 ⟨r.val, by omega⟩ l) * duF m c l j)
  else inp3 m c (ix2 ⟨r.val, by omega⟩ l) * aF m c l j

/-- One row tile's. -/
def gPart (c : Dev nD) (r : Fin 96) (j : Fin 18944) (n : ℕ) : EReal :=
  if h : n < 12 then ∑ k : Fin 1024, con m c r j ⟨n * 1024 + k.val, by omega⟩ else 0

theorem colOf_eq (t : Fin cfg0.N) (j : Fin 18944) (hb : j.val / 256 = t.val % 74) : colOf t ⟨j.val % 256, by omega⟩ = j :=
  Fin.ext (by show t.val % 74 * 256 + j.val % 256 = j.val; omega)

/-- The product of a tile of the transposed rank columns with a tile of one of the three blocks. -/
theorem tile_sum (c : Dev nD) (t : Fin cfg0.N) (v : FVec Ideal S1024x256 .bf16) (f : Fin 12288 → Fin 18944 → EReal)
    (hv : ∀ k j, v (ix2 k j) = f (rowOf t k) (colOf t j)) (r0 : ℕ) (inb : ∀ a, (![r0, 0] : Fin 2 → ℕ) a + S32x1024.size a ≤ S128x1024.size a)
    (r : Fin 96) (j : Fin 18944) (h0 : r0 ≤ r.val) (h1 : r.val - r0 < 32) (hb : j.val / 256 = t.val % 74) :
    ∑ k : Fin 1024, window (α := EReal) (iblk m c 3 t) ![r0, 0] S32x1024.size inb (ix2 ⟨r.val - r0, h1⟩ k) * v (ix2 k ⟨j.val % 256, by omega⟩)
      = ∑ k : Fin 1024, inp3 m c (ix2 ⟨r.val, by omega⟩ (rowOf t k)) * f (rowOf t k) j :=
  Finset.sum_congr rfl fun k _ => congrArg₂ (fun a b : EReal => a * b)
    ((window_z _ r0 inb r h0 h1 k).trans (blk3 m c t _ k)) ((hv k _).trans (congrArg (f (rowOf t k)) (colOf_eq t j hb)))

/-- The block's columns as a point's products find them. -/
theorem gFrom_apply (t : Fin cfg0.N) (g : Vec Ideal S96x18944 .f32) (r : Fin 96) (j : Fin 18944) (hb : j.val / 256 = t.val % 74) :
    gFrom (grid0.coords t) g (ix2 r j) = if t.val < 74 then 0 else g (ix2 r j) := by
  unfold gFrom
  by_cases h : t.val < 74
  · rw [if_pos ((hcond3 t).mpr h), if_pos h]
    refine (put_in g _ 0 (t.val % 74) ((off1_eq _).trans (by rw [coord1])) _ r j (Nat.zero_le _) r.isLt hb).trans ?_
    exact pay13_apply _
  · rw [if_neg (fun hc => h ((hcond3 t).mp hc)), if_neg h]

theorem gFrom_out (t : Fin cfg0.N) (g : Vec Ideal S96x18944 .f32) (r : Fin 96) (j : Fin 18944) (hb : j.val / 256 ≠ t.val % 74) :
    gFrom (grid0.coords t) g (ix2 r j) = g (ix2 r j) := by
  unfold gFrom
  by_cases h : t.val < 74
  · rw [if_pos ((hcond3 t).mpr h)]
    exact put_out g _ 0 (t.val % 74) ((off1_eq _).trans (by rw [coord1])) _ r j (Or.inr hb)
  · rw [if_neg (fun hc => h ((hcond3 t).mp hc))]

theorem o2 (t : Fin cfg0.N) : k0_off2 (grid0.coords t) = ![0, 256 * (t.val % 74)] := (off2_eq _).trans (by rw [coord1])
theorem o3 (t : Fin cfg0.N) : k0_off3 (grid0.coords t) = ![32, 256 * (t.val % 74)] := (off3_eq _).trans (by rw [coord1])
theorem o4 (t : Fin cfg0.N) : k0_off4 (grid0.coords t) = ![64, 256 * (t.val % 74)] := (off4_eq _).trans (by rw [coord1])

/-- Outside a point's columns the block stays. -/
theorem gAt_out (c : Dev nD) (t : Fin cfg0.N) (g : Vec Ideal S96x18944 .f32) (r : Fin 96) (j : Fin 18944) (hb : j.val / 256 ≠ t.val % 74) :
    gAt m c t g (ix2 r j) = g (ix2 r j) := by
  refine (put_out _ _ 64 _ (o4 t) _ r j (Or.inr hb)).trans ?_
  refine (put_out _ _ 32 _ (o3 t) _ r j (Or.inr hb)).trans ?_
  refine (put_out _ _ 0 _ (o2 t) _ r j (Or.inr hb)).trans ?_
  exact gFrom_out t g r j hb

theorem gPart_of (c : Dev nD) (t : Fin cfg0.N) (r : Fin 96) (j : Fin 18944) :
    gPart m c r j (t.val / 74) = ∑ k : Fin 1024, con m c r j (rowOf t k) := by
  have hN : cfg0.N = 888 := N_0
  have := t.isLt
  unfold gPart
  rw [dif_pos (by omega)]

/-- Inside a point's columns its row tile's part is added to what its products find. -/
theorem gAt_in (c : Dev nD) (t : Fin cfg0.N) (g : Vec Ideal S96x18944 .f32) (r : Fin 96) (j : Fin 18944) (hb : j.val / 256 = t.val % 74) :
    gAt m c t g (ix2 r j) = (if t.val < 74 then 0 else g (ix2 r j)) + gPart m c r j (t.val / 74) := by
  rw [gPart_of, ← gFrom_apply t g r j hb]
  have hr := r.isLt
  by_cases h0 : r.val < 32
  · refine (put_out _ _ 64 _ (o4 t) _ r j (Or.inl (by omega))).trans ?_
    refine (put_out _ _ 32 _ (o3 t) _ r j (Or.inl (by omega))).trans ?_
    refine (put_in _ _ 0 _ (o2 t) _ r j (by omega) (by omega) hb).trans ?_
    refine (pay14_apply _ _ _ _).trans (congrArg₂ (fun a b : EReal => a + b) (window_at _ _ 0 _ (o2 t) _ r j (by omega) (by omega) hb) ?_)
    refine (congrArg (fun b : EReal => ((2 : ℝ) : EReal) * b) (tile_sum m c t (dgAt m c t) (dgF m c) (dgAt_apply m c t) 0 _ r j (by omega) (by omega) hb)).trans ?_
    rw [two_mul_sum]
    exact Finset.sum_congr rfl fun k _ => (if_pos h0).symm
  · by_cases h1 : r.val < 64
    · refine (put_out _ _ 64 _ (o4 t) _ r j (Or.inl (by omega))).trans ?_
      refine (put_in _ _ 32 _ (o3 t) _ r j (by omega) (by omega) hb).trans ?_
      refine (pay15_apply _ _ _ _).trans (congrArg₂ (fun a b : EReal => a + b) (window_at _ _ 32 _ (o3 t) _ r j (by omega) (by omega) hb) ?_)
      refine (congrArg (fun b : EReal => ((2 : ℝ) : EReal) * b) (tile_sum m c t (duAt m c t) (duF m c) (duAt_apply m c t) 32 _ r j (by omega) (by omega) hb)).trans ?_
      rw [two_mul_sum]
      exact Finset.sum_congr rfl fun k _ => ((if_neg h0).trans (if_pos h1)).symm
    · refine (put_in _ _ 64 _ (o4 t) _ r j (by omega) (by omega) hb).trans ?_
      refine (pay16_apply _ _ _ _).trans (congrArg₂ (fun a b : EReal => a + b) (window_at _ _ 64 _ (o4 t) _ r j (by omega) (by omega) hb) ?_)
      refine (tile_sum m c t (aAt m c t) (aF m c) (aAt_apply m c t) 64 _ r j (by omega) (by omega) hb).trans ?_
      exact Finset.sum_congr rfl fun k _ => ((if_neg h0).trans (if_neg h1)).symm

/-- Whatever the block held at the start, after `n` points an entry whose columns a point has reached holds the parts of the row
    tiles that have reached it. -/
theorem grad_sum (c : Dev nD) (r : Fin 96) (j : Fin 18944) : ∀ (n : ℕ) (X : Vec Ideal S96x18944 .f32), gradOk m c n X → j.val / 256 < n →
    X (ix2 r j) = ∑ s ∈ Finset.range ((n + 73 - j.val / 256) / 74), gPart m c r j s := by
  have hj : j.val / 256 < 74 := by have := j.isLt; omega
  intro n
  induction n with
  | zero => intro X _ h; omega
  | succ n ih =>
    rintro X ⟨Y, hY, hn, rfl⟩ h
    by_cases hb : j.val / 256 = n % 74
    · rw [gAt_in m c ⟨n, hn⟩ Y r j hb]
      have hd : (n + 1 + 73 - j.val / 256) / 74 = n / 74 + 1 := by omega
      rw [hd, Finset.sum_range_succ]
      refine congrArg₂ (fun a b : EReal => a + b) ?_ rfl
      by_cases h1 : n < 74
      · have : n / 74 = 0 := by omega
        rw [if_pos h1, this, Finset.sum_range_zero]
      · have hd' : (n + 73 - j.val / 256) / 74 = n / 74 := by omega
        rw [if_neg h1, ih Y hY (by omega), hd']
    · rw [gAt_out m c ⟨n, hn⟩ Y r j hb, ih Y hY (by omega)]
      have hd : (n + 1 + 73 - j.val / 256) / 74 = (n + 73 - j.val / 256) / 74 := by omega
      rw [hd]

/-- The factors' gradients over the whole arrays. -/
theorem grad_last (c : Dev nD) (X : Vec Ideal S96x18944 .f32) (hX : gradOk m c 888 X) (r : Fin 96) (j : Fin 18944) :
    X (ix2 r j) = ∑ l : Fin 12288, con m c r j l := by
  have hj : j.val / 256 < 74 := by have := j.isLt; omega
  have hd : (888 + 73 - j.val / 256) / 74 = 12 := by omega
  rw [grad_sum m c r j 888 X hX (by omega), hd, ← Fin.sum_univ_eq_sum_range, ← Fin.sum_mul_add_fin 12 1024 (fun l : Fin 12288 => con m c r j l)]
  refine Finset.sum_congr rfl fun s _ => ?_
  unfold gPart
  rw [dif_pos s.isLt]

end Cert.SwigluIdeal.Hand

end
-- ==== Proof.SwigluVal.lean ====
/-
  What the SwiGLU call's five results hold at the launch's end, over the reals.
-/
module

public import proofs.«01_k».proof.Proof.SwigluGrad
public import Idealize.ShloMosaic.Lib.Pipeline.ArrRel
public import Idealize.ShloMosaic.Lib.Pipeline.DatRel
public import Idealize.ShloMosaic.Lib.Pipeline.ValueKit

@[expose] public section

set_option maxRecDepth 16384

noncomputable section

namespace Cert.SwigluIdeal.Hand

open Idealize.ShloMosaic Idealize.ShloMosaic.TcCoe Idealize.ShloMosaic.Pipeline Idealize.SL.RA Idealize.SL.Sem Cert.SwigluIdeal Cert.SwigluIdeal.Gen Cert.Sums
open scoped BigOperators

variable (m : (ℓ : Loc nD τ sig) → Buf (Elt Ideal) ℓ)

/-- The five results over the whole arrays: the activation, the gate's gradient, the up projection's gradient, the rank columns'
    gradient and the factors' gradients. -/
def G11 (c : Dev nD) : Vec Ideal S12288x18944 .bf16 := fun i => aF m c (i 0) (i 1)
def G12 (c : Dev nD) : Vec Ideal S12288x18944 .bf16 := fun i => dgF m c (i 0) (i 1)
def G13 (c : Dev nD) : Vec Ideal S12288x18944 .bf16 := fun i => duF m c (i 0) (i 1)
def G14 (c : Dev nD) : Vec Ideal S12288x128 .bf16 := fun i => zF m c (i 0) (i 1)
def G15 (c : Dev nD) : Vec Ideal S96x18944 .f32 := fun i => ∑ l : Fin 12288, con m c (i 0) (i 1) l

/-- Which block each output window shows at a grid point. -/
theorem idxOut : ∀ t : Fin cfg0.N,
    win0_11.index t 0 = t.val / 74 ∧ win0_11.index t 1 = t.val % 74 ∧ win0_12.index t 0 = t.val / 74 ∧ win0_12.index t 1 = t.val % 74
    ∧ win0_13.index t 0 = t.val / 74 ∧ win0_13.index t 1 = t.val % 74 ∧ win0_14.index t 0 = t.val / 74 ∧ win0_14.index t 1 = 0 := by
  decide +kernel

/-- An index of a matrix from its two coordinates. -/
theorem two_ix {a b : ℕ} (y : (⟨2, ![a, b]⟩ : Shape).Idx) : y = ix2 (y 0) (y 1) := by
  funext k
  match k with
  | ⟨0, _⟩ => rfl
  | ⟨1, _⟩ => rfl

/-- The first result is the activation. -/
theorem out11 (c : Dev nD) {r : PUnit.{1} × MemSt nD τ sig (Elt Ideal)} (h : RDat.FramePost cfg0 (fun c => rdats m c) (V m) r) :
    r.2.mem ((c.tc : Thread nD τ).loc main_v19_0) = G11 m c := by
  obtain ⟨after, hL, hA⟩ := RDat.FramePost.exists_exact h c
  refine (hA 11).trans ?_
  refine ((rdats m c).withAfter after).arrAt_eq_of_covers 11 (G11 m c) (by decide +kernel) fun t hf y => ?_
  have e : after 11 t = aAt m c t := Dat.toRRel_leaves (dats m 0 c) (fgt := outs) (Rl := Rl m c) (w := 11) rfl (hL 11 t hf)
  rw [RDat.withAfter_after, e]
  blk_simp
  have hy : (y : S1024x256.Idx) = ix2 (y 0) (y 1) := two_ix y
  have ei : (win0_11.blk t).view.emb y = (ix2 (rowOf t (y 0)) (colOf t (y 1)) : S12288x18944.Idx) := by blk_ext [idxOut t]
  rw [ei]
  exact (congrArg (aAt m c t) hy).trans (aAt_apply m c t (y 0) (y 1))

/-- The second is the gate's gradient. -/
theorem out12 (c : Dev nD) {r : PUnit.{1} × MemSt nD τ sig (Elt Ideal)} (h : RDat.FramePost cfg0 (fun c => rdats m c) (V m) r) :
    r.2.mem ((c.tc : Thread nD τ).loc main_v19_1) = G12 m c := by
  obtain ⟨after, hL, hA⟩ := RDat.FramePost.exists_exact h c
  refine (hA 12).trans ?_
  refine ((rdats m c).withAfter after).arrAt_eq_of_covers 12 (G12 m c) (by decide +kernel) fun t hf y => ?_
  have e : after 12 t = dgAt m c t := Dat.toRRel_leaves (dats m 0 c) (fgt := outs) (Rl := Rl m c) (w := 12) rfl (hL 12 t hf)
  rw [RDat.withAfter_after, e]
  blk_simp
  have hy : (y : S1024x256.Idx) = ix2 (y 0) (y 1) := two_ix y
  have ei : (win0_12.blk t).view.emb y = (ix2 (rowOf t (y 0)) (colOf t (y 1)) : S12288x18944.Idx) := by blk_ext [idxOut t]
  rw [ei]
  exact (congrArg (dgAt m c t) hy).trans (dgAt_apply m c t (y 0) (y 1))

/-- The third is the up projection's gradient. -/
theorem out13 (c : Dev nD) {r : PUnit.{1} × MemSt nD τ sig (Elt Ideal)} (h : RDat.FramePost cfg0 (fun c => rdats m c) (V m) r) :
    r.2.mem ((c.tc : Thread nD τ).loc main_v19_2) = G13 m c := by
  obtain ⟨after, hL, hA⟩ := RDat.FramePost.exists_exact h c
  refine (hA 13).trans ?_
  refine ((rdats m c).withAfter after).arrAt_eq_of_covers 13 (G13 m c) (by decide +kernel) fun t hf y => ?_
  have e : after 13 t = duAt m c t := Dat.toRRel_leaves (dats m 0 c) (fgt := outs) (Rl := Rl m c) (w := 13) rfl (hL 13 t hf)
  rw [RDat.withAfter_after, e]
  blk_simp
  have hy : (y : S1024x256.Idx) = ix2 (y 0) (y 1) := two_ix y
  have ei : (win0_13.blk t).view.emb y = (ix2 (rowOf t (y 0)) (colOf t (y 1)) : S12288x18944.Idx) := by blk_ext [idxOut t]
  rw [ei]
  exact (congrArg (duAt m c t) hy).trans (duAt_apply m c t (y 0) (y 1))

/-- The fourth is the rank columns' gradient. -/
theorem out14 (c : Dev nD) {r : PUnit.{1} × MemSt nD τ sig (Elt Ideal)} (h : RDat.FramePost cfg0 (fun c => rdats m c) (V m) r) :
    r.2.mem ((c.tc : Thread nD τ).loc main_v19_3) = G14 m c := by
  obtain ⟨after, hL, hA⟩ := RDat.FramePost.exists_exact h c
  refine (hA 14).trans ?_
  refine ((rdats m c).withAfter after).arrAt_eq_of_covers 14 (G14 m c) (by decide +kernel) fun t hf y => ?_
  have hr : t.val % 74 = 73 := (flush0_14 t).mp hf
  have e : after 14 t = k0_pay12 (zAcc m c (t.val + 1)) := Dat.toRRel_leaves (dats m 0 c) (fgt := outs) (Rl := Rl m c) (w := 14) rfl (hL 14 t hf) hr
  rw [RDat.withAfter_after, e]
  blk_simp
  have hy : (y : S1024x128.Idx) = ix2 (y 0) (y 1) := two_ix y
  have ei : (win0_14.blk t).view.emb y = (ix2 (rowOf t (y 0)) (y 1) : S12288x128.Idx) := by blk_ext [idxOut t]
  rw [ei]
  exact (congrArg (zAcc m c (t.val + 1)) hy).trans (zAcc_tile m c t hr (y 0) (y 1))

theorem last_lt : 887 < cfg0.N := by have hN : cfg0.N = 888 := N_0; omega

/-- The fifth is the factors' gradients. -/
theorem out15 (c : Dev nD) {r : PUnit.{1} × MemSt nD τ sig (Elt Ideal)} (h : RDat.FramePost cfg0 (fun c => rdats m c) (V m) r) :
    r.2.mem ((c.tc : Thread nD τ).loc main_v19_4) = G15 m c := by
  obtain ⟨X, hX, hj⟩ := RDat.ArrAt.emb_eq_of_wholeAt ((h c).1 15) (t₀ := ⟨887, last_lt⟩) (by decide +kernel)
  have hg : gradOk m c 888 X := Dat.toRRel_leaves (dats m 0 c) (fgt := outs) (Rl := Rl m c) (w := 15) rfl hX
  funext i
  refine (hj i).trans ?_
  refine (congrArg X (two_ix (fun a => i a))).trans ?_
  exact grad_last m c X hg (i 0) (i 1)

end Cert.SwigluIdeal.Hand

end
-- ==== Proof.SwigluRef.lean ====
/-
  The reference's results of the SwiGLU call at an index, in the closed forms that the call's results have.
-/
module

public import proofs.«01_k».proof.Defs
public import proofs.«01_k».proof.Proof.SwigluVal
public import proofs.«01_k».proof.Proof.Gen.SwigluRefIdeal.Run
public import proofs.«01_k».proof.Proof.Gen.SwigluRefIdeal.Read

@[expose] public section

set_option maxRecDepth 16384

noncomputable section

namespace Cert.SwigluIdeal.Hand

open Idealize.ShloMosaic Idealize.ShloMosaic.TcCoe Cert.SwigluIdeal Cert.SwigluIdeal.Gen Cert.SwigluRefIdeal.Read
open scoped BigOperators

/-- The reference's gate projection. -/
theorem ref_gate (x0 : Vec Ideal S12288x3584 .bf16) (x2 : Vec Ideal S12288x128 .bf16) (x4 : Vec Ideal S3584x18944 .bf16) (x7 : Vec Ideal S18944x32 .bf16) (i : S12288x18944.Idx) : val_main_v7 (F := Ideal) x0 x2 x4 x7 i = gateA x0 x2 x4 x7 (i 0) (i 1) := by
  rw [val_main_v7_apply, val_main_v3_apply, val_main_v6_apply, val_main_v5_apply, val_main_cst_apply, val_main_v4_apply]
  refine congrArg₂ (fun a b : EReal => a + b) (Finset.sum_congr rfl fun d _ => congrArg₂ (fun a b : EReal => a * b) (congrArg x0 (two_ix _)) (congrArg x4 (two_ix _))) ?_
  refine congrArg₂ (fun a b : EReal => a * b) two32 ?_
  refine Finset.sum_congr rfl fun q _ => congrArg₂ (fun a b : EReal => a * b) ?_ (congrArg x7 (two_ix _))
  rw [val_main_v0_apply]
  exact congrArg x2 (two_ix _)

/-- Its up projection. -/
theorem ref_up (x0 : Vec Ideal S12288x3584 .bf16) (x2 : Vec Ideal S12288x128 .bf16) (x5 : Vec Ideal S3584x18944 .bf16) (x8 : Vec Ideal S18944x32 .bf16) (i : S12288x18944.Idx) : val_main_v12 (F := Ideal) x0 x2 x5 x8 i = upA x0 x2 x5 x8 (i 0) (i 1) := by
  rw [val_main_v12_apply, val_main_v8_apply, val_main_v11_apply, val_main_v10_apply, val_main_cst_0_apply, val_main_v9_apply]
  refine congrArg₂ (fun a b : EReal => a + b) (Finset.sum_congr rfl fun d _ => congrArg₂ (fun a b : EReal => a * b) (congrArg x0 (two_ix _)) (congrArg x5 (two_ix _))) ?_
  refine congrArg₂ (fun a b : EReal => a * b) two32 ?_
  refine Finset.sum_congr rfl fun q _ => congrArg₂ (fun a b : EReal => a * b) ?_ (congrArg x8 (two_ix _))
  rw [val_main_v1_apply]
  exact congrArg x2 (two_ix _)

/-- Its gradient of the activation. -/
theorem ref_grad (x1 : Vec Ideal S12288x3584 .bf16) (x2 : Vec Ideal S12288x128 .bf16) (x6 : Vec Ideal S18944x3584 .bf16) (x9 : Vec Ideal S32x18944 .bf16) (i : S12288x18944.Idx) : val_main_v15 (F := Ideal) x1 x2 x6 x9 i = gradA x1 x2 x6 x9 (i 0) (i 1) := by
  rw [val_main_v15_apply, val_main_v13_apply, val_main_v14_apply]
  refine congrArg₂ (fun a b : EReal => a + b) (Finset.sum_congr rfl fun d _ => congrArg₂ (fun a b : EReal => a * b) (congrArg x1 (two_ix _)) (congrArg x6 (two_ix _))) ?_
  refine Finset.sum_congr rfl fun q _ => congrArg₂ (fun a b : EReal => a * b) ?_ (congrArg x9 (two_ix _))
  rw [val_main_v2_apply]
  exact congrArg x2 (two_ix _)

/-- Its logistic function. -/
theorem ref_sig (x0 : Vec Ideal S12288x3584 .bf16) (x2 : Vec Ideal S12288x128 .bf16) (x4 : Vec Ideal S3584x18944 .bf16) (x7 : Vec Ideal S18944x32 .bf16) (i : S12288x18944.Idx) : val_main_v21 (F := Ideal) x0 x2 x4 x7 i = Ideal.logistic (val_main_v7 (F := Ideal) x0 x2 x4 x7 i) := by
  rw [val_main_v21_apply, val_main_v20_apply, val_main_cst_2_apply, val_main_v19_apply, val_main_v18_apply, val_main_cst_1_apply, val_main_v17_apply, val_main_v16_apply]
  generalize val_main_v7 (F := Ideal) x0 x2 x4 x7 i = x
  show Ideal.div (Ideal.ofBits .f32 0x3F800000#32) (Ideal.ofBits .f32 0x3F800000#32 + Ideal.exp (-x)) = Ideal.logistic x
  rw [one32]
  rfl

/-- Its activation. -/
def aR (x0 : Vec Ideal S12288x3584 .bf16) (x2 : Vec Ideal S12288x128 .bf16) (x4 : Vec Ideal S3584x18944 .bf16) (x5 : Vec Ideal S3584x18944 .bf16) (x7 : Vec Ideal S18944x32 .bf16) (x8 : Vec Ideal S18944x32 .bf16) (r : Fin 12288) (f : Fin 18944) : EReal := act (gateA x0 x2 x4 x7 r f) (upA x0 x2 x5 x8 r f)
/-- Its gate gradient. -/
def dgR (x0 : Vec Ideal S12288x3584 .bf16) (x1 : Vec Ideal S12288x3584 .bf16) (x2 : Vec Ideal S12288x128 .bf16) (x4 : Vec Ideal S3584x18944 .bf16) (x5 : Vec Ideal S3584x18944 .bf16) (x6 : Vec Ideal S18944x3584 .bf16) (x7 : Vec Ideal S18944x32 .bf16) (x8 : Vec Ideal S18944x32 .bf16) (x9 : Vec Ideal S32x18944 .bf16) (r : Fin 12288) (f : Fin 18944) : EReal := dact (gateA x0 x2 x4 x7 r f) (upA x0 x2 x5 x8 r f) (gradA x1 x2 x6 x9 r f)
/-- Its up gradient. -/
def duR (x0 : Vec Ideal S12288x3584 .bf16) (x1 : Vec Ideal S12288x3584 .bf16) (x2 : Vec Ideal S12288x128 .bf16) (x4 : Vec Ideal S3584x18944 .bf16) (x6 : Vec Ideal S18944x3584 .bf16) (x7 : Vec Ideal S18944x32 .bf16) (x9 : Vec Ideal S32x18944 .bf16) (r : Fin 12288) (f : Fin 18944) : EReal := dup (gateA x0 x2 x4 x7 r f) (gradA x1 x2 x6 x9 r f)

theorem ref24 (x0 : Vec Ideal S12288x3584 .bf16) (x2 : Vec Ideal S12288x128 .bf16) (x4 : Vec Ideal S3584x18944 .bf16) (x5 : Vec Ideal S3584x18944 .bf16) (x7 : Vec Ideal S18944x32 .bf16) (x8 : Vec Ideal S18944x32 .bf16) (i : S12288x18944.Idx) : val_main_v24 (F := Ideal) x0 x2 x4 x5 x7 x8 i = aR x0 x2 x4 x5 x7 x8 (i 0) (i 1) := by
  unfold aR act
  rw [val_main_v24_apply, val_main_v23_apply, val_main_v22_apply, ref_sig, ref_gate, ref_up]
  rfl

theorem ref33 (x0 : Vec Ideal S12288x3584 .bf16) (x1 : Vec Ideal S12288x3584 .bf16) (x2 : Vec Ideal S12288x128 .bf16) (x4 : Vec Ideal S3584x18944 .bf16) (x5 : Vec Ideal S3584x18944 .bf16) (x6 : Vec Ideal S18944x3584 .bf16) (x7 : Vec Ideal S18944x32 .bf16) (x8 : Vec Ideal S18944x32 .bf16) (x9 : Vec Ideal S32x18944 .bf16) (i : S12288x18944.Idx) : val_main_v33 (F := Ideal) x0 x1 x2 x4 x5 x6 x7 x8 x9 i = dgR x0 x1 x2 x4 x5 x6 x7 x8 x9 (i 0) (i 1) := by
  unfold dgR dact
  rw [val_main_v33_apply, val_main_v32_apply, val_main_v31_apply, val_main_v30_apply, val_main_cst_4_apply, val_main_v29_apply, val_main_v28_apply, val_main_v27_apply, val_main_cst_3_apply, val_main_v26_apply, val_main_v25_apply,
    ref_sig, ref_gate, ref_up, ref_grad, ← one32]
  rfl

theorem ref36 (x0 : Vec Ideal S12288x3584 .bf16) (x1 : Vec Ideal S12288x3584 .bf16) (x2 : Vec Ideal S12288x128 .bf16) (x4 : Vec Ideal S3584x18944 .bf16) (x6 : Vec Ideal S18944x3584 .bf16) (x7 : Vec Ideal S18944x32 .bf16) (x9 : Vec Ideal S32x18944 .bf16) (i : S12288x18944.Idx) : val_main_v36 (F := Ideal) x0 x1 x2 x4 x6 x7 x9 i = duR x0 x1 x2 x4 x6 x7 x9 (i 0) (i 1) := by
  unfold duR dup
  rw [val_main_v36_apply, val_main_v35_apply, val_main_v34_apply, ref_sig, ref_gate, ref_grad]
  rfl

/-- The rank columns' gradients, each of its 32 columns. -/
theorem ref38 (x0 : Vec Ideal S12288x3584 .bf16) (x2 : Vec Ideal S12288x128 .bf16) (x4 : Vec Ideal S3584x18944 .bf16) (x5 : Vec Ideal S3584x18944 .bf16) (x7 : Vec Ideal S18944x32 .bf16) (x8 : Vec Ideal S18944x32 .bf16) (x9 : Vec Ideal S32x18944 .bf16) (i : Cert.SwigluRefIdeal.S12288x32.Idx) :
    val_main_v38 (F := Ideal) x0 x2 x4 x5 x7 x8 x9 i = ∑ l : Fin 18944, aR x0 x2 x4 x5 x7 x8 (i 0) l * x9 (ix2 (i 1) l) := by
  rw [val_main_v38_apply]
  refine (val_main_v37_apply x0 x2 x4 x5 x7 x8 x9 i).trans ?_
  exact Finset.sum_congr rfl fun l _ => congrArg₂ (fun a b : EReal => a * b) (ref24 x0 x2 x4 x5 x7 x8 _) (congrArg x9 (two_ix _))

theorem ref42 (x0 : Vec Ideal S12288x3584 .bf16) (x1 : Vec Ideal S12288x3584 .bf16) (x2 : Vec Ideal S12288x128 .bf16) (x4 : Vec Ideal S3584x18944 .bf16) (x5 : Vec Ideal S3584x18944 .bf16) (x6 : Vec Ideal S18944x3584 .bf16) (x7 : Vec Ideal S18944x32 .bf16) (x8 : Vec Ideal S18944x32 .bf16) (x9 : Vec Ideal S32x18944 .bf16) (i : Cert.SwigluRefIdeal.S12288x32.Idx) :
    val_main_v42 (F := Ideal) x0 x1 x2 x4 x5 x6 x7 x8 x9 i = ((2 : ℝ) : EReal) * ∑ l : Fin 18944, dgR x0 x1 x2 x4 x5 x6 x7 x8 x9 (i 0) l * x7 (ix2 l (i 1)) := by
  rw [val_main_v42_apply, val_main_v41_apply, val_main_v40_apply, val_main_cst_5_apply]
  refine congrArg₂ (fun a b : EReal => a * b) two32 ((val_main_v39_apply x0 x1 x2 x4 x5 x6 x7 x8 x9 i).trans ?_)
  exact Finset.sum_congr rfl fun l _ => congrArg₂ (fun a b : EReal => a * b) (ref33 x0 x1 x2 x4 x5 x6 x7 x8 x9 _) (congrArg x7 (two_ix _))

theorem ref46 (x0 : Vec Ideal S12288x3584 .bf16) (x1 : Vec Ideal S12288x3584 .bf16) (x2 : Vec Ideal S12288x128 .bf16) (x4 : Vec Ideal S3584x18944 .bf16) (x6 : Vec Ideal S18944x3584 .bf16) (x7 : Vec Ideal S18944x32 .bf16) (x8 : Vec Ideal S18944x32 .bf16) (x9 : Vec Ideal S32x18944 .bf16) (i : Cert.SwigluRefIdeal.S12288x32.Idx) :
    val_main_v46 (F := Ideal) x0 x1 x2 x4 x6 x7 x8 x9 i = ((2 : ℝ) : EReal) * ∑ l : Fin 18944, duR x0 x1 x2 x4 x6 x7 x9 (i 0) l * x8 (ix2 l (i 1)) := by
  rw [val_main_v46_apply, val_main_v45_apply, val_main_v44_apply, val_main_cst_6_apply]
  refine congrArg₂ (fun a b : EReal => a * b) two32 ((val_main_v43_apply x0 x1 x2 x4 x6 x7 x8 x9 i).trans ?_)
  exact Finset.sum_congr rfl fun l _ => congrArg₂ (fun a b : EReal => a * b) (ref36 x0 x1 x2 x4 x6 x7 x9 _) (congrArg x8 (two_ix _))

/-- The factors' gradients, each of its 32 rows. -/
theorem ref52 (x0 : Vec Ideal S12288x3584 .bf16) (x1 : Vec Ideal S12288x3584 .bf16) (x2 : Vec Ideal S12288x128 .bf16) (x3 : Vec Ideal S128x12288 .bf16) (x4 : Vec Ideal S3584x18944 .bf16) (x5 : Vec Ideal S3584x18944 .bf16) (x6 : Vec Ideal S18944x3584 .bf16) (x7 : Vec Ideal S18944x32 .bf16) (x8 : Vec Ideal S18944x32 .bf16) (x9 : Vec Ideal S32x18944 .bf16) (i : S32x18944.Idx) :
    val_main_v52 (F := Ideal) x0 x1 x2 x3 x4 x5 x6 x7 x8 x9 i = ((2 : ℝ) : EReal) * ∑ l : Fin 12288, x3 (ix2 ⟨(i 0).val, Nat.lt_of_lt_of_le (i 0).isLt (by decide)⟩ l) * dgR x0 x1 x2 x4 x5 x6 x7 x8 x9 l (i 1) := by
  rw [val_main_v52_apply, val_main_v51_apply, val_main_cst_7_apply]
  refine congrArg₂ (fun a b : EReal => a * b) two32 ((val_main_v50_apply x0 x1 x2 x3 x4 x5 x6 x7 x8 x9 i).trans ?_)
  refine Finset.sum_congr rfl fun l _ => congrArg₂ (fun a b : EReal => a * b) ?_ (ref33 x0 x1 x2 x4 x5 x6 x7 x8 x9 _)
  rw [val_main_v49_apply]
  exact congrArg x3 (two_ix _)

theorem ref56 (x0 : Vec Ideal S12288x3584 .bf16) (x1 : Vec Ideal S12288x3584 .bf16) (x2 : Vec Ideal S12288x128 .bf16) (x3 : Vec Ideal S128x12288 .bf16) (x4 : Vec Ideal S3584x18944 .bf16) (x6 : Vec Ideal S18944x3584 .bf16) (x7 : Vec Ideal S18944x32 .bf16) (x9 : Vec Ideal S32x18944 .bf16) (i : S32x18944.Idx) :
    val_main_v56 (F := Ideal) x0 x1 x2 x3 x4 x6 x7 x9 i = ((2 : ℝ) : EReal) * ∑ l : Fin 12288, x3 (ix2 ⟨32 + (i 0).val, Nat.add_lt_add_left (i 0).isLt 32 |>.trans_le (by decide)⟩ l) * duR x0 x1 x2 x4 x6 x7 x9 l (i 1) := by
  rw [val_main_v56_apply, val_main_v55_apply, val_main_cst_8_apply]
  refine congrArg₂ (fun a b : EReal => a * b) two32 ((val_main_v54_apply x0 x1 x2 x3 x4 x6 x7 x9 i).trans ?_)
  refine Finset.sum_congr rfl fun l _ => congrArg₂ (fun a b : EReal => a * b) ?_ (ref36 x0 x1 x2 x4 x6 x7 x9 _)
  rw [val_main_v53_apply]
  exact congrArg x3 (two_ix _)

theorem ref58 (x0 : Vec Ideal S12288x3584 .bf16) (x2 : Vec Ideal S12288x128 .bf16) (x3 : Vec Ideal S128x12288 .bf16) (x4 : Vec Ideal S3584x18944 .bf16) (x5 : Vec Ideal S3584x18944 .bf16) (x7 : Vec Ideal S18944x32 .bf16) (x8 : Vec Ideal S18944x32 .bf16) (i : S32x18944.Idx) :
    val_main_v58 (F := Ideal) x0 x2 x3 x4 x5 x7 x8 i = ∑ l : Fin 12288, x3 (ix2 ⟨64 + (i 0).val, Nat.add_lt_add_left (i 0).isLt 64 |>.trans_le (by decide)⟩ l) * aR x0 x2 x4 x5 x7 x8 l (i 1) := by
  refine (val_main_v58_apply x0 x2 x3 x4 x5 x7 x8 i).trans ?_
  refine Finset.sum_congr rfl fun l _ => congrArg₂ (fun a b : EReal => a * b) ?_ (ref24 x0 x2 x4 x5 x7 x8 _)
  rw [val_main_v57_apply]
  exact congrArg x3 (two_ix _)

/-- The rank columns' gradient: 32 columns of each of the three, then zero columns. -/
theorem ref48 (x0 : Vec Ideal S12288x3584 .bf16) (x1 : Vec Ideal S12288x3584 .bf16) (x2 : Vec Ideal S12288x128 .bf16) (x4 : Vec Ideal S3584x18944 .bf16) (x5 : Vec Ideal S3584x18944 .bf16) (x6 : Vec Ideal S18944x3584 .bf16) (x7 : Vec Ideal S18944x32 .bf16) (x8 : Vec Ideal S18944x32 .bf16) (x9 : Vec Ideal S32x18944 .bf16) (r : Fin 12288) (k : Fin 128) :
    val_main_v48 (F := Ideal) x0 x1 x2 x4 x5 x6 x7 x8 x9 (ix2 r k)
      = if h : k.val < 32 then val_main_v38 (F := Ideal) x0 x2 x4 x5 x7 x8 x9 (ix2 r ⟨k.val, h⟩)
        else if h1 : 32 ≤ k.val ∧ k.val < 64 then val_main_v42 (F := Ideal) x0 x1 x2 x4 x5 x6 x7 x8 x9 (ix2 r ⟨k.val - 32, by omega⟩)
        else if h2 : 64 ≤ k.val ∧ k.val < 96 then val_main_v46 (F := Ideal) x0 x1 x2 x4 x6 x7 x8 x9 (ix2 r ⟨k.val - 64, by omega⟩)
        else 0 := by
  unfold val_main_v48 val_main_v47 val_main_call0_v0 val_main_c
  generalize val_main_v38 (F := Ideal) x0 x2 x4 x5 x7 x8 x9 = y0
  generalize val_main_v42 (F := Ideal) x0 x1 x2 x4 x5 x6 x7 x8 x9 = y1
  generalize val_main_v46 (F := Ideal) x0 x1 x2 x4 x6 x7 x8 x9 = y2
  pointwise
  by_cases h : k.val < 32
  · rw [dif_pos (show k.val < 96 by omega), dif_pos h, dif_pos h]
  · by_cases h1 : k.val < 64
    · rw [dif_pos (show k.val < 96 by omega), dif_neg h, dif_pos (show k.val - 32 < 32 by omega), dif_neg h, dif_pos (show 32 ≤ k.val ∧ k.val < 64 by omega)]
    · by_cases h2 : k.val < 96
      · rw [dif_pos h2, dif_neg h, dif_neg (show ¬k.val - 32 < 32 by omega), dif_neg h, dif_neg (show ¬(32 ≤ k.val ∧ k.val < 64) by omega), dif_pos (show 64 ≤ k.val ∧ k.val < 96 by omega)]
        exact congrArg (fun q => y2 (ix2 r q)) (Fin.ext (by show k.val - 32 - 32 = k.val - 64; omega))
      · rw [dif_neg h2, dif_neg h, dif_neg (show ¬(32 ≤ k.val ∧ k.val < 64) by omega), dif_neg (show ¬(64 ≤ k.val ∧ k.val < 96) by omega)]
        exact zero16

/-- The factors' gradients: 32 rows of each of the three. -/
theorem ref59 (x0 : Vec Ideal S12288x3584 .bf16) (x1 : Vec Ideal S12288x3584 .bf16) (x2 : Vec Ideal S12288x128 .bf16) (x3 : Vec Ideal S128x12288 .bf16) (x4 : Vec Ideal S3584x18944 .bf16) (x5 : Vec Ideal S3584x18944 .bf16) (x6 : Vec Ideal S18944x3584 .bf16) (x7 : Vec Ideal S18944x32 .bf16) (x8 : Vec Ideal S18944x32 .bf16) (x9 : Vec Ideal S32x18944 .bf16) (r : Fin 96) (j : Fin 18944) :
    val_main_v59 (F := Ideal) x0 x1 x2 x3 x4 x5 x6 x7 x8 x9 (ix2 r j)
      = if h : r.val < 32 then val_main_v52 (F := Ideal) x0 x1 x2 x3 x4 x5 x6 x7 x8 x9 (ix2 ⟨r.val, h⟩ j)
        else if h1 : r.val < 64 then val_main_v56 (F := Ideal) x0 x1 x2 x3 x4 x6 x7 x9 (ix2 ⟨r.val - 32, by omega⟩ j)
        else val_main_v58 (F := Ideal) x0 x2 x3 x4 x5 x7 x8 (ix2 ⟨r.val - 64, by omega⟩ j) := by
  unfold val_main_v59
  generalize val_main_v52 (F := Ideal) x0 x1 x2 x3 x4 x5 x6 x7 x8 x9 = y0
  generalize val_main_v56 (F := Ideal) x0 x1 x2 x3 x4 x6 x7 x9 = y1
  generalize val_main_v58 (F := Ideal) x0 x2 x3 x4 x5 x7 x8 = y2
  pointwise
  by_cases h : r.val < 32
  · rw [dif_pos h, dif_pos h]
  · by_cases h1 : r.val < 64
    · rw [dif_neg h, dif_pos (show r.val - 32 < 32 by omega), dif_neg h, dif_pos h1]
    · rw [dif_neg h, dif_neg (show ¬r.val - 32 < 32 by omega), dif_neg h, dif_neg h1]
      exact congrArg (fun q => y2 (ix2 q j)) (Fin.ext (by show r.val - 32 - 32 = r.val - 64; omega))

end Cert.SwigluIdeal.Hand

end
-- ==== Proof.SwigluAlg.lean ====
/-
  The SwiGLU call computes what its reference computes, over the reals: all five results, at every index.
-/
module

public import proofs.«01_k».proof.Proof.SwigluRef

@[expose] public section

set_option maxRecDepth 16384

noncomputable section

namespace Cert.SwigluIdeal.Hand

open Idealize.ShloMosaic Idealize.ShloMosaic.TcCoe Cert.SwigluIdeal Cert.SwigluIdeal.Gen Cert.SwigluRefIdeal.Read Cert.Sums
open scoped BigOperators

variable (m : (ℓ : Loc nD τ sig) → Buf (Elt Ideal) ℓ)

/-- The reference's rank columns' gradient is the call's. -/
theorem alg14 (c : Dev nD) (i : S12288x128.Idx) : val_main_v48 (F := Ideal) (inp0 m c) (inp1 m c) (inp2 m c) (inp4 m c) (inp5 m c) (inp6 m c) (inp7 m c) (inp8 m c) (inp9 m c) i = G14 m c i := by
  refine (congrArg (val_main_v48 (F := Ideal) (inp0 m c) (inp1 m c) (inp2 m c) (inp4 m c) (inp5 m c) (inp6 m c) (inp7 m c) (inp8 m c) (inp9 m c)) (two_ix i)).trans ((ref48 (inp0 m c) (inp1 m c) (inp2 m c) (inp4 m c) (inp5 m c) (inp6 m c) (inp7 m c) (inp8 m c) (inp9 m c) (i 0) (i 1)).trans ?_)
  unfold G14 zF
  by_cases h : (i 1).val < 32
  · rw [dif_pos h, dif_pos h]
    exact ref38 (inp0 m c) (inp2 m c) (inp4 m c) (inp5 m c) (inp7 m c) (inp8 m c) (inp9 m c) _
  · by_cases h1 : 32 ≤ (i 1).val ∧ (i 1).val < 64
    · rw [dif_neg h, dif_pos h1, dif_neg h, dif_pos h1]
      exact ref42 (inp0 m c) (inp1 m c) (inp2 m c) (inp4 m c) (inp5 m c) (inp6 m c) (inp7 m c) (inp8 m c) (inp9 m c) _
    · by_cases h2 : 64 ≤ (i 1).val ∧ (i 1).val < 96
      · rw [dif_neg h, dif_neg h1, dif_pos h2, dif_neg h, dif_neg h1, dif_pos h2]
        exact ref46 (inp0 m c) (inp1 m c) (inp2 m c) (inp4 m c) (inp6 m c) (inp7 m c) (inp8 m c) (inp9 m c) _
      · rw [dif_neg h, dif_neg h1, dif_neg h2, dif_neg h, dif_neg h1, dif_neg h2]

/-- The reference's factors' gradients are the call's. -/
theorem alg15 (c : Dev nD) (i : S96x18944.Idx) : val_main_v59 (F := Ideal) (inp0 m c) (inp1 m c) (inp2 m c) (inp3 m c) (inp4 m c) (inp5 m c) (inp6 m c) (inp7 m c) (inp8 m c) (inp9 m c) i = G15 m c i := by
  refine (congrArg (val_main_v59 (F := Ideal) (inp0 m c) (inp1 m c) (inp2 m c) (inp3 m c) (inp4 m c) (inp5 m c) (inp6 m c) (inp7 m c) (inp8 m c) (inp9 m c)) (two_ix i)).trans ((ref59 (inp0 m c) (inp1 m c) (inp2 m c) (inp3 m c) (inp4 m c) (inp5 m c) (inp6 m c) (inp7 m c) (inp8 m c) (inp9 m c) (i 0) (i 1)).trans ?_)
  unfold G15
  have hi : (i 0).val < 96 := (i 0).isLt
  by_cases h : (i 0).val < 32
  · rw [dif_pos h]
    refine (ref52 (inp0 m c) (inp1 m c) (inp2 m c) (inp3 m c) (inp4 m c) (inp5 m c) (inp6 m c) (inp7 m c) (inp8 m c) (inp9 m c) _).trans ?_
    rw [two_mul_sum]
    exact Finset.sum_congr rfl fun l _ => (if_pos h).symm
  · by_cases h1 : (i 0).val < 64
    · rw [dif_neg h, dif_pos h1]
      refine (ref56 (inp0 m c) (inp1 m c) (inp2 m c) (inp3 m c) (inp4 m c) (inp6 m c) (inp7 m c) (inp9 m c) _).trans ?_
      rw [two_mul_sum]
      refine Finset.sum_congr rfl fun l _ => Eq.trans ?_ ((if_neg h).trans (if_pos h1)).symm
      exact congrArg (fun q : Fin 128 => ((2 : ℝ) : EReal) * (inp3 m c (ix2 q l) * duF m c l (i 1))) (Fin.ext (by show 32 + ((i 0).val - 32) = (i 0).val; omega))
    · rw [dif_neg h, dif_neg h1]
      refine (ref58 (inp0 m c) (inp2 m c) (inp3 m c) (inp4 m c) (inp5 m c) (inp7 m c) (inp8 m c) _).trans ?_
      refine Finset.sum_congr rfl fun l _ => Eq.trans ?_ ((if_neg h).trans (if_neg h1)).symm
      exact congrArg (fun q : Fin 128 => inp3 m c (ix2 q l) * aF m c l (i 1)) (Fin.ext (by show 64 + ((i 0).val - 64) = (i 0).val; omega))

/-- From agreeing arguments, the call and its reference leave equal results. -/
theorem algebraic : Cert.algebraic_SwigluIdeal_SwigluRefIdeal (hSwigluIdeal := Cert.SwigluIdeal.Gen.facts) (hSwigluRefIdeal := Cert.SwigluRefIdeal.Gen.facts) := by
  intro m g m' g' _ hagree
  refine ⟨fun c => G11 m c, fun c => G12 m c, fun c => G13 m c, fun c => G14 m c, fun c => G15 m c,
    (θ_run Cert.SwigluIdeal.defs _ _).mono (fun r h c => ⟨out11 m c h.1, out12 m c h.1, out13 m c h.1, out14 m c h.1, out15 m c h.1, args_of m c h.1⟩) (run_main m g),
    (θ_run Cert.SwigluRefIdeal.defs _ _).mono (fun r h c => ?_) (Cert.SwigluRefIdeal.Value.run m' g')⟩
  obtain ⟨a0, a1, a2, a3, a4, a5, a6, a7, a8, a9⟩ := hagree c
  obtain ⟨h24, h33, h36, h48, h59, hrest⟩ := h c
  refine ⟨h24.trans ?_, h33.trans ?_, h36.trans ?_, h48.trans ?_, h59.trans ?_, hrest⟩
  · refine (val_main_v24_eq _ _ _ _ _ _).trans ?_
    rw [a0, a2, a4, a5, a7, a8]
    funext i
    exact ref24 (inp0 m c) (inp2 m c) (inp4 m c) (inp5 m c) (inp7 m c) (inp8 m c) i
  · refine (val_main_v33_eq _ _ _ _ _ _ _ _ _).trans ?_
    rw [a0, a1, a2, a4, a5, a6, a7, a8, a9]
    funext i
    exact ref33 (inp0 m c) (inp1 m c) (inp2 m c) (inp4 m c) (inp5 m c) (inp6 m c) (inp7 m c) (inp8 m c) (inp9 m c) i
  · refine (val_main_v36_eq _ _ _ _ _ _ _).trans ?_
    rw [a0, a1, a2, a4, a6, a7, a9]
    funext i
    exact ref36 (inp0 m c) (inp1 m c) (inp2 m c) (inp4 m c) (inp6 m c) (inp7 m c) (inp9 m c) i
  · refine (val_main_v48_eq m' c).trans ?_
    rw [a0, a1, a2, a4, a5, a6, a7, a8, a9]
    funext i
    exact alg14 m c i
  · refine (val_main_v59_eq m' c).trans ?_
    rw [a0, a1, a2, a3, a4, a5, a6, a7, a8, a9]
    funext i
    exact alg15 m c i

end Cert.SwigluIdeal.Hand

end
-- ==== Proof.lean ====
module

public import proofs.«01_k».proof.Defs
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.DownAlg
public import proofs.«01_k».proof.Proof.Gen.Dx
public import proofs.«01_k».proof.Proof.DxFrame
public import proofs.«01_k».proof.Proof.Gen.DxIdeal
public import proofs.«01_k».proof.Proof.Gen.DxIdeal.Skeleton
public import proofs.«01_k».proof.Proof.Gen.DxIdeal.Loops
public import proofs.«01_k».proof.Proof.Gen.DxIdeal.Launch
public import proofs.«01_k».proof.Proof.Gen.DxIdeal.Points
public import proofs.«01_k».proof.Proof.Gen.DxIdeal.Frame.RunB
public import proofs.«01_k».proof.Proof.DxIdealFrame
public import proofs.«01_k».proof.Proof.Gen.DxRefIdeal
public import proofs.«01_k».proof.Proof.DxIdealValue
public import proofs.«01_k».proof.Proof.Gen.DxRefIdeal.Run
public import proofs.«01_k».proof.Proof.Gen.DxRefIdeal.Read
public import proofs.«01_k».proof.Proof.DxAlg
public import proofs.«01_k».proof.Proof.Gen.Swiglu
public import proofs.«01_k».proof.Proof.SwigluFrame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.SwigluIdealFrame
public import proofs.«01_k».proof.Proof.Gen.SwigluRefIdeal
public import proofs.«01_k».proof.Proof.Gen.SwigluRefIdeal.Run
public import proofs.«01_k».proof.Proof.Gen.SwigluRefIdeal.Read
public import proofs.«01_k».proof.Proof.SwigluAlg
public import Idealize.ShloMosaic.Adequacy
public import Idealize.ShloMosaic.Init

@[expose] public section

noncomputable section

namespace Cert.Proof

open Idealize.ShloMosaic Idealize.SL.Sem Cert.Down

theorem claim : Cert.Claim := ⟨Cert.Down.Gen.facts, Cert.DownIdeal.Gen.facts, Cert.DownRefIdeal.Gen.facts,
  Cert.Dx.Gen.facts, Cert.DxIdeal.Gen.facts, Cert.DxRefIdeal.Gen.facts,
  Cert.Swiglu.Gen.facts, Cert.SwigluIdeal.Gen.facts, Cert.SwigluRefIdeal.Gen.facts,
  fun m ρ _ => Cert.Down.Gen.frame m ρ,
  fun m ρ _ => Cert.DownIdeal.Gen.frame m ρ,
  fun m ρ _ => (θ_run Cert.DownRefIdeal.defs _ _).mono (fun r h => ⟨fun c => (h c).2.2, sem_eq_zero_of_no_sems (by decide) r.2⟩) (Cert.DownRefIdeal.Value.run m ρ),
  Cert.Dx.Hand.frame,
  fun m ρ _ => Cert.DxIdeal.Gen.frame m ρ,
  fun m ρ _ => (θ_run Cert.DxRefIdeal.defs _ _).mono (fun r h => ⟨fun c => (h c).2.2.2, sem_eq_zero_of_no_sems (by decide) r.2⟩) (Cert.DxRefIdeal.Value.run m ρ),
  Cert.Swiglu.Hand.frame,
  fun m ρ _ => (θ_run Cert.SwigluIdeal.defs _ _).mono (fun r h => ⟨fun c => Cert.SwigluIdeal.Hand.args_of m c h.1, h.2⟩) (Cert.SwigluIdeal.Hand.run_main m ρ),
  fun m ρ _ => (θ_run Cert.SwigluRefIdeal.defs _ _).mono (fun r h => ⟨fun c => (h c).2.2.2.2.2, sem_eq_zero_of_no_sems (by decide) r.2⟩) (Cert.SwigluRefIdeal.Value.run m ρ),
  trivial,
  Cert.DownIdeal.Hand.algebraic,
  trivial,
  Cert.DxIdeal.Hand.algebraic,
  trivial,
  Cert.SwigluIdeal.Hand.algebraic⟩

end Cert.Proof

end
